-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v628) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tables_in_range : Cert.Pre_tables_in_range.Facts),
    quiescent_Kernel (hKernel := hKernel) (hPre_tables_in_range := hPre_tables_in_range)
    ∧ quiescent_KernelIdeal (hKernelIdeal := hKernelIdeal) (hPre_tables_in_range := hPre_tables_in_range)
    ∧ quiescent_ReferenceIdeal (hReferenceIdeal := hReferenceIdeal) (hPre_tables_in_range := hPre_tables_in_range)
    ∧ preserves_Kernel_KernelIdeal
    ∧ algebraic_KernelIdeal_ReferenceIdeal (hKernelIdeal := hKernelIdeal) (hReferenceIdeal := hReferenceIdeal) (hPre_tables_in_range := hPre_tables_in_range)
-- ==== Pre_tables_in_range.lean ====
abbrev S2x4x64x256x256 : Shape := ⟨5, ![2, 4, 64, 256, 256]⟩
abbrev S2048x1600 : Shape := ⟨2, ![2048, 1600]⟩
abbrev S2x4x256x2 : Shape := ⟨4, ![2, 4, 256, 2]⟩
abbrev S2x4x256x1 : Shape := ⟨4, ![2, 4, 256, 1]⟩
abbrev S2x4x7 : Shape := ⟨3, ![2, 4, 7]⟩
abbrev S20x3 : Shape := ⟨2, ![20, 3]⟩
abbrev S4x20x256 : Shape := ⟨3, ![4, 20, 256]⟩
abbrev S20x256x4 : Shape := ⟨3, ![20, 256, 4]⟩
abbrev S4 : Shape := ⟨1, ![4]⟩
abbrev S4x1x1 : Shape := ⟨3, ![4, 1, 1]⟩
abbrev S20x1 : Shape := ⟨2, ![20, 1]⟩
abbrev S20 : Shape := ⟨1, ![20]⟩
abbrev S_ : Shape := ⟨0, ![]⟩
abbrev S1x20x1 : Shape := ⟨3, ![1, 20, 1]⟩

class Facts : Prop where
  bcast_S4_S4x1x1_0 : S4.BroadcastsInDim S4x1x1 (![0] : Fin 1 → Fin S4x1x1.rank)
  slices_S20x3_S20x1_0_0 : S20x3.Slices ![0, 0] S20x1
  shapeCasts_S20x1_S20 : S20x1.ShapeCasts S20
  slices_S20x3_S20x1_0_1 : S20x3.Slices ![0, 1] S20x1
  slices_S20x3_S20x1_0_2 : S20x3.Slices ![0, 2] S20x1
  bcast_S_S4x20x256 : S_.BroadcastsInDim S4x20x256 (![] : Fin 0 → Fin S4x20x256.rank)
  bcast_S4x1x1_S4x20x256_0_1_2 : S4x1x1.BroadcastsInDim S4x20x256 (![0, 1, 2] : Fin 3 → Fin S4x20x256.rank)
  bcast_S20_S1x20x1_1 : S20.BroadcastsInDim S1x20x1 (![1] : Fin 1 → Fin S1x20x1.rank)
  bcast_S1x20x1_S4x20x256_0_1_2 : S1x20x1.BroadcastsInDim S4x20x256 (![0, 1, 2] : Fin 3 → Fin S4x20x256.rank)

variable [Facts]

noncomputable abbrev lit0 : Fin 60 → BitVec 32 := fun
  | 0 => 1#32 | 1 => 0#32 | 2 => 0#32 | 3 => 2#32 | 4 => 0#32 | 5 => 4#32 | 6 => 0#32 | 7 => 1#32
  | 8 => 1#32 | 9 => 2#32 | 10 => 1#32 | 11 => 2#32 | 12 => 3#32 | 13 => 1#32 | 14 => 8#32 | 15 => 1#32
  | 16 => 2#32 | 17 => 3#32 | 18 => 0#32 | 19 => 2#32 | 20 => 5#32 | 21 => 3#32 | 22 => 2#32 | 23 => 6#32
  | 24 => 2#32 | 25 => 3#32 | 26 => 7#32 | 27 => 1#32 | 28 => 3#32 | 29 => 9#32 | 30 => 5#32 | 31 => 4#32
  | 32 => 10#32 | 33 => 6#32 | 34 => 4#32 | 35 => 14#32 | 36 => 4#32 | 37 => 5#32 | 38 => 11#32 | 39 => 6#32
  | 40 => 5#32 | 41 => 12#32 | 42 => 7#32 | 43 => 5#32 | 44 => 18#32 | 45 => 5#32 | 46 => 6#32 | 47 => 13#32
  | 48 => 4#32 | 49 => 6#32 | 50 => 15#32 | 51 => 7#32 | 52 => 6#32 | 53 => 16#32 | 54 => 6#32 | 55 => 7#32
  | 56 => 17#32 | 57 => 5#32 | 58 => 7#32 | 59 => 19#32
  | _ => 0#32

noncomputable abbrev lit1 : Fin 4 → BitVec 32 := fun
  | 0 => 264#32 | 1 => 264#32 | 2 => 88#32 | 3 => 88#32
  | _ => 0#32

def fn {F : FTy → Type} [FloatOps F] (main_arg0 : FVec F S2x4x64x256x256 .f32) (main_arg1 : FVec F S2048x1600 .f32) (main_arg2 : FVec F S2x4x256x2 .f32) (main_arg3 : FVec F S2x4x256x1 .f32) (main_arg4 : FVec F S2x4x7 .f32) (main_arg5 : IVec S20x3 32) (main_arg6 : IVec S4x20x256 32) (main_arg7 : FVec F S20x256x4 .f32) : IVec S4x20x256 1 :=
  let main_c : IVec S20x3 32 := fun i => lit0 (S20x3.rowMajor i)
  let main_c_0 : IVec S4 32 := fun i => lit1 (S4.rowMajor i)
  let main_v0 : IVec S4x1x1 32 := broadcastInDim S4x1x1 ![0] bcast_S4_S4x1x1_0 main_c_0
  let main_v1 : IVec S20x3 1 := cmpi .eq main_arg5 main_c
  let main_v2 : IVec S20x1 1 := (extractStridedSlice S20x1 ![0, 0] · slices_S20x3_S20x1_0_0) main_v1
  let main_v3 : IVec S20 1 := shapeCast S20 main_v2 shapeCasts_S20x1_S20
  let main_v4 : IVec S20x1 1 := (extractStridedSlice S20x1 ![0, 1] · slices_S20x3_S20x1_0_1) main_v1
  let main_v5 : IVec S20 1 := shapeCast S20 main_v4 shapeCasts_S20x1_S20
  let main_v6 : IVec S20 1 := andi main_v3 main_v5
  let main_v7 : IVec S20x1 1 := (extractStridedSlice S20x1 ![0, 2] · slices_S20x3_S20x1_0_2) main_v1
  let main_v8 : IVec S20 1 := shapeCast S20 main_v7 shapeCasts_S20x1_S20
  let main_v9 : IVec S20 1 := andi main_v6 main_v8
  let main_c_1 : IVec S_ 32 := constantI S_ 32 0#32
  let main_v10 : IVec S4x20x256 32 := broadcastInDim S4x20x256 ![] bcast_S_S4x20x256 main_c_1
  let main_v11 : IVec S4x20x256 1 := cmpi .sge main_arg6 main_v10
  let main_v12 : IVec S4x20x256 32 := broadcastInDim S4x20x256 ![0, 1, 2] bcast_S4x1x1_S4x20x256_0_1_2 main_v0
  let main_v13 : IVec S4x20x256 1 := cmpi .sle main_arg6 main_v12
  let main_v14 : IVec S4x20x256 1 := andi main_v11 main_v13
  let main_v15 : IVec S1x20x1 1 := broadcastInDim S1x20x1 ![1] bcast_S20_S1x20x1_1 main_v9
  let main_v16 : IVec S4x20x256 1 := broadcastInDim S4x20x256 ![0, 1, 2] bcast_S1x20x1_S4x20x256_0_1_2 main_v15
  let main_v17 : IVec S4x20x256 1 := andi main_v14 main_v16
  main_v17
-- ==== Kernel.lean ====
abbrev S2x4x64x256x256 : Shape := ⟨5, ![2, 4, 64, 256, 256]⟩
abbrev S2048x1600 : Shape := ⟨2, ![2048, 1600]⟩
abbrev S2x4x256x2 : Shape := ⟨4, ![2, 4, 256, 2]⟩
abbrev S2x4x256x1 : Shape := ⟨4, ![2, 4, 256, 1]⟩
abbrev S2x4x7 : Shape := ⟨3, ![2, 4, 7]⟩
abbrev S20x3 : Shape := ⟨2, ![20, 3]⟩
abbrev S4x20x256 : Shape := ⟨3, ![4, 20, 256]⟩
abbrev S20x256x4 : Shape := ⟨3, ![20, 256, 4]⟩
abbrev S8x64x256x256 : Shape := ⟨4, ![8, 64, 256, 256]⟩
abbrev S8x256x256x64 : Shape := ⟨4, ![8, 256, 256, 64]⟩
abbrev S8x64x64x64 : Shape := ⟨4, ![8, 64, 64, 64]⟩
abbrev S1x64x256x64 : Shape := ⟨4, ![1, 64, 256, 64]⟩
abbrev S1x16x64x64 : Shape := ⟨4, ![1, 16, 64, 64]⟩
abbrev S64x256x64 : Shape := ⟨3, ![64, 256, 64]⟩
abbrev S16x4x64x4x64 : Shape := ⟨5, ![16, 4, 64, 4, 64]⟩
abbrev S16x64x64 : Shape := ⟨3, ![16, 64, 64]⟩
abbrev S_ : Shape := ⟨0, ![]⟩
abbrev S8x272x272x64 : Shape := ⟨4, ![8, 272, 272, 64]⟩
abbrev S8x96x96x64 : Shape := ⟨4, ![8, 96, 96, 64]⟩
abbrev S8x256x64x5x5 : Shape := ⟨5, ![8, 256, 64, 5, 5]⟩
abbrev S8x256x5x5x64 : Shape := ⟨5, ![8, 256, 5, 5, 64]⟩
abbrev S8x256x2 : Shape := ⟨3, ![8, 256, 2]⟩
abbrev S8x256x1 : Shape := ⟨3, ![8, 256, 1]⟩
abbrev S8x256x3 : Shape := ⟨3, ![8, 256, 3]⟩
abbrev S8x1x7 : Shape := ⟨3, ![8, 1, 7]⟩
abbrev S20x256x18 : Shape := ⟨3, ![20, 256, 18]⟩
abbrev S1x256x3 : Shape := ⟨3, ![1, 256, 3]⟩
abbrev S1x1 : Shape := ⟨2, ![1, 1]⟩
abbrev S1x1x7 : Shape := ⟨3, ![1, 1, 7]⟩
abbrev S1x256x4 : Shape := ⟨3, ![1, 256, 4]⟩
abbrev S1x256x5x5x64 : Shape := ⟨5, ![1, 256, 5, 5, 64]⟩
abbrev S1x256x18 : Shape := ⟨3, ![1, 256, 18]⟩
abbrev S256x8x8x64 : Shape := ⟨4, ![256, 8, 8, 64]⟩
abbrev S2x16 : Shape := ⟨2, ![2, 16]⟩
abbrev S256x3 : Shape := ⟨2, ![256, 3]⟩
abbrev S256x1 : Shape := ⟨2, ![256, 1]⟩
abbrev S1x7 : Shape := ⟨2, ![1, 7]⟩
abbrev S256x4 : Shape := ⟨2, ![256, 4]⟩
abbrev S1x1x1 : Shape := ⟨3, ![1, 1, 1]⟩
abbrev S1x8x8x64 : Shape := ⟨4, ![1, 8, 8, 64]⟩
abbrev S8x8x64 : Shape := ⟨3, ![8, 8, 64]⟩
abbrev S256x1x1x1 : Shape := ⟨4, ![256, 1, 1, 1]⟩
abbrev S256x7x7x64 : Shape := ⟨4, ![256, 7, 7, 64]⟩
abbrev S256x5x5x64 : Shape := ⟨4, ![256, 5, 5, 64]⟩
abbrev S256 : Shape := ⟨1, ![256]⟩
abbrev S256x18 : Shape := ⟨2, ![256, 18]⟩

abbrev nBuf : Space → Nat
  | .hbm => 22
  | .vmem => 18
  | .smem => 2
  | _ => 0

abbrev bufTy : (tb : Table) → Fin (tcTables nBuf tb) → BufTy
  | .hbm, ⟨0, _⟩ => ⟨S2x4x64x256x256, .f32⟩
  | .hbm, ⟨1, _⟩ => ⟨S2048x1600, .f32⟩
  | .hbm, ⟨2, _⟩ => ⟨S2x4x256x2, .f32⟩
  | .hbm, ⟨3, _⟩ => ⟨S2x4x256x1, .f32⟩
  | .hbm, ⟨4, _⟩ => ⟨S2x4x7, .f32⟩
  | .hbm, ⟨5, _⟩ => ⟨S20x256x4, .f32⟩
  | .hbm, ⟨6, _⟩ => ⟨S8x64x256x256, .f32⟩
  | .hbm, ⟨7, _⟩ => ⟨S8x256x256x64, .f32⟩
  | .hbm, ⟨8, _⟩ => ⟨S8x64x64x64, .f32⟩
  | .hbm, ⟨9, _⟩ => ⟨S_, .i32⟩
  | .hbm, ⟨10, _⟩ => ⟨S_, .f32⟩
  | .hbm, ⟨11, _⟩ => ⟨S8x272x272x64, .f32⟩
  | .hbm, ⟨12, _⟩ => ⟨S_, .i32⟩
  | .hbm, ⟨13, _⟩ => ⟨S_, .f32⟩
  | .hbm, ⟨14, _⟩ => ⟨S8x96x96x64, .f32⟩
  | .hbm, ⟨15, _⟩ => ⟨S8x256x64x5x5, .f32⟩
  | .hbm, ⟨16, _⟩ => ⟨S8x256x5x5x64, .f32⟩
  | .hbm, ⟨17, _⟩ => ⟨S8x256x2, .f32⟩
  | .hbm, ⟨18, _⟩ => ⟨S8x256x1, .f32⟩
  | .hbm, ⟨19, _⟩ => ⟨S8x256x3, .f32⟩
  | .hbm, ⟨20, _⟩ => ⟨S8x1x7, .f32⟩
  | .hbm, ⟨21, _⟩ => ⟨S20x256x18, .f32⟩
  | .local _ .vmem, ⟨0, _⟩ => ⟨S1x64x256x64, .f32⟩
  | .local _ .vmem, ⟨1, _⟩ => ⟨S1x64x256x64, .f32⟩
  | .local _ .vmem, ⟨2, _⟩ => ⟨S1x16x64x64, .f32⟩
  | .local _ .vmem, ⟨3, _⟩ => ⟨S1x16x64x64, .f32⟩
  | .local _ .vmem, ⟨4, _⟩ => ⟨S1x256x3, .f32⟩
  | .local _ .vmem, ⟨5, _⟩ => ⟨S1x256x3, .f32⟩
  | .local _ .vmem, ⟨6, _⟩ => ⟨S1x1x7, .f32⟩
  | .local _ .vmem, ⟨7, _⟩ => ⟨S1x1x7, .f32⟩
  | .local _ .vmem, ⟨8, _⟩ => ⟨S1x1x7, .f32⟩
  | .local _ .vmem, ⟨9, _⟩ => ⟨S1x1x7, .f32⟩
  | .local _ .vmem, ⟨10, _⟩ => ⟨S1x256x4, .f32⟩
  | .local _ .vmem, ⟨11, _⟩ => ⟨S1x256x4, .f32⟩
  | .local _ .vmem, ⟨12, _⟩ => ⟨S1x256x5x5x64, .f32⟩
  | .local _ .vmem, ⟨13, _⟩ => ⟨S1x256x5x5x64, .f32⟩
  | .local _ .vmem, ⟨14, _⟩ => ⟨S1x256x18, .f32⟩
  | .local _ .vmem, ⟨15, _⟩ => ⟨S1x256x18, .f32⟩
  | .local _ .vmem, ⟨16, _⟩ => ⟨S256x8x8x64, .f32⟩
  | .local _ .vmem, ⟨17, _⟩ => ⟨S256x8x8x64, .f32⟩
  | .local _ .smem, ⟨0, _⟩ => ⟨S20x3, .i32⟩
  | .local _ .smem, ⟨1, _⟩ => ⟨S4x20x256, .i32⟩
  | _, _ => ⟨S2x4x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg7 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_arg5 : Ref sig .tc := ⟨.smem, 0, rfl⟩
abbrev main_arg6 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![20], ![false]⟩

abbrev pre1 : Pipeline.Prefetch sig := ⟨2, ![main_arg5.idx, main_arg6.idx], fun | 0 => main_arg5.names | 1 => main_arg6.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 2 → Nat :=
  let arg0 : BitVec 32 := BitVec.ofNat 32 (i 0).val
  let v0 : Index := Scalar.indexCast arg0
  let c0 : Index := 0#32
  ![v0.toNat, 0]
def k1_off2 (i : grid1.Coords) : Fin 2 → Nat :=
  let arg0 : BitVec 32 := BitVec.ofNat 32 (i 0).val
  let v0 : Index := Scalar.indexCast arg0
  let c1 : Index := 1#32
  ![v0.toNat, 1]
def k1_off3 (i : grid1.Coords) : Fin 2 → Nat :=
  let arg0 : BitVec 32 := BitVec.ofNat 32 (i 0).val
  let v0 : Index := Scalar.indexCast arg0
  let c2 : Index := 2#32
  ![v0.toNat, 2]
@[reducible] def k1_t1_loop : Scf.Loop 32 :=
  let c0_i32 : BitVec 32 := 0#32
  let c256_i32 : BitVec 32 := 256#32
  let v252 : BitVec 32 := Scalar.addi c0_i32 c256_i32
  let c1_i32 : BitVec 32 := 1#32
  ⟨c0_i32, v252, c1_i32⟩
def k1_cond1 (k1_t1 : Fin k1_t1_loop.trips) : BitVec 1 :=
  let c0_i32 : BitVec 32 := 0#32
  let c1_i32 : BitVec 32 := 1#32
  let arg14 : BitVec 32 := Scf.iv c0_i32 c1_i32 k1_t1
  let c16_i32_93 : BitVec 32 := 16#32
  let v398 : BitVec 1 := Scalar.cmpi .sge arg14 c16_i32_93
  let v399 : BitVec 32 := Scalar.extui v398
  let c0_i32_94 : BitVec 32 := 0#32
  let v400 : BitVec 1 := Scalar.cmpi .ne v399 c0_i32_94
  v400

def k1_off4 (i : grid1.Coords) (k1_t1 : Fin k1_t1_loop.trips) : Fin 3 → Nat :=
  let c0_110 : Index := 0#32
  let arg0 : BitVec 32 := BitVec.ofNat 32 (i 0).val
  let v428 : Index := Scalar.indexCast arg0
  let c0_i32 : BitVec 32 := 0#32
  let c1_i32 : BitVec 32 := 1#32
  let arg14 : BitVec 32 := Scf.iv c0_i32 c1_i32 k1_t1
  let c16_i32_109 : BitVec 32 := 16#32
  let v427 : BitVec 32 := Scalar.subi arg14 c16_i32_109
  let v429 : Index := Scalar.indexCast v427
  ![0, v428.toNat, v429.toNat]
def k1_off5 (i : grid1.Coords) (k1_t1 : Fin k1_t1_loop.trips) : Fin 3 → Nat :=
  let c1_111 : Index := 1#32
  let arg0 : BitVec 32 := BitVec.ofNat 32 (i 0).val
  let v431 : Index := Scalar.indexCast arg0
  let c0_i32 : BitVec 32 := 0#32
  let c1_i32 : BitVec 32 := 1#32
  let arg14 : BitVec 32 := Scf.iv c0_i32 c1_i32 k1_t1
  let c16_i32_109 : BitVec 32 := 16#32
  let v427 : BitVec 32 := Scalar.subi arg14 c16_i32_109
  let v432 : Index := Scalar.indexCast v427
  ![1, v431.toNat, v432.toNat]
def k1_off6 (k1_t1 : Fin k1_t1_loop.trips) : Fin 2 → Nat :=
  let c0_i32_113 : BitVec 32 := 0#32
  let c0_i32 : BitVec 32 := 0#32
  let c1_i32 : BitVec 32 := 1#32
  let arg14 : BitVec 32 := Scf.iv c0_i32 c1_i32 k1_t1
  let c16_i32_109 : BitVec 32 := 16#32
  let v427 : BitVec 32 := Scalar.subi arg14 c16_i32_109
  let c16_i32_112 : BitVec 32 := 16#32
  let v434 : BitVec 32 := Scalar.remsi v427 c16_i32_112
  ![0, v434.toNat]
def k1_off7 (k1_t1 : Fin k1_t1_loop.trips) : Fin 4 → Nat :=
  let c0_i32 : BitVec 32 := 0#32
  let c1_i32 : BitVec 32 := 1#32
  let arg14 : BitVec 32 := Scf.iv c0_i32 c1_i32 k1_t1
  let c16_i32_109 : BitVec 32 := 16#32
  let v427 : BitVec 32 := Scalar.subi arg14 c16_i32_109
  let c0_i32_114 : BitVec 32 := 0#32
  let c0_i32_115 : BitVec 32 := 0#32
  let c0_i32_116 : BitVec 32 := 0#32
  ![v427.toNat, 0, 0, 0]
def k1_off8 (v251 : BitVec 32) (v430 : BitVec 32) (v433 : BitVec 32) : Fin 4 → Nat :=
  let c0_i32_117 : BitVec 32 := 0#32
  ![v251.toNat, v433.toNat, v430.toNat, 0]

def k1_chk1 (v251 : BitVec 32) (k1_t1 : Fin k1_t1_loop.trips) (v430 : BitVec 32) (v433 : BitVec 32) : Prop :=
  (∀ (k1_h1 : k1_cond1 k1_t1 = 1#1), ∀ a, (k1_off8 v251 v430 v433) a + S1x8x8x64.size a ≤ S8x272x272x64.size a)
theorem k1_off8_inb : ∀ (v251 : BitVec 32) (k1_t1 : Fin k1_t1_loop.trips) (v430 : BitVec 32) (v433 : BitVec 32) (k1_hw1 : k1_chk1 v251 k1_t1 v430 v433), ∀ (k1_h1 : k1_cond1 k1_t1 = 1#1), ∀ a, (k1_off8 v251 v430 v433) a + S1x8x8x64.size a ≤ S8x272x272x64.size a := fun v251 k1_t1 v430 v433 k1_hw1 k1_h1 => k1_hw1 k1_h1

def k1_off9 (i : grid1.Coords) (k1_t1 : Fin k1_t1_loop.trips) : Fin 3 → Nat :=
  let c2_119 : Index := 2#32
  let arg0 : BitVec 32 := BitVec.ofNat 32 (i 0).val
  let v442 : Index := Scalar.indexCast arg0
  let c0_i32 : BitVec 32 := 0#32
  let c1_i32 : BitVec 32 := 1#32
  let arg14 : BitVec 32 := Scf.iv c0_i32 c1_i32 k1_t1
  let c16_i32_118 : BitVec 32 := 16#32
  let v441 : BitVec 32 := Scalar.subi arg14 c16_i32_118
  let v443 : Index := Scalar.indexCast v441
  ![2, v442.toNat, v443.toNat]
def k1_off10 (i : grid1.Coords) (k1_t1 : Fin k1_t1_loop.trips) : Fin 3 → Nat :=
  let c3_120 : Index := 3#32
  let arg0 : BitVec 32 := BitVec.ofNat 32 (i 0).val
  let v445 : Index := Scalar.indexCast arg0
  let c0_i32 : BitVec 32 := 0#32
  let c1_i32 : BitVec 32 := 1#32
  let arg14 : BitVec 32 := Scf.iv c0_i32 c1_i32 k1_t1
  let c16_i32_118 : BitVec 32 := 16#32
  let v441 : BitVec 32 := Scalar.subi arg14 c16_i32_118
  let v446 : Index := Scalar.indexCast v441
  ![3, v445.toNat, v446.toNat]
def k1_off11 (k1_t1 : Fin k1_t1_loop.trips) : Fin 2 → Nat :=
  let c1_i32_122 : BitVec 32 := 1#32
  let c0_i32 : BitVec 32 := 0#32
  let c1_i32 : BitVec 32 := 1#32
  let arg14 : BitVec 32 := Scf.iv c0_i32 c1_i32 k1_t1
  let c16_i32_118 : BitVec 32 := 16#32
  let v441 : BitVec 32 := Scalar.subi arg14 c16_i32_118
  let c16_i32_121 : BitVec 32 := 16#32
  let v448 : BitVec 32 := Scalar.remsi v441 c16_i32_121
  ![1, v448.toNat]
def k1_off12 (k1_t1 : Fin k1_t1_loop.trips) : Fin 4 → Nat :=
  let c0_i32 : BitVec 32 := 0#32
  let c1_i32 : BitVec 32 := 1#32
  let arg14 : BitVec 32 := Scf.iv c0_i32 c1_i32 k1_t1
  let c16_i32_118 : BitVec 32 := 16#32
  let v441 : BitVec 32 := Scalar.subi arg14 c16_i32_118
  let c0_i32_123 : BitVec 32 := 0#32
  let c0_i32_124 : BitVec 32 := 0#32
  let c0_i32_125 : BitVec 32 := 0#32
  ![v441.toNat, 0, 0, 0]
def k1_off13 (v251 : BitVec 32) (v444 : BitVec 32) (v447 : BitVec 32) : Fin 4 → Nat :=
  let c0_i32_126 : BitVec 32 := 0#32
  ![v251.toNat, v447.toNat, v444.toNat, 0]

def k1_chk2 (v251 : BitVec 32) (k1_t1 : Fin k1_t1_loop.trips) (v444 : BitVec 32) (v447 : BitVec 32) : Prop :=
  (∀ (k1_h1 : k1_cond1 k1_t1 = 1#1), ∀ a, (k1_off13 v251 v444 v447) a + S1x8x8x64.size a ≤ S8x96x96x64.size a)
theorem k1_off13_inb : ∀ (v251 : BitVec 32) (k1_t1 : Fin k1_t1_loop.trips) (v444 : BitVec 32) (v447 : BitVec 32) (k1_hw2 : k1_chk2 v251 k1_t1 v444 v447), ∀ (k1_h1 : k1_cond1 k1_t1 = 1#1), ∀ a, (k1_off13 v251 v444 v447) a + S1x8x8x64.size a ≤ S8x96x96x64.size a := fun v251 k1_t1 v444 v447 k1_hw2 k1_h1 => k1_hw2 k1_h1

def k1_off14 (i : grid1.Coords) (k1_t1 : Fin k1_t1_loop.trips) : Fin 3 → Nat :=
  let c0_95 : Index := 0#32
  let arg0 : BitVec 32 := BitVec.ofNat 32 (i 0).val
  let v401 : Index := Scalar.indexCast arg0
  let c0_i32 : BitVec 32 := 0#32
  let c1_i32 : BitVec 32 := 1#32
  let arg14 : BitVec 32 := Scf.iv c0_i32 c1_i32 k1_t1
  let v402 : Index := Scalar.indexCast arg14
  ![0, v401.toNat, v402.toNat]
def k1_off15 (i : grid1.Coords) (k1_t1 : Fin k1_t1_loop.trips) : Fin 3 → Nat :=
  let c1_96 : Index := 1#32
  let arg0 : BitVec 32 := BitVec.ofNat 32 (i 0).val
  let v404 : Index := Scalar.indexCast arg0
  let c0_i32 : BitVec 32 := 0#32
  let c1_i32 : BitVec 32 := 1#32
  let arg14 : BitVec 32 := Scf.iv c0_i32 c1_i32 k1_t1
  let v405 : Index := Scalar.indexCast arg14
  ![1, v404.toNat, v405.toNat]
def k1_off16 (k1_t1 : Fin k1_t1_loop.trips) : Fin 2 → Nat :=
  let c0_i32_98 : BitVec 32 := 0#32
  let c0_i32 : BitVec 32 := 0#32
  let c1_i32 : BitVec 32 := 1#32
  let arg14 : BitVec 32 := Scf.iv c0_i32 c1_i32 k1_t1
  let c16_i32_97 : BitVec 32 := 16#32
  let v407 : BitVec 32 := Scalar.remsi arg14 c16_i32_97
  ![0, v407.toNat]
def k1_off17 (k1_t1 : Fin k1_t1_loop.trips) : Fin 4 → Nat :=
  let c0_i32 : BitVec 32 := 0#32
  let c1_i32 : BitVec 32 := 1#32
  let arg14 : BitVec 32 := Scf.iv c0_i32 c1_i32 k1_t1
  let c0_i32_99 : BitVec 32 := 0#32
  let c0_i32_100 : BitVec 32 := 0#32
  let c0_i32_101 : BitVec 32 := 0#32
  ![arg14.toNat, 0, 0, 0]
def k1_off18 (v251 : BitVec 32) (v403 : BitVec 32) (v406 : BitVec 32) : Fin 4 → Nat :=
  let c0_i32_102 : BitVec 32 := 0#32
  ![v251.toNat, v406.toNat, v403.toNat, 0]

def k1_chk3 (v251 : BitVec 32) (v403 : BitVec 32) (v406 : BitVec 32) : Prop :=
  (∀ a, (k1_off18 v251 v403 v406) a + S1x8x8x64.size a ≤ S8x272x272x64.size a)
theorem k1_off18_inb : ∀ (v251 : BitVec 32) (v403 : BitVec 32) (v406 : BitVec 32) (k1_hw3 : k1_chk3 v251 v403 v406), ∀ a, (k1_off18 v251 v403 v406) a + S1x8x8x64.size a ≤ S8x272x272x64.size a := fun v251 v403 v406 k1_hw3 => k1_hw3

def k1_off19 (i : grid1.Coords) (k1_t1 : Fin k1_t1_loop.trips) : Fin 3 → Nat :=
  let c2 : Index := 2#32
  let arg0 : BitVec 32 := BitVec.ofNat 32 (i 0).val
  let v414 : Index := Scalar.indexCast arg0
  let c0_i32 : BitVec 32 := 0#32
  let c1_i32 : BitVec 32 := 1#32
  let arg14 : BitVec 32 := Scf.iv c0_i32 c1_i32 k1_t1
  let v415 : Index := Scalar.indexCast arg14
  ![2, v414.toNat, v415.toNat]
def k1_off20 (i : grid1.Coords) (k1_t1 : Fin k1_t1_loop.trips) : Fin 3 → Nat :=
  let c3 : Index := 3#32
  let arg0 : BitVec 32 := BitVec.ofNat 32 (i 0).val
  let v417 : Index := Scalar.indexCast arg0
  let c0_i32 : BitVec 32 := 0#32
  let c1_i32 : BitVec 32 := 1#32
  let arg14 : BitVec 32 := Scf.iv c0_i32 c1_i32 k1_t1
  let v418 : Index := Scalar.indexCast arg14
  ![3, v417.toNat, v418.toNat]
def k1_off21 (k1_t1 : Fin k1_t1_loop.trips) : Fin 2 → Nat :=
  let c1_i32_104 : BitVec 32 := 1#32
  let c0_i32 : BitVec 32 := 0#32
  let c1_i32 : BitVec 32 := 1#32
  let arg14 : BitVec 32 := Scf.iv c0_i32 c1_i32 k1_t1
  let c16_i32_103 : BitVec 32 := 16#32
  let v420 : BitVec 32 := Scalar.remsi arg14 c16_i32_103
  ![1, v420.toNat]
def k1_off22 (k1_t1 : Fin k1_t1_loop.trips) : Fin 4 → Nat :=
  let c0_i32 : BitVec 32 := 0#32
  let c1_i32 : BitVec 32 := 1#32
  let arg14 : BitVec 32 := Scf.iv c0_i32 c1_i32 k1_t1
  let c0_i32_105 : BitVec 32 := 0#32
  let c0_i32_106 : BitVec 32 := 0#32
  let c0_i32_107 : BitVec 32 := 0#32
  ![arg14.toNat, 0, 0, 0]
def k1_off23 (v251 : BitVec 32) (v416 : BitVec 32) (v419 : BitVec 32) : Fin 4 → Nat :=
  let c0_i32_108 : BitVec 32 := 0#32
  ![v251.toNat, v419.toNat, v416.toNat, 0]

def k1_chk4 (v251 : BitVec 32) (v416 : BitVec 32) (v419 : BitVec 32) : Prop :=
  (∀ a, (k1_off23 v251 v416 v419) a + S1x8x8x64.size a ≤ S8x96x96x64.size a)
theorem k1_off23_inb : ∀ (v251 : BitVec 32) (v416 : BitVec 32) (v419 : BitVec 32) (k1_hw4 : k1_chk4 v251 v416 v419), ∀ a, (k1_off23 v251 v416 v419) a + S1x8x8x64.size a ≤ S8x96x96x64.size a := fun v251 v416 v419 k1_hw4 => k1_hw4

@[reducible] def k1_t2_loop : Scf.Loop 32 :=
  let c240_i32 : BitVec 32 := 240#32
  let c16_i32 : BitVec 32 := 16#32
  let v253 : BitVec 32 := Scalar.addi c240_i32 c16_i32
  let c1_i32_49 : BitVec 32 := 1#32
  ⟨c240_i32, v253, c1_i32_49⟩
def k1_off24 (i : grid1.Coords) (k1_t2 : Fin k1_t2_loop.trips) : Fin 3 → Nat :=
  let c0_93 : Index := 0#32
  let arg0 : BitVec 32 := BitVec.ofNat 32 (i 0).val
  let v398 : Index := Scalar.indexCast arg0
  let c240_i32 : BitVec 32 := 240#32
  let c1_i32_49 : BitVec 32 := 1#32
  let arg14 : BitVec 32 := Scf.iv c240_i32 c1_i32_49 k1_t2
  let v399 : Index := Scalar.indexCast arg14
  ![0, v398.toNat, v399.toNat]
def k1_off25 (i : grid1.Coords) (k1_t2 : Fin k1_t2_loop.trips) : Fin 3 → Nat :=
  let c1_94 : Index := 1#32
  let arg0 : BitVec 32 := BitVec.ofNat 32 (i 0).val
  let v401 : Index := Scalar.indexCast arg0
  let c240_i32 : BitVec 32 := 240#32
  let c1_i32_49 : BitVec 32 := 1#32
  let arg14 : BitVec 32 := Scf.iv c240_i32 c1_i32_49 k1_t2
  let v402 : Index := Scalar.indexCast arg14
  ![1, v401.toNat, v402.toNat]
def k1_off26 (k1_t2 : Fin k1_t2_loop.trips) : Fin 2 → Nat :=
  let c0_i32_96 : BitVec 32 := 0#32
  let c240_i32 : BitVec 32 := 240#32
  let c1_i32_49 : BitVec 32 := 1#32
  let arg14 : BitVec 32 := Scf.iv c240_i32 c1_i32_49 k1_t2
  let c16_i32_95 : BitVec 32 := 16#32
  let v404 : BitVec 32 := Scalar.remsi arg14 c16_i32_95
  ![0, v404.toNat]
def k1_off27 (k1_t2 : Fin k1_t2_loop.trips) : Fin 4 → Nat :=
  let c240_i32 : BitVec 32 := 240#32
  let c1_i32_49 : BitVec 32 := 1#32
  let arg14 : BitVec 32 := Scf.iv c240_i32 c1_i32_49 k1_t2
  let c0_i32_97 : BitVec 32 := 0#32
  let c0_i32_98 : BitVec 32 := 0#32
  let c0_i32_99 : BitVec 32 := 0#32
  ![arg14.toNat, 0, 0, 0]
def k1_off28 (v251 : BitVec 32) (v400 : BitVec 32) (v403 : BitVec 32) : Fin 4 → Nat :=
  let c0_i32_100 : BitVec 32 := 0#32
  ![v251.toNat, v403.toNat, v400.toNat, 0]

def k1_chk5 (v251 : BitVec 32) (v400 : BitVec 32) (v403 : BitVec 32) : Prop :=
  (∀ a, (k1_off28 v251 v400 v403) a + S1x8x8x64.size a ≤ S8x272x272x64.size a)
theorem k1_off28_inb : ∀ (v251 : BitVec 32) (v400 : BitVec 32) (v403 : BitVec 32) (k1_hw5 : k1_chk5 v251 v400 v403), ∀ a, (k1_off28 v251 v400 v403) a + S1x8x8x64.size a ≤ S8x272x272x64.size a := fun v251 v400 v403 k1_hw5 => k1_hw5

def k1_off29 (i : grid1.Coords) (k1_t2 : Fin k1_t2_loop.trips) : Fin 3 → Nat :=
  let c2 : Index := 2#32
  let arg0 : BitVec 32 := BitVec.ofNat 32 (i 0).val
  let v411 : Index := Scalar.indexCast arg0
  let c240_i32 : BitVec 32 := 240#32
  let c1_i32_49 : BitVec 32 := 1#32
  let arg14 : BitVec 32 := Scf.iv c240_i32 c1_i32_49 k1_t2
  let v412 : Index := Scalar.indexCast arg14
  ![2, v411.toNat, v412.toNat]
def k1_off30 (i : grid1.Coords) (k1_t2 : Fin k1_t2_loop.trips) : Fin 3 → Nat :=
  let c3 : Index := 3#32
  let arg0 : BitVec 32 := BitVec.ofNat 32 (i 0).val
  let v414 : Index := Scalar.indexCast arg0
  let c240_i32 : BitVec 32 := 240#32
  let c1_i32_49 : BitVec 32 := 1#32
  let arg14 : BitVec 32 := Scf.iv c240_i32 c1_i32_49 k1_t2
  let v415 : Index := Scalar.indexCast arg14
  ![3, v414.toNat, v415.toNat]
def k1_off31 (k1_t2 : Fin k1_t2_loop.trips) : Fin 2 → Nat :=
  let c1_i32_102 : BitVec 32 := 1#32
  let c240_i32 : BitVec 32 := 240#32
  let c1_i32_49 : BitVec 32 := 1#32
  let arg14 : BitVec 32 := Scf.iv c240_i32 c1_i32_49 k1_t2
  let c16_i32_101 : BitVec 32 := 16#32
  let v417 : BitVec 32 := Scalar.remsi arg14 c16_i32_101
  ![1, v417.toNat]
def k1_off32 (k1_t2 : Fin k1_t2_loop.trips) : Fin 4 → Nat :=
  let c240_i32 : BitVec 32 := 240#32
  let c1_i32_49 : BitVec 32 := 1#32
  let arg14 : BitVec 32 := Scf.iv c240_i32 c1_i32_49 k1_t2
  let c0_i32_103 : BitVec 32 := 0#32
  let c0_i32_104 : BitVec 32 := 0#32
  let c0_i32_105 : BitVec 32 := 0#32
  ![arg14.toNat, 0, 0, 0]
def k1_off33 (v251 : BitVec 32) (v413 : BitVec 32) (v416 : BitVec 32) : Fin 4 → Nat :=
  let c0_i32_106 : BitVec 32 := 0#32
  ![v251.toNat, v416.toNat, v413.toNat, 0]

def k1_chk6 (v251 : BitVec 32) (v413 : BitVec 32) (v416 : BitVec 32) : Prop :=
  (∀ a, (k1_off33 v251 v413 v416) a + S1x8x8x64.size a ≤ S8x96x96x64.size a)
theorem k1_off33_inb : ∀ (v251 : BitVec 32) (v413 : BitVec 32) (v416 : BitVec 32) (k1_hw6 : k1_chk6 v251 v413 v416), ∀ a, (k1_off33 v251 v413 v416) a + S1x8x8x64.size a ≤ S8x96x96x64.size a := fun v251 v413 v416 k1_hw6 => k1_hw6

def cc1_transform_0 (k1_off1_inb : ∀ i : grid1.Coords, ∀ a, (k1_off1 i) a + S1x1.size a ≤ S20x3.size a) (numel1_S1x1 : S1x1.numel = 1) (pf : pre1.Contents (Elt F)) (i : grid1.Coords) : Fin 3 → Nat :=
  let arg0 : BitVec 32 := BitVec.ofNat 32 (i 0).val
  let v0 : Index := Scalar.indexCast arg0
  let c0 : Index := 0#32
  let v1 : BitVec 32 := pf.at 0 (Rect.unit (s := S20x3) ![v0.toNat, 0] S1x1.size (k1_off1_inb i)) numel1_S1x1
  let c0_i32 : BitVec 32 := 0#32
  let c0_i32_0 : BitVec 32 := 0#32
  let c0_i32_1 : BitVec 32 := 0#32
  ![v1.toNat, c0_i32.toNat, c0_i32_0.toNat]

def cc1_transform_1 (k1_off1_inb : ∀ i : grid1.Coords, ∀ a, (k1_off1 i) a + S1x1.size a ≤ S20x3.size a) (numel1_S1x1 : S1x1.numel = 1) (pf : pre1.Contents (Elt F)) (i : grid1.Coords) : Fin 3 → Nat :=
  let arg0 : BitVec 32 := BitVec.ofNat 32 (i 0).val
  let v0 : Index := Scalar.indexCast arg0
  let c0 : Index := 0#32
  let v1 : BitVec 32 := pf.at 0 (Rect.unit (s := S20x3) ![v0.toNat, 0] S1x1.size (k1_off1_inb i)) numel1_S1x1
  let c0_i32 : BitVec 32 := 0#32
  let c0_i32_0 : BitVec 32 := 0#32
  let c0_i32_1 : BitVec 32 := 0#32
  ![v1.toNat, c0_i32.toNat, c0_i32_0.toNat]

def cc1_transform_2 (k1_off2_inb : ∀ i : grid1.Coords, ∀ a, (k1_off2 i) a + S1x1.size a ≤ S20x3.size a) (numel1_S1x1 : S1x1.numel = 1) (pf : pre1.Contents (Elt F)) (i : grid1.Coords) : Fin 3 → Nat :=
  let arg0 : BitVec 32 := BitVec.ofNat 32 (i 0).val
  let v0 : Index := Scalar.indexCast arg0
  let c1 : Index := 1#32
  let v1 : BitVec 32 := pf.at 0 (Rect.unit (s := S20x3) ![v0.toNat, 1] S1x1.size (k1_off2_inb i)) numel1_S1x1
  let c0_i32 : BitVec 32 := 0#32
  let c0_i32_0 : BitVec 32 := 0#32
  let c0_i32_1 : BitVec 32 := 0#32
  ![v1.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (k1_off1_inb : ∀ i : grid1.Coords, ∀ a, (k1_off1 i) a + S1x1.size a ≤ S20x3.size a) (numel1_S1x1 : S1x1.numel = 1) (pf : pre1.Contents (Elt F)) (i : grid1.Coords) : Fin 5 → Nat :=
  let arg0 : BitVec 32 := BitVec.ofNat 32 (i 0).val
  let v0 : Index := Scalar.indexCast arg0
  let c0 : Index := 0#32
  let v1 : BitVec 32 := pf.at 0 (Rect.unit (s := S20x3) ![v0.toNat, 0] S1x1.size (k1_off1_inb i)) numel1_S1x1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

def cc1_transform_7 (k1_off3_inb : ∀ i : grid1.Coords, ∀ a, (k1_off3 i) a + S1x1.size a ≤ S20x3.size a) (numel1_S1x1 : S1x1.numel = 1) (pf : pre1.Contents (Elt F)) (i : grid1.Coords) : Fin 3 → Nat :=
  let arg0 : BitVec 32 := BitVec.ofNat 32 (i 0).val
  let v0 : Index := Scalar.indexCast arg0
  let c2 : Index := 2#32
  let v1 : BitVec 32 := pf.at 0 (Rect.unit (s := S20x3) ![v0.toNat, 2] S1x1.size (k1_off3_inb i)) numel1_S1x1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S1x256x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x7 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x4 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256x5x5x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256x18 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S2x4x64x256x256 : Shape := ⟨5, ![2, 4, 64, 256, 256]⟩
abbrev S2048x1600 : Shape := ⟨2, ![2048, 1600]⟩
abbrev S2x4x256x2 : Shape := ⟨4, ![2, 4, 256, 2]⟩
abbrev S2x4x256x1 : Shape := ⟨4, ![2, 4, 256, 1]⟩
abbrev S2x4x7 : Shape := ⟨3, ![2, 4, 7]⟩
abbrev S20x3 : Shape := ⟨2, ![20, 3]⟩
abbrev S4x20x256 : Shape := ⟨3, ![4, 20, 256]⟩
abbrev S20x256x4 : Shape := ⟨3, ![20, 256, 4]⟩
abbrev S8x64x256x256 : Shape := ⟨4, ![8, 64, 256, 256]⟩
abbrev S8x64x64x4x64x4 : Shape := ⟨6, ![8, 64, 64, 4, 64, 4]⟩
abbrev S_ : Shape := ⟨0, ![]⟩
abbrev S8x64x64x64 : Shape := ⟨4, ![8, 64, 64, 64]⟩
abbrev S8x256x2 : Shape := ⟨3, ![8, 256, 2]⟩
abbrev S8x256x1 : Shape := ⟨3, ![8, 256, 1]⟩
abbrev S8x256x3 : Shape := ⟨3, ![8, 256, 3]⟩
abbrev S8x256x64x5x5 : Shape := ⟨5, ![8, 256, 64, 5, 5]⟩
abbrev S8x256x5x5x64 : Shape := ⟨5, ![8, 256, 5, 5, 64]⟩
abbrev S8x1x7 : Shape := ⟨3, ![8, 1, 7]⟩
abbrev S20 : Shape := ⟨1, ![20]⟩
abbrev S20x1 : Shape := ⟨2, ![20, 1]⟩
abbrev S1x20x256 : Shape := ⟨3, ![1, 20, 256]⟩
abbrev S20x256 : Shape := ⟨2, ![20, 256]⟩
abbrev S20x256x3 : Shape := ⟨3, ![20, 256, 3]⟩
abbrev S20x256x1 : Shape := ⟨3, ![20, 256, 1]⟩
abbrev S20x1x7 : Shape := ⟨3, ![20, 1, 7]⟩
abbrev S20x1x4 : Shape := ⟨3, ![20, 1, 4]⟩
abbrev S20x1x1 : Shape := ⟨3, ![20, 1, 1]⟩
abbrev S8 : Shape := ⟨1, ![8]⟩
abbrev S20x256x1x1 : Shape := ⟨4, ![20, 256, 1, 1]⟩
abbrev S1x1x1x8 : Shape := ⟨4, ![1, 1, 1, 8]⟩
abbrev S20x256x1x8 : Shape := ⟨4, ![20, 256, 1, 8]⟩
abbrev S8x1 : Shape := ⟨2, ![8, 1]⟩
abbrev S1x1x8x1 : Shape := ⟨4, ![1, 1, 8, 1]⟩
abbrev S20x256x8x1 : Shape := ⟨4, ![20, 256, 8, 1]⟩
abbrev S20x256x8x8 : Shape := ⟨4, ![20, 256, 8, 8]⟩
abbrev S20x1x1x1 : Shape := ⟨4, ![20, 1, 1, 1]⟩
abbrev S20x256x8x8x1 : Shape := ⟨5, ![20, 256, 8, 8, 1]⟩
abbrev S20x256x8x8x3 : Shape := ⟨5, ![20, 256, 8, 8, 3]⟩
abbrev S20x256x8x8x64 : Shape := ⟨5, ![20, 256, 8, 8, 64]⟩
abbrev S20x256x1x1x1 : Shape := ⟨5, ![20, 256, 1, 1, 1]⟩
abbrev S20x256x7x7x64 : Shape := ⟨5, ![20, 256, 7, 7, 64]⟩
abbrev S20x256x5x5x64 : Shape := ⟨5, ![20, 256, 5, 5, 64]⟩
abbrev S20x256x16 : Shape := ⟨3, ![20, 256, 16]⟩
abbrev S20x256x2 : Shape := ⟨3, ![20, 256, 2]⟩
abbrev S20x256x18 : Shape := ⟨3, ![20, 256, 18]⟩

abbrev nBuf : Space → Nat
  | .hbm => 757
  | .vmem => 0
  | .smem => 0
  | _ => 0

abbrev hbmTy0_0 (i : Nat) : BufTy := match i % 128 with
  | 0 => ⟨S2x4x64x256x256, .f32⟩
  | 1 => ⟨S2048x1600, .f32⟩
  | 2 => ⟨S2x4x256x2, .f32⟩
  | 3 => ⟨S2x4x256x1, .f32⟩
  | 4 => ⟨S2x4x7, .f32⟩
  | 5 => ⟨S20x3, .i32⟩
  | 6 => ⟨S4x20x256, .i32⟩
  | 7 => ⟨S20x256x4, .f32⟩
  | 8 => ⟨S8x64x256x256, .f32⟩
  | 9 => ⟨S8x64x64x4x64x4, .f32⟩
  | 10 => ⟨S_, .f32⟩
  | 11 => ⟨S8x64x64x64, .f32⟩
  | 12 => ⟨S_, .f32⟩
  | 13 => ⟨S8x64x64x64, .f32⟩
  | 14 => ⟨S8x64x64x64, .f32⟩
  | 15 => ⟨S8x256x2, .f32⟩
  | 16 => ⟨S8x256x1, .f32⟩
  | 17 => ⟨S8x256x3, .f32⟩
  | 18 => ⟨S8x256x64x5x5, .f32⟩
  | 19 => ⟨S8x256x5x5x64, .f32⟩
  | 20 => ⟨S8x1x7, .f32⟩
  | 21 => ⟨S_, .i32⟩
  | 22 => ⟨S20, .i32⟩
  | 23 => ⟨S20x1, .i32⟩
  | 24 => ⟨S20, .i32⟩
  | 25 => ⟨S20, .i32⟩
  | 26 => ⟨S_, .i32⟩
  | 27 => ⟨S20, .i32⟩
  | 28 => ⟨S20, .i1⟩
  | 29 => ⟨S_, .i32⟩
  | 30 => ⟨S20, .i32⟩
  | 31 => ⟨S20, .i32⟩
  | 32 => ⟨S20, .i32⟩
  | 33 => ⟨S20x1, .i32⟩
  | 34 => ⟨S20, .i32⟩
  | 35 => ⟨S20x1, .i32⟩
  | 36 => ⟨S20, .i32⟩
  | 37 => ⟨S_, .i32⟩
  | 38 => ⟨S20, .i32⟩
  | 39 => ⟨S20, .i1⟩
  | 40 => ⟨S_, .i32⟩
  | 41 => ⟨S20, .i32⟩
  | 42 => ⟨S20, .i32⟩
  | 43 => ⟨S20, .i32⟩
  | 44 => ⟨S20x1, .i32⟩
  | 45 => ⟨S20, .i32⟩
  | 46 => ⟨S20x1, .i32⟩
  | 47 => ⟨S20, .i32⟩
  | 48 => ⟨S_, .i32⟩
  | 49 => ⟨S20, .i32⟩
  | 50 => ⟨S20, .i1⟩
  | 51 => ⟨S_, .i32⟩
  | 52 => ⟨S20, .i32⟩
  | 53 => ⟨S20, .i32⟩
  | 54 => ⟨S20, .i32⟩
  | 55 => ⟨S20x1, .i32⟩
  | 56 => ⟨S20, .i32⟩
  | 57 => ⟨S1x20x256, .i32⟩
  | 58 => ⟨S20x256, .i32⟩
  | 59 => ⟨S_, .i32⟩
  | 60 => ⟨S20, .i32⟩
  | 61 => ⟨S20, .i1⟩
  | 62 => ⟨S_, .i32⟩
  | 63 => ⟨S20, .i32⟩
  | 64 => ⟨S20, .i32⟩
  | 65 => ⟨S20, .i32⟩
  | 66 => ⟨S20x1, .i32⟩
  | 67 => ⟨S20x256, .i32⟩
  | 68 => ⟨S1x20x256, .i32⟩
  | 69 => ⟨S20x256, .i32⟩
  | 70 => ⟨S_, .i32⟩
  | 71 => ⟨S20, .i32⟩
  | 72 => ⟨S20, .i1⟩
  | 73 => ⟨S_, .i32⟩
  | 74 => ⟨S20, .i32⟩
  | 75 => ⟨S20, .i32⟩
  | 76 => ⟨S20, .i32⟩
  | 77 => ⟨S20x1, .i32⟩
  | 78 => ⟨S20x256, .i32⟩
  | 79 => ⟨S1x20x256, .i32⟩
  | 80 => ⟨S20x256, .i32⟩
  | 81 => ⟨S_, .i32⟩
  | 82 => ⟨S20, .i32⟩
  | 83 => ⟨S20, .i1⟩
  | 84 => ⟨S_, .i32⟩
  | 85 => ⟨S20, .i32⟩
  | 86 => ⟨S20, .i32⟩
  | 87 => ⟨S20, .i32⟩
  | 88 => ⟨S20x1, .i32⟩
  | 89 => ⟨S20x256, .i32⟩
  | 90 => ⟨S1x20x256, .i32⟩
  | 91 => ⟨S20x256, .i32⟩
  | 92 => ⟨S_, .i32⟩
  | 93 => ⟨S20, .i32⟩
  | 94 => ⟨S20, .i1⟩
  | 95 => ⟨S_, .i32⟩
  | 96 => ⟨S20, .i32⟩
  | 97 => ⟨S20, .i32⟩
  | 98 => ⟨S20, .i32⟩
  | 99 => ⟨S20x1, .i32⟩
  | 100 => ⟨S20x256, .i32⟩
  | 101 => ⟨S_, .i32⟩
  | 102 => ⟨S20, .i32⟩
  | 103 => ⟨S20, .i1⟩
  | 104 => ⟨S_, .i32⟩
  | 105 => ⟨S20, .i32⟩
  | 106 => ⟨S20, .i32⟩
  | 107 => ⟨S20, .i32⟩
  | 108 => ⟨S20x1, .i32⟩
  | 109 => ⟨S20x256x4, .f32⟩
  | 110 => ⟨S_, .i32⟩
  | 111 => ⟨S20, .i32⟩
  | 112 => ⟨S20, .i1⟩
  | 113 => ⟨S_, .i32⟩
  | 114 => ⟨S20, .i32⟩
  | 115 => ⟨S20, .i32⟩
  | 116 => ⟨S20, .i32⟩
  | 117 => ⟨S20x1, .i32⟩
  | 118 => ⟨S20x256x3, .f32⟩
  | 119 => ⟨S20x256x1, .f32⟩
  | 120 => ⟨S20x256, .f32⟩
  | 121 => ⟨S_, .f32⟩
  | 122 => ⟨S20x256, .f32⟩
  | 123 => ⟨S20x256, .f32⟩
  | 124 => ⟨S_, .f32⟩
  | 125 => ⟨S20x256, .f32⟩
  | 126 => ⟨S20x256, .f32⟩
  | 127 => ⟨S_, .f32⟩
  | _ => ⟨S2x4x64x256x256, .f32⟩

abbrev hbmTy0_1 (i : Nat) : BufTy := match i % 128 with
  | 0 => ⟨S20x256, .f32⟩
  | 1 => ⟨S20x256, .f32⟩
  | 2 => ⟨S20x256x1, .f32⟩
  | 3 => ⟨S20x256, .f32⟩
  | 4 => ⟨S_, .f32⟩
  | 5 => ⟨S20x256, .f32⟩
  | 6 => ⟨S20x256, .f32⟩
  | 7 => ⟨S_, .f32⟩
  | 8 => ⟨S20x256, .f32⟩
  | 9 => ⟨S20x256, .f32⟩
  | 10 => ⟨S_, .f32⟩
  | 11 => ⟨S20x256, .f32⟩
  | 12 => ⟨S20x256, .f32⟩
  | 13 => ⟨S_, .f32⟩
  | 14 => ⟨S20x256, .f32⟩
  | 15 => ⟨S20x256, .f32⟩
  | 16 => ⟨S20x256x1, .f32⟩
  | 17 => ⟨S20x256, .f32⟩
  | 18 => ⟨S20x256, .f32⟩
  | 19 => ⟨S20x256, .f32⟩
  | 20 => ⟨S20x256, .f32⟩
  | 21 => ⟨S20x256, .f32⟩
  | 22 => ⟨S20x256, .f32⟩
  | 23 => ⟨S20x256, .f32⟩
  | 24 => ⟨S20x256, .f32⟩
  | 25 => ⟨S20x256, .f32⟩
  | 26 => ⟨S20x256, .f32⟩
  | 27 => ⟨S20x256, .f32⟩
  | 28 => ⟨S_, .i32⟩
  | 29 => ⟨S20, .i32⟩
  | 30 => ⟨S20, .i1⟩
  | 31 => ⟨S_, .i32⟩
  | 32 => ⟨S20, .i32⟩
  | 33 => ⟨S20, .i32⟩
  | 34 => ⟨S20, .i32⟩
  | 35 => ⟨S20x1, .i32⟩
  | 36 => ⟨S20x1x7, .f32⟩
  | 37 => ⟨S_, .i32⟩
  | 38 => ⟨S20, .i32⟩
  | 39 => ⟨S20, .i1⟩
  | 40 => ⟨S_, .i32⟩
  | 41 => ⟨S20, .i32⟩
  | 42 => ⟨S20, .i32⟩
  | 43 => ⟨S20, .i32⟩
  | 44 => ⟨S20x1, .i32⟩
  | 45 => ⟨S20x1x7, .f32⟩
  | 46 => ⟨S20x1x4, .f32⟩
  | 47 => ⟨S20x1x4, .f32⟩
  | 48 => ⟨S_, .f32⟩
  | 49 => ⟨S20x1, .f32⟩
  | 50 => ⟨S20x1x1, .f32⟩
  | 51 => ⟨S20x1x1, .f32⟩
  | 52 => ⟨S20x1x4, .f32⟩
  | 53 => ⟨S20x1x4, .f32⟩
  | 54 => ⟨S20x1x4, .f32⟩
  | 55 => ⟨S20x1x4, .f32⟩
  | 56 => ⟨S_, .f32⟩
  | 57 => ⟨S20x1, .f32⟩
  | 58 => ⟨S20x1x1, .f32⟩
  | 59 => ⟨S20x1x1, .f32⟩
  | 60 => ⟨S20x1x4, .f32⟩
  | 61 => ⟨S20x1x4, .f32⟩
  | 62 => ⟨S20x1x1, .f32⟩
  | 63 => ⟨S20x1, .f32⟩
  | 64 => ⟨S20x1x1, .f32⟩
  | 65 => ⟨S20x1, .f32⟩
  | 66 => ⟨S20x1x1, .f32⟩
  | 67 => ⟨S20x1, .f32⟩
  | 68 => ⟨S20x1x1, .f32⟩
  | 69 => ⟨S20x1, .f32⟩
  | 70 => ⟨S20x256, .f32⟩
  | 71 => ⟨S20x256, .f32⟩
  | 72 => ⟨S20x256, .f32⟩
  | 73 => ⟨S20x256, .f32⟩
  | 74 => ⟨S20x256, .f32⟩
  | 75 => ⟨S20x256, .f32⟩
  | 76 => ⟨S20x256, .f32⟩
  | 77 => ⟨S20x256, .f32⟩
  | 78 => ⟨S20x256, .f32⟩
  | 79 => ⟨S20x256, .f32⟩
  | 80 => ⟨S20x256, .f32⟩
  | 81 => ⟨S20x256, .f32⟩
  | 82 => ⟨S20x256, .f32⟩
  | 83 => ⟨S20x256, .f32⟩
  | 84 => ⟨S20x256, .f32⟩
  | 85 => ⟨S_, .f32⟩
  | 86 => ⟨S20x256, .f32⟩
  | 87 => ⟨S20x256, .f32⟩
  | 88 => ⟨S_, .f32⟩
  | 89 => ⟨S20x256, .f32⟩
  | 90 => ⟨S20x256, .f32⟩
  | 91 => ⟨S_, .f32⟩
  | 92 => ⟨S20x256, .f32⟩
  | 93 => ⟨S20x256, .f32⟩
  | 94 => ⟨S20x256, .f32⟩
  | 95 => ⟨S20x256, .f32⟩
  | 96 => ⟨S20x256, .f32⟩
  | 97 => ⟨S20x256, .f32⟩
  | 98 => ⟨S20x256, .f32⟩
  | 99 => ⟨S20x256, .f32⟩
  | 100 => ⟨S20x256, .f32⟩
  | 101 => ⟨S20x256, .f32⟩
  | 102 => ⟨S20x256, .f32⟩
  | 103 => ⟨S20x256, .f32⟩
  | 104 => ⟨S20x256, .f32⟩
  | 105 => ⟨S20x256, .f32⟩
  | 106 => ⟨S20x256, .f32⟩
  | 107 => ⟨S20x256, .f32⟩
  | 108 => ⟨S20x256, .f32⟩
  | 109 => ⟨S20x256, .f32⟩
  | 110 => ⟨S20x256, .f32⟩
  | 111 => ⟨S20x256, .f32⟩
  | 112 => ⟨S20x256, .f32⟩
  | 113 => ⟨S20x256, .f32⟩
  | 114 => ⟨S20x256, .f32⟩
  | 115 => ⟨S20x256, .f32⟩
  | 116 => ⟨S20x256, .f32⟩
  | 117 => ⟨S20x256, .f32⟩
  | 118 => ⟨S20x256, .f32⟩
  | 119 => ⟨S20x256, .f32⟩
  | 120 => ⟨S20x256, .f32⟩
  | 121 => ⟨S20x1x1, .f32⟩
  | 122 => ⟨S20x1, .f32⟩
  | 123 => ⟨S20x256, .f32⟩
  | 124 => ⟨S20x256, .f32⟩
  | 125 => ⟨S20x1x1, .f32⟩
  | 126 => ⟨S20x1, .f32⟩
  | 127 => ⟨S20x256, .f32⟩
  | _ => ⟨S2x4x64x256x256, .f32⟩

abbrev hbmTy0_2 (i : Nat) : BufTy := match i % 128 with
  | 0 => ⟨S20x256, .f32⟩
  | 1 => ⟨S20x1x1, .f32⟩
  | 2 => ⟨S20x1, .f32⟩
  | 3 => ⟨S20x256, .f32⟩
  | 4 => ⟨S20x256, .f32⟩
  | 5 => ⟨S20x1x1, .f32⟩
  | 6 => ⟨S20x1, .f32⟩
  | 7 => ⟨S20x256, .f32⟩
  | 8 => ⟨S20x256, .f32⟩
  | 9 => ⟨S20x1x1, .f32⟩
  | 10 => ⟨S20x1, .f32⟩
  | 11 => ⟨S20x256, .f32⟩
  | 12 => ⟨S20x256, .f32⟩
  | 13 => ⟨S20x1x1, .f32⟩
  | 14 => ⟨S20x1, .f32⟩
  | 15 => ⟨S20x256, .f32⟩
  | 16 => ⟨S20x256, .f32⟩
  | 17 => ⟨S20x1x1, .f32⟩
  | 18 => ⟨S20x1, .f32⟩
  | 19 => ⟨S20x1, .f32⟩
  | 20 => ⟨S20x1x1, .f32⟩
  | 21 => ⟨S20x1, .f32⟩
  | 22 => ⟨S20x1, .f32⟩
  | 23 => ⟨S20x1x1, .f32⟩
  | 24 => ⟨S20x1, .f32⟩
  | 25 => ⟨S20x1, .f32⟩
  | 26 => ⟨S20x1x1, .f32⟩
  | 27 => ⟨S20x1, .f32⟩
  | 28 => ⟨S20x256, .f32⟩
  | 29 => ⟨S20x256, .f32⟩
  | 30 => ⟨S20x256, .f32⟩
  | 31 => ⟨S20x256, .f32⟩
  | 32 => ⟨S20x256, .f32⟩
  | 33 => ⟨S20x256, .f32⟩
  | 34 => ⟨S20x256, .f32⟩
  | 35 => ⟨S20x256, .f32⟩
  | 36 => ⟨S20x256, .f32⟩
  | 37 => ⟨S20x256, .f32⟩
  | 38 => ⟨S20x256, .f32⟩
  | 39 => ⟨S20x256, .f32⟩
  | 40 => ⟨S20x256, .f32⟩
  | 41 => ⟨S20x256, .f32⟩
  | 42 => ⟨S20x256, .f32⟩
  | 43 => ⟨S_, .f32⟩
  | 44 => ⟨S20x256, .f32⟩
  | 45 => ⟨S20x256, .f32⟩
  | 46 => ⟨S_, .f32⟩
  | 47 => ⟨S20x256, .f32⟩
  | 48 => ⟨S20x256, .f32⟩
  | 49 => ⟨S_, .f32⟩
  | 50 => ⟨S20x256, .f32⟩
  | 51 => ⟨S20x256, .f32⟩
  | 52 => ⟨S20x256, .f32⟩
  | 53 => ⟨S20x256, .f32⟩
  | 54 => ⟨S20x256, .f32⟩
  | 55 => ⟨S20x256, .f32⟩
  | 56 => ⟨S20x256, .f32⟩
  | 57 => ⟨S20x256, .f32⟩
  | 58 => ⟨S20x256, .f32⟩
  | 59 => ⟨S20x256, .f32⟩
  | 60 => ⟨S20x256, .f32⟩
  | 61 => ⟨S20x256, .f32⟩
  | 62 => ⟨S20x256, .f32⟩
  | 63 => ⟨S20x256, .f32⟩
  | 64 => ⟨S20x256, .f32⟩
  | 65 => ⟨S20x256, .f32⟩
  | 66 => ⟨S20x256, .f32⟩
  | 67 => ⟨S20x256, .f32⟩
  | 68 => ⟨S20x256, .f32⟩
  | 69 => ⟨S20x256, .f32⟩
  | 70 => ⟨S20x256, .f32⟩
  | 71 => ⟨S20x256, .f32⟩
  | 72 => ⟨S20x256, .f32⟩
  | 73 => ⟨S20x256, .f32⟩
  | 74 => ⟨S20x256, .f32⟩
  | 75 => ⟨S20x256, .f32⟩
  | 76 => ⟨S20x256, .f32⟩
  | 77 => ⟨S20x256, .f32⟩
  | 78 => ⟨S20x256, .f32⟩
  | 79 => ⟨S20x256, .f32⟩
  | 80 => ⟨S20x256, .f32⟩
  | 81 => ⟨S20x256, .f32⟩
  | 82 => ⟨S20x256, .f32⟩
  | 83 => ⟨S20x256, .f32⟩
  | 84 => ⟨S20x256, .f32⟩
  | 85 => ⟨S20x256, .f32⟩
  | 86 => ⟨S_, .f32⟩
  | 87 => ⟨S20x256, .f32⟩
  | 88 => ⟨S20x256, .f32⟩
  | 89 => ⟨S20x256, .f32⟩
  | 90 => ⟨S_, .f32⟩
  | 91 => ⟨S20x256, .f32⟩
  | 92 => ⟨S20x256, .f32⟩
  | 93 => ⟨S_, .f32⟩
  | 94 => ⟨S20x256, .f32⟩
  | 95 => ⟨S20x256, .f32⟩
  | 96 => ⟨S_, .f32⟩
  | 97 => ⟨S20x256, .f32⟩
  | 98 => ⟨S20x256, .i1⟩
  | 99 => ⟨S_, .f32⟩
  | 100 => ⟨S20x256, .f32⟩
  | 101 => ⟨S20x256, .i1⟩
  | 102 => ⟨S20x256, .i1⟩
  | 103 => ⟨S20x256, .f32⟩
  | 104 => ⟨S_, .f32⟩
  | 105 => ⟨S20x256, .f32⟩
  | 106 => ⟨S20x256, .i1⟩
  | 107 => ⟨S20x256, .i1⟩
  | 108 => ⟨S20x256, .f32⟩
  | 109 => ⟨S_, .f32⟩
  | 110 => ⟨S20x256, .f32⟩
  | 111 => ⟨S20x256, .i1⟩
  | 112 => ⟨S20x256, .i1⟩
  | 113 => ⟨S20x256, .i1⟩
  | 114 => ⟨S20x256, .f32⟩
  | 115 => ⟨S_, .f32⟩
  | 116 => ⟨S20x256, .f32⟩
  | 117 => ⟨S20x256, .f32⟩
  | 118 => ⟨S_, .f32⟩
  | 119 => ⟨S20x256, .f32⟩
  | 120 => ⟨S20x256, .f32⟩
  | 121 => ⟨S_, .f32⟩
  | 122 => ⟨S20x256, .f32⟩
  | 123 => ⟨S20x256, .f32⟩
  | 124 => ⟨S_, .f32⟩
  | 125 => ⟨S20x256, .f32⟩
  | 126 => ⟨S20x256, .f32⟩
  | 127 => ⟨S_, .f32⟩
  | _ => ⟨S2x4x64x256x256, .f32⟩

abbrev hbmTy0_3 (i : Nat) : BufTy := match i % 128 with
  | 0 => ⟨S20x256, .f32⟩
  | 1 => ⟨S20x256, .f32⟩
  | 2 => ⟨S_, .f32⟩
  | 3 => ⟨S20x256, .f32⟩
  | 4 => ⟨S20x256, .f32⟩
  | 5 => ⟨S_, .f32⟩
  | 6 => ⟨S20x256, .f32⟩
  | 7 => ⟨S20x256, .f32⟩
  | 8 => ⟨S_, .i32⟩
  | 9 => ⟨S20x256, .i32⟩
  | 10 => ⟨S20x256, .i32⟩
  | 11 => ⟨S_, .i32⟩
  | 12 => ⟨S20x256, .i32⟩
  | 13 => ⟨S20x256, .i32⟩
  | 14 => ⟨S_, .f32⟩
  | 15 => ⟨S20x256, .f32⟩
  | 16 => ⟨S20x256, .f32⟩
  | 17 => ⟨S20x256x1, .f32⟩
  | 18 => ⟨S20x256, .f32⟩
  | 19 => ⟨S20x256, .f32⟩
  | 20 => ⟨S_, .f32⟩
  | 21 => ⟨S20x256, .f32⟩
  | 22 => ⟨S20x256, .f32⟩
  | 23 => ⟨S20x256x1, .f32⟩
  | 24 => ⟨S20x256, .f32⟩
  | 25 => ⟨S20x256, .f32⟩
  | 26 => ⟨S8, .i32⟩
  | 27 => ⟨S20x256x1x1, .i32⟩
  | 28 => ⟨S1x1x1x8, .i32⟩
  | 29 => ⟨S20x256x1x8, .i32⟩
  | 30 => ⟨S20x256x1x8, .i32⟩
  | 31 => ⟨S20x256x1x8, .i32⟩
  | 32 => ⟨S20x256x1x1, .i32⟩
  | 33 => ⟨S8x1, .i32⟩
  | 34 => ⟨S1x1x8x1, .i32⟩
  | 35 => ⟨S20x256x8x1, .i32⟩
  | 36 => ⟨S20x256x8x1, .i32⟩
  | 37 => ⟨S20x256x8x1, .i32⟩
  | 38 => ⟨S_, .i32⟩
  | 39 => ⟨S20x256x1x8, .i32⟩
  | 40 => ⟨S20x256x1x8, .i1⟩
  | 41 => ⟨S_, .i32⟩
  | 42 => ⟨S20x256x1x8, .i32⟩
  | 43 => ⟨S20x256x1x8, .i1⟩
  | 44 => ⟨S20x256x1x8, .i1⟩
  | 45 => ⟨S_, .i32⟩
  | 46 => ⟨S20x256x8x1, .i32⟩
  | 47 => ⟨S20x256x8x1, .i1⟩
  | 48 => ⟨S20x256x8x8, .i1⟩
  | 49 => ⟨S20x256x8x8, .i1⟩
  | 50 => ⟨S20x256x8x8, .i1⟩
  | 51 => ⟨S_, .i32⟩
  | 52 => ⟨S20x256x8x1, .i32⟩
  | 53 => ⟨S20x256x8x1, .i1⟩
  | 54 => ⟨S20x256x8x8, .i1⟩
  | 55 => ⟨S20x256x8x8, .i1⟩
  | 56 => ⟨S20x256x8x8, .f32⟩
  | 57 => ⟨S_, .i32⟩
  | 58 => ⟨S20x256x1x8, .i32⟩
  | 59 => ⟨S20x256x1x8, .i32⟩
  | 60 => ⟨S_, .i32⟩
  | 61 => ⟨S20x256x1x8, .i32⟩
  | 62 => ⟨S20x256x1x8, .i32⟩
  | 63 => ⟨S_, .i32⟩
  | 64 => ⟨S20x256x8x1, .i32⟩
  | 65 => ⟨S20x256x8x1, .i32⟩
  | 66 => ⟨S_, .i32⟩
  | 67 => ⟨S20x256x8x1, .i32⟩
  | 68 => ⟨S20x256x8x1, .i32⟩
  | 69 => ⟨S20x1x1x1, .i32⟩
  | 70 => ⟨S_, .i32⟩
  | 71 => ⟨S20x1x1x1, .i32⟩
  | 72 => ⟨S20x1x1x1, .i1⟩
  | 73 => ⟨S_, .i32⟩
  | 74 => ⟨S20x1x1x1, .i32⟩
  | 75 => ⟨S20x1x1x1, .i32⟩
  | 76 => ⟨S20x1x1x1, .i32⟩
  | 77 => ⟨S_, .i32⟩
  | 78 => ⟨S20x256x8x1, .i32⟩
  | 79 => ⟨S20x256x8x1, .i1⟩
  | 80 => ⟨S_, .i32⟩
  | 81 => ⟨S20x256x8x1, .i32⟩
  | 82 => ⟨S20x256x8x1, .i32⟩
  | 83 => ⟨S20x256x8x1, .i32⟩
  | 84 => ⟨S_, .i32⟩
  | 85 => ⟨S20x256x1x8, .i32⟩
  | 86 => ⟨S20x256x1x8, .i1⟩
  | 87 => ⟨S_, .i32⟩
  | 88 => ⟨S20x256x1x8, .i32⟩
  | 89 => ⟨S20x256x1x8, .i32⟩
  | 90 => ⟨S20x256x1x8, .i32⟩
  | 91 => ⟨S20x256x8x8, .i32⟩
  | 92 => ⟨S20x256x8x8, .i32⟩
  | 93 => ⟨S20x256x8x8, .i32⟩
  | 94 => ⟨S20x256x8x8x1, .i32⟩
  | 95 => ⟨S20x256x8x8x1, .i32⟩
  | 96 => ⟨S20x256x8x8x1, .i32⟩
  | 97 => ⟨S20x256x8x8x3, .i32⟩
  | 98 => ⟨S20x256x8x8x64, .f32⟩
  | 99 => ⟨S20x256x8x8x1, .f32⟩
  | 100 => ⟨S20x256x8x8x64, .f32⟩
  | 101 => ⟨S20x256x8x8x64, .f32⟩
  | 102 => ⟨S20x256x1x1x1, .f32⟩
  | 103 => ⟨S20x256x1x1x1, .f32⟩
  | 104 => ⟨S20x256x7x7x64, .f32⟩
  | 105 => ⟨S_, .f32⟩
  | 106 => ⟨S20x256x1x1x1, .f32⟩
  | 107 => ⟨S20x256x1x1x1, .f32⟩
  | 108 => ⟨S_, .f32⟩
  | 109 => ⟨S20x256x1x1x1, .f32⟩
  | 110 => ⟨S20x256x1x1x1, .f32⟩
  | 111 => ⟨S20x256x1x1x1, .f32⟩
  | 112 => ⟨S20x256x7x7x64, .f32⟩
  | 113 => ⟨S20x256x7x7x64, .f32⟩
  | 114 => ⟨S20x256x7x7x64, .f32⟩
  | 115 => ⟨S_, .f32⟩
  | 116 => ⟨S20x256x1x1x1, .f32⟩
  | 117 => ⟨S20x256x1x1x1, .f32⟩
  | 118 => ⟨S20x256x1x1x1, .f32⟩
  | 119 => ⟨S20x256x7x7x64, .f32⟩
  | 120 => ⟨S20x256x7x7x64, .f32⟩
  | 121 => ⟨S20x256x7x7x64, .f32⟩
  | 122 => ⟨S20x256x7x7x64, .f32⟩
  | 123 => ⟨S_, .f32⟩
  | 124 => ⟨S20x256x1x1x1, .f32⟩
  | 125 => ⟨S20x256x1x1x1, .f32⟩
  | 126 => ⟨S20x256x1x1x1, .f32⟩
  | 127 => ⟨S20x256x7x7x64, .f32⟩
  | _ => ⟨S2x4x64x256x256, .f32⟩

abbrev hbmTy0_4 (i : Nat) : BufTy := match i % 128 with
  | 0 => ⟨S20x256x7x7x64, .f32⟩
  | 1 => ⟨S20x256x7x7x64, .f32⟩
  | 2 => ⟨S20x256x7x7x64, .f32⟩
  | 3 => ⟨S20x256x1x1x1, .f32⟩
  | 4 => ⟨S20x256x7x7x64, .f32⟩
  | 5 => ⟨S20x256x7x7x64, .f32⟩
  | 6 => ⟨S20x256x7x7x64, .f32⟩
  | 7 => ⟨S_, .i32⟩
  | 8 => ⟨S20x256, .i32⟩
  | 9 => ⟨S20x256, .i32⟩
  | 10 => ⟨S_, .i32⟩
  | 11 => ⟨S20x256, .i32⟩
  | 12 => ⟨S20x256, .i32⟩
  | 13 => ⟨S_, .f32⟩
  | 14 => ⟨S20x256, .f32⟩
  | 15 => ⟨S20x256, .f32⟩
  | 16 => ⟨S_, .f32⟩
  | 17 => ⟨S20x256, .f32⟩
  | 18 => ⟨S20x256, .f32⟩
  | 19 => ⟨S20x256x1, .f32⟩
  | 20 => ⟨S20x256, .f32⟩
  | 21 => ⟨S20x256, .f32⟩
  | 22 => ⟨S_, .f32⟩
  | 23 => ⟨S20x256, .f32⟩
  | 24 => ⟨S20x256, .f32⟩
  | 25 => ⟨S_, .f32⟩
  | 26 => ⟨S20x256, .f32⟩
  | 27 => ⟨S20x256, .f32⟩
  | 28 => ⟨S20x256x1, .f32⟩
  | 29 => ⟨S20x256, .f32⟩
  | 30 => ⟨S20x256, .f32⟩
  | 31 => ⟨S8, .i32⟩
  | 32 => ⟨S20x256x1x1, .i32⟩
  | 33 => ⟨S1x1x1x8, .i32⟩
  | 34 => ⟨S20x256x1x8, .i32⟩
  | 35 => ⟨S20x256x1x8, .i32⟩
  | 36 => ⟨S20x256x1x8, .i32⟩
  | 37 => ⟨S20x256x1x1, .i32⟩
  | 38 => ⟨S8x1, .i32⟩
  | 39 => ⟨S1x1x8x1, .i32⟩
  | 40 => ⟨S20x256x8x1, .i32⟩
  | 41 => ⟨S20x256x8x1, .i32⟩
  | 42 => ⟨S20x256x8x1, .i32⟩
  | 43 => ⟨S_, .i32⟩
  | 44 => ⟨S20x256x1x8, .i32⟩
  | 45 => ⟨S20x256x1x8, .i1⟩
  | 46 => ⟨S_, .i32⟩
  | 47 => ⟨S20x256x1x8, .i32⟩
  | 48 => ⟨S20x256x1x8, .i1⟩
  | 49 => ⟨S20x256x1x8, .i1⟩
  | 50 => ⟨S_, .i32⟩
  | 51 => ⟨S20x256x8x1, .i32⟩
  | 52 => ⟨S20x256x8x1, .i1⟩
  | 53 => ⟨S20x256x8x8, .i1⟩
  | 54 => ⟨S20x256x8x8, .i1⟩
  | 55 => ⟨S20x256x8x8, .i1⟩
  | 56 => ⟨S_, .i32⟩
  | 57 => ⟨S20x256x8x1, .i32⟩
  | 58 => ⟨S20x256x8x1, .i1⟩
  | 59 => ⟨S20x256x8x8, .i1⟩
  | 60 => ⟨S20x256x8x8, .i1⟩
  | 61 => ⟨S20x256x8x8, .f32⟩
  | 62 => ⟨S_, .i32⟩
  | 63 => ⟨S20x256x1x8, .i32⟩
  | 64 => ⟨S20x256x1x8, .i32⟩
  | 65 => ⟨S_, .i32⟩
  | 66 => ⟨S20x256x1x8, .i32⟩
  | 67 => ⟨S20x256x1x8, .i32⟩
  | 68 => ⟨S_, .i32⟩
  | 69 => ⟨S20x256x8x1, .i32⟩
  | 70 => ⟨S20x256x8x1, .i32⟩
  | 71 => ⟨S_, .i32⟩
  | 72 => ⟨S20x256x8x1, .i32⟩
  | 73 => ⟨S20x256x8x1, .i32⟩
  | 74 => ⟨S20x1x1x1, .i32⟩
  | 75 => ⟨S_, .i32⟩
  | 76 => ⟨S20x1x1x1, .i32⟩
  | 77 => ⟨S20x1x1x1, .i1⟩
  | 78 => ⟨S_, .i32⟩
  | 79 => ⟨S20x1x1x1, .i32⟩
  | 80 => ⟨S20x1x1x1, .i32⟩
  | 81 => ⟨S20x1x1x1, .i32⟩
  | 82 => ⟨S_, .i32⟩
  | 83 => ⟨S20x256x8x1, .i32⟩
  | 84 => ⟨S20x256x8x1, .i1⟩
  | 85 => ⟨S_, .i32⟩
  | 86 => ⟨S20x256x8x1, .i32⟩
  | 87 => ⟨S20x256x8x1, .i32⟩
  | 88 => ⟨S20x256x8x1, .i32⟩
  | 89 => ⟨S_, .i32⟩
  | 90 => ⟨S20x256x1x8, .i32⟩
  | 91 => ⟨S20x256x1x8, .i1⟩
  | 92 => ⟨S_, .i32⟩
  | 93 => ⟨S20x256x1x8, .i32⟩
  | 94 => ⟨S20x256x1x8, .i32⟩
  | 95 => ⟨S20x256x1x8, .i32⟩
  | 96 => ⟨S20x256x8x8, .i32⟩
  | 97 => ⟨S20x256x8x8, .i32⟩
  | 98 => ⟨S20x256x8x8, .i32⟩
  | 99 => ⟨S20x256x8x8x1, .i32⟩
  | 100 => ⟨S20x256x8x8x1, .i32⟩
  | 101 => ⟨S20x256x8x8x1, .i32⟩
  | 102 => ⟨S20x256x8x8x3, .i32⟩
  | 103 => ⟨S20x256x8x8x64, .f32⟩
  | 104 => ⟨S20x256x8x8x1, .f32⟩
  | 105 => ⟨S20x256x8x8x64, .f32⟩
  | 106 => ⟨S20x256x8x8x64, .f32⟩
  | 107 => ⟨S20x256x1x1x1, .f32⟩
  | 108 => ⟨S20x256x1x1x1, .f32⟩
  | 109 => ⟨S20x256x7x7x64, .f32⟩
  | 110 => ⟨S_, .f32⟩
  | 111 => ⟨S20x256x1x1x1, .f32⟩
  | 112 => ⟨S20x256x1x1x1, .f32⟩
  | 113 => ⟨S_, .f32⟩
  | 114 => ⟨S20x256x1x1x1, .f32⟩
  | 115 => ⟨S20x256x1x1x1, .f32⟩
  | 116 => ⟨S20x256x1x1x1, .f32⟩
  | 117 => ⟨S20x256x7x7x64, .f32⟩
  | 118 => ⟨S20x256x7x7x64, .f32⟩
  | 119 => ⟨S20x256x7x7x64, .f32⟩
  | 120 => ⟨S_, .f32⟩
  | 121 => ⟨S20x256x1x1x1, .f32⟩
  | 122 => ⟨S20x256x1x1x1, .f32⟩
  | 123 => ⟨S20x256x1x1x1, .f32⟩
  | 124 => ⟨S20x256x7x7x64, .f32⟩
  | 125 => ⟨S20x256x7x7x64, .f32⟩
  | 126 => ⟨S20x256x7x7x64, .f32⟩
  | 127 => ⟨S20x256x7x7x64, .f32⟩
  | _ => ⟨S2x4x64x256x256, .f32⟩

abbrev hbmTy0_5 (i : Nat) : BufTy := match i % 128 with
  | 0 => ⟨S_, .f32⟩
  | 1 => ⟨S20x256x1x1x1, .f32⟩
  | 2 => ⟨S20x256x1x1x1, .f32⟩
  | 3 => ⟨S20x256x1x1x1, .f32⟩
  | 4 => ⟨S20x256x7x7x64, .f32⟩
  | 5 => ⟨S20x256x7x7x64, .f32⟩
  | 6 => ⟨S20x256x7x7x64, .f32⟩
  | 7 => ⟨S20x256x7x7x64, .f32⟩
  | 8 => ⟨S20x256x1x1x1, .f32⟩
  | 9 => ⟨S20x256x7x7x64, .f32⟩
  | 10 => ⟨S20x256x7x7x64, .f32⟩
  | 11 => ⟨S20x256x7x7x64, .f32⟩
  | 12 => ⟨S_, .i32⟩
  | 13 => ⟨S20, .i32⟩
  | 14 => ⟨S20, .i1⟩
  | 15 => ⟨S_, .i32⟩
  | 16 => ⟨S20, .i32⟩
  | 17 => ⟨S20, .i32⟩
  | 18 => ⟨S20, .i32⟩
  | 19 => ⟨S20x1, .i32⟩
  | 20 => ⟨S20x256x5x5x64, .f32⟩
  | 21 => ⟨S20x256x5x5x64, .f32⟩
  | 22 => ⟨S20x256x5x5x64, .f32⟩
  | 23 => ⟨S_, .f32⟩
  | 24 => ⟨S20x256, .f32⟩
  | 25 => ⟨S20x256x5x5x64, .f32⟩
  | 26 => ⟨S20x256x5x5x64, .f32⟩
  | 27 => ⟨S_, .f32⟩
  | 28 => ⟨S20x256, .f32⟩
  | 29 => ⟨S20x256x5x5x64, .f32⟩
  | 30 => ⟨S20x256x5x5x64, .f32⟩
  | 31 => ⟨S_, .f32⟩
  | 32 => ⟨S20x256, .f32⟩
  | 33 => ⟨S20x256x5x5x64, .f32⟩
  | 34 => ⟨S20x256x5x5x64, .f32⟩
  | 35 => ⟨S_, .f32⟩
  | 36 => ⟨S20x256, .f32⟩
  | 37 => ⟨S20x256x5x5x64, .f32⟩
  | 38 => ⟨S20x256x5x5x64, .f32⟩
  | 39 => ⟨S_, .f32⟩
  | 40 => ⟨S20x256, .f32⟩
  | 41 => ⟨S20x256x5x5x64, .f32⟩
  | 42 => ⟨S20x256x5x5x64, .f32⟩
  | 43 => ⟨S_, .f32⟩
  | 44 => ⟨S20x256, .f32⟩
  | 45 => ⟨S20x256x5x5x64, .f32⟩
  | 46 => ⟨S20x256x5x5x64, .f32⟩
  | 47 => ⟨S_, .f32⟩
  | 48 => ⟨S20x256, .f32⟩
  | 49 => ⟨S20x256x5x5x64, .f32⟩
  | 50 => ⟨S20x256x5x5x64, .f32⟩
  | 51 => ⟨S_, .f32⟩
  | 52 => ⟨S20x256, .f32⟩
  | 53 => ⟨S20x256x5x5x64, .f32⟩
  | 54 => ⟨S20x256x5x5x64, .f32⟩
  | 55 => ⟨S_, .f32⟩
  | 56 => ⟨S20x256, .f32⟩
  | 57 => ⟨S20x256x5x5x64, .f32⟩
  | 58 => ⟨S20x256x5x5x64, .f32⟩
  | 59 => ⟨S_, .f32⟩
  | 60 => ⟨S20x256, .f32⟩
  | 61 => ⟨S20x256x5x5x64, .f32⟩
  | 62 => ⟨S20x256x5x5x64, .f32⟩
  | 63 => ⟨S_, .f32⟩
  | 64 => ⟨S20x256, .f32⟩
  | 65 => ⟨S20x256x5x5x64, .f32⟩
  | 66 => ⟨S20x256x5x5x64, .f32⟩
  | 67 => ⟨S_, .f32⟩
  | 68 => ⟨S20x256, .f32⟩
  | 69 => ⟨S20x256x5x5x64, .f32⟩
  | 70 => ⟨S20x256x5x5x64, .f32⟩
  | 71 => ⟨S_, .f32⟩
  | 72 => ⟨S20x256, .f32⟩
  | 73 => ⟨S20x256x5x5x64, .f32⟩
  | 74 => ⟨S20x256x5x5x64, .f32⟩
  | 75 => ⟨S_, .f32⟩
  | 76 => ⟨S20x256, .f32⟩
  | 77 => ⟨S20x256x5x5x64, .f32⟩
  | 78 => ⟨S20x256x5x5x64, .f32⟩
  | 79 => ⟨S_, .f32⟩
  | 80 => ⟨S20x256, .f32⟩
  | 81 => ⟨S20x256x5x5x64, .f32⟩
  | 82 => ⟨S20x256x5x5x64, .f32⟩
  | 83 => ⟨S_, .f32⟩
  | 84 => ⟨S20x256, .f32⟩
  | 85 => ⟨S20x256x5x5x64, .f32⟩
  | 86 => ⟨S20x256x5x5x64, .f32⟩
  | 87 => ⟨S_, .f32⟩
  | 88 => ⟨S20x256, .f32⟩
  | 89 => ⟨S20x256x5x5x64, .f32⟩
  | 90 => ⟨S20x256x5x5x64, .f32⟩
  | 91 => ⟨S_, .f32⟩
  | 92 => ⟨S20x256, .f32⟩
  | 93 => ⟨S20x256x1, .f32⟩
  | 94 => ⟨S20x256x1, .f32⟩
  | 95 => ⟨S20x256x1, .f32⟩
  | 96 => ⟨S20x256x1, .f32⟩
  | 97 => ⟨S20x256x1, .f32⟩
  | 98 => ⟨S20x256x1, .f32⟩
  | 99 => ⟨S20x256x1, .f32⟩
  | 100 => ⟨S20x256x1, .f32⟩
  | 101 => ⟨S20x256x1, .f32⟩
  | 102 => ⟨S20x256x1, .f32⟩
  | 103 => ⟨S20x256x1, .f32⟩
  | 104 => ⟨S20x256x1, .f32⟩
  | 105 => ⟨S20x256x1, .f32⟩
  | 106 => ⟨S20x256x1, .f32⟩
  | 107 => ⟨S20x256x1, .f32⟩
  | 108 => ⟨S20x256x1, .f32⟩
  | 109 => ⟨S20x256x1, .f32⟩
  | 110 => ⟨S20x256x1, .f32⟩
  | 111 => ⟨S20x256x16, .f32⟩
  | 112 => ⟨S20x256x2, .f32⟩
  | 113 => ⟨S20x256x18, .f32⟩
  | 114 => ⟨S20x256x1, .f32⟩
  | 115 => ⟨S20x256x18, .f32⟩
  | 116 => ⟨S20x256x18, .f32⟩
  | _ => ⟨S2x4x64x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x4x64x256x256, .f32⟩

abbrev bufTy : (tb : Table) → Fin (tcTables nBuf tb) → BufTy
  | .hbm, ⟨i, _⟩ => hbmTy i
  | _, _ => ⟨S2x4x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_7 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_11 : Ref sig .tc := ⟨.hbm, 81, rfl⟩
abbrev main_v60 : Ref sig .tc := ⟨.hbm, 82, rfl⟩
abbrev main_v61 : Ref sig .tc := ⟨.hbm, 83, rfl⟩
abbrev main_c_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_13 : Ref sig .tc := ⟨.hbm, 92, rfl⟩
abbrev main_v69 : Ref sig .tc := ⟨.hbm, 93, rfl⟩
abbrev main_v70 : Ref sig .tc := ⟨.hbm, 94, rfl⟩
abbrev main_c_14 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_15 : Ref sig .tc := ⟨.hbm, 101, rfl⟩
abbrev main_v76 : Ref sig .tc := ⟨.hbm, 102, rfl⟩
abbrev main_v77 : Ref sig .tc := ⟨.hbm, 103, rfl⟩
abbrev main_c_16 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_17 : Ref sig .tc := ⟨.hbm, 110, rfl⟩
abbrev main_v83 : Ref sig .tc := ⟨.hbm, 111, rfl⟩
abbrev main_v84 : Ref sig .tc := ⟨.hbm, 112, rfl⟩
abbrev main_c_18 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_19 : Ref sig .tc := ⟨.hbm, 121, rfl⟩
abbrev main_v92 : Ref sig .tc := ⟨.hbm, 122, rfl⟩
abbrev main_v93 : Ref sig .tc := ⟨.hbm, 123, rfl⟩
abbrev main_cst_20 : Ref sig .tc := ⟨.hbm, 124, rfl⟩
abbrev main_v94 : Ref sig .tc := ⟨.hbm, 125, rfl⟩
abbrev main_v95 : Ref sig .tc := ⟨.hbm, 126, rfl⟩
abbrev main_cst_21 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_22 : Ref sig .tc := ⟨.hbm, 132, rfl⟩
abbrev main_v100 : Ref sig .tc := ⟨.hbm, 133, rfl⟩
abbrev main_v101 : Ref sig .tc := ⟨.hbm, 134, rfl⟩
abbrev main_cst_23 : Ref sig .tc := ⟨.hbm, 135, rfl⟩
abbrev main_v102 : Ref sig .tc := ⟨.hbm, 136, rfl⟩
abbrev main_v103 : Ref sig .tc := ⟨.hbm, 137, rfl⟩
abbrev main_cst_24 : Ref sig .tc := ⟨.hbm, 138, rfl⟩
abbrev main_v104 : Ref sig .tc := ⟨.hbm, 139, rfl⟩
abbrev main_v105 : Ref sig .tc := ⟨.hbm, 140, rfl⟩
abbrev main_cst_25 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_c_26 : Ref sig .tc := ⟨.hbm, 156, rfl⟩
abbrev main_v120 : Ref sig .tc := ⟨.hbm, 157, rfl⟩
abbrev main_v121 : Ref sig .tc := ⟨.hbm, 158, rfl⟩
abbrev main_c_27 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_c_28 : Ref sig .tc := ⟨.hbm, 165, rfl⟩
abbrev main_v127 : Ref sig .tc := ⟨.hbm, 166, rfl⟩
abbrev main_v128 : Ref sig .tc := ⟨.hbm, 167, rfl⟩
abbrev main_c_29 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_30 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_cst_31 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_cst_32 : Ref sig .tc := ⟨.hbm, 213, rfl⟩
abbrev main_v171 : Ref sig .tc := ⟨.hbm, 214, rfl⟩
abbrev main_v172 : Ref sig .tc := ⟨.hbm, 215, rfl⟩
abbrev main_cst_33 : Ref sig .tc := ⟨.hbm, 216, rfl⟩
abbrev main_v173 : Ref sig .tc := ⟨.hbm, 217, rfl⟩
abbrev main_v174 : Ref sig .tc := ⟨.hbm, 218, rfl⟩
abbrev main_cst_34 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_v242 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_cst_35 : Ref sig .tc := ⟨.hbm, 299, rfl⟩
abbrev main_v254 : Ref sig .tc := ⟨.hbm, 300, rfl⟩
abbrev main_v255 : Ref sig .tc := ⟨.hbm, 301, rfl⟩
abbrev main_cst_36 : Ref sig .tc := ⟨.hbm, 302, rfl⟩
abbrev main_v256 : Ref sig .tc := ⟨.hbm, 303, rfl⟩
abbrev main_v257 : Ref sig .tc := ⟨.hbm, 304, rfl⟩
abbrev main_cst_37 : Ref sig .tc := ⟨.hbm, 305, rfl⟩
abbrev main_v258 : Ref sig .tc := ⟨.hbm, 306, rfl⟩
abbrev main_v259 : Ref sig .tc := ⟨.hbm, 307, rfl⟩
abbrev main_v260 : Ref sig .tc := ⟨.hbm, 308, rfl⟩
abbrev main_v261 : Ref sig .tc := ⟨.hbm, 309, rfl⟩
abbrev main_v262 : Ref sig .tc := ⟨.hbm, 310, rfl⟩
abbrev main_v263 : Ref sig .tc := ⟨.hbm, 311, rfl⟩
abbrev main_v264 : Ref sig .tc := ⟨.hbm, 312, rfl⟩
abbrev main_v265 : Ref sig .tc := ⟨.hbm, 313, rfl⟩
abbrev main_v266 : Ref sig .tc := ⟨.hbm, 314, rfl⟩
abbrev main_v267 : Ref sig .tc := ⟨.hbm, 315, rfl⟩
abbrev main_v268 : Ref sig .tc := ⟨.hbm, 316, rfl⟩
abbrev main_v269 : Ref sig .tc := ⟨.hbm, 317, rfl⟩
abbrev main_v270 : Ref sig .tc := ⟨.hbm, 318, rfl⟩
abbrev main_v271 : Ref sig .tc := ⟨.hbm, 319, rfl⟩
abbrev main_v272 : Ref sig .tc := ⟨.hbm, 320, rfl⟩
abbrev main_v273 : Ref sig .tc := ⟨.hbm, 321, rfl⟩
abbrev main_v274 : Ref sig .tc := ⟨.hbm, 322, rfl⟩
abbrev main_v275 : Ref sig .tc := ⟨.hbm, 323, rfl⟩
abbrev main_v276 : Ref sig .tc := ⟨.hbm, 324, rfl⟩
abbrev main_v277 : Ref sig .tc := ⟨.hbm, 325, rfl⟩
abbrev main_v278 : Ref sig .tc := ⟨.hbm, 326, rfl⟩
abbrev main_v279 : Ref sig .tc := ⟨.hbm, 327, rfl⟩
abbrev main_v280 : Ref sig .tc := ⟨.hbm, 328, rfl⟩
abbrev main_v281 : Ref sig .tc := ⟨.hbm, 329, rfl⟩
abbrev main_v282 : Ref sig .tc := ⟨.hbm, 330, rfl⟩
abbrev main_v283 : Ref sig .tc := ⟨.hbm, 331, rfl⟩
abbrev main_v284 : Ref sig .tc := ⟨.hbm, 332, rfl⟩
abbrev main_v285 : Ref sig .tc := ⟨.hbm, 333, rfl⟩
abbrev main_v286 : Ref sig .tc := ⟨.hbm, 334, rfl⟩
abbrev main_v287 : Ref sig .tc := ⟨.hbm, 335, rfl⟩
abbrev main_v288 : Ref sig .tc := ⟨.hbm, 336, rfl⟩
abbrev main_v289 : Ref sig .tc := ⟨.hbm, 337, rfl⟩
abbrev main_v290 : Ref sig .tc := ⟨.hbm, 338, rfl⟩
abbrev main_v291 : Ref sig .tc := ⟨.hbm, 339, rfl⟩
abbrev main_v292 : Ref sig .tc := ⟨.hbm, 340, rfl⟩
abbrev main_v293 : Ref sig .tc := ⟨.hbm, 341, rfl⟩
abbrev main_cst_38 : Ref sig .tc := ⟨.hbm, 342, rfl⟩
abbrev main_v294 : Ref sig .tc := ⟨.hbm, 343, rfl⟩
abbrev main_v295 : Ref sig .tc := ⟨.hbm, 344, rfl⟩
abbrev main_v296 : Ref sig .tc := ⟨.hbm, 345, rfl⟩
abbrev main_cst_39 : Ref sig .tc := ⟨.hbm, 346, rfl⟩
abbrev main_v297 : Ref sig .tc := ⟨.hbm, 347, rfl⟩
abbrev main_v298 : Ref sig .tc := ⟨.hbm, 348, rfl⟩
abbrev main_cst_40 : Ref sig .tc := ⟨.hbm, 349, rfl⟩
abbrev main_v299 : Ref sig .tc := ⟨.hbm, 350, rfl⟩
abbrev main_v300 : Ref sig .tc := ⟨.hbm, 351, rfl⟩
abbrev main_cst_41 : Ref sig .tc := ⟨.hbm, 352, rfl⟩
abbrev main_v301 : Ref sig .tc := ⟨.hbm, 353, rfl⟩
abbrev main_v302 : Ref sig .tc := ⟨.hbm, 354, rfl⟩
abbrev main_cst_42 : Ref sig .tc := ⟨.hbm, 355, rfl⟩
abbrev main_v303 : Ref sig .tc := ⟨.hbm, 356, rfl⟩
abbrev main_v304 : Ref sig .tc := ⟨.hbm, 357, rfl⟩
abbrev main_v305 : Ref sig .tc := ⟨.hbm, 358, rfl⟩
abbrev main_v306 : Ref sig .tc := ⟨.hbm, 359, rfl⟩
abbrev main_cst_43 : Ref sig .tc := ⟨.hbm, 360, rfl⟩
abbrev main_v307 : Ref sig .tc := ⟨.hbm, 361, rfl⟩
abbrev main_v308 : Ref sig .tc := ⟨.hbm, 362, rfl⟩
abbrev main_v309 : Ref sig .tc := ⟨.hbm, 363, rfl⟩
abbrev main_v310 : Ref sig .tc := ⟨.hbm, 364, rfl⟩
abbrev main_cst_44 : Ref sig .tc := ⟨.hbm, 365, rfl⟩
abbrev main_v311 : Ref sig .tc := ⟨.hbm, 366, rfl⟩
abbrev main_v312 : Ref sig .tc := ⟨.hbm, 367, rfl⟩
abbrev main_v313 : Ref sig .tc := ⟨.hbm, 368, rfl⟩
abbrev main_v314 : Ref sig .tc := ⟨.hbm, 369, rfl⟩
abbrev main_v315 : Ref sig .tc := ⟨.hbm, 370, rfl⟩
abbrev main_cst_45 : Ref sig .tc := ⟨.hbm, 371, rfl⟩
abbrev main_v316 : Ref sig .tc := ⟨.hbm, 372, rfl⟩
abbrev main_v317 : Ref sig .tc := ⟨.hbm, 373, rfl⟩
abbrev main_cst_46 : Ref sig .tc := ⟨.hbm, 374, rfl⟩
abbrev main_v318 : Ref sig .tc := ⟨.hbm, 375, rfl⟩
abbrev main_v319 : Ref sig .tc := ⟨.hbm, 376, rfl⟩
abbrev main_cst_47 : Ref sig .tc := ⟨.hbm, 377, rfl⟩
abbrev main_v320 : Ref sig .tc := ⟨.hbm, 378, rfl⟩
abbrev main_v321 : Ref sig .tc := ⟨.hbm, 379, rfl⟩
abbrev main_cst_48 : Ref sig .tc := ⟨.hbm, 380, rfl⟩
abbrev main_v322 : Ref sig .tc := ⟨.hbm, 381, rfl⟩
abbrev main_v323 : Ref sig .tc := ⟨.hbm, 382, rfl⟩
abbrev main_cst_49 : Ref sig .tc := ⟨.hbm, 383, rfl⟩
abbrev main_v324 : Ref sig .tc := ⟨.hbm, 384, rfl⟩
abbrev main_v325 : Ref sig .tc := ⟨.hbm, 385, rfl⟩
abbrev main_cst_50 : Ref sig .tc := ⟨.hbm, 386, rfl⟩
abbrev main_v326 : Ref sig .tc := ⟨.hbm, 387, rfl⟩
abbrev main_v327 : Ref sig .tc := ⟨.hbm, 388, rfl⟩
abbrev main_cst_51 : Ref sig .tc := ⟨.hbm, 389, rfl⟩
abbrev main_v328 : Ref sig .tc := ⟨.hbm, 390, rfl⟩
abbrev main_v329 : Ref sig .tc := ⟨.hbm, 391, rfl⟩
abbrev main_c_52 : Ref sig .tc := ⟨.hbm, 392, rfl⟩
abbrev main_v330 : Ref sig .tc := ⟨.hbm, 393, rfl⟩
abbrev main_v331 : Ref sig .tc := ⟨.hbm, 394, rfl⟩
abbrev main_c_53 : Ref sig .tc := ⟨.hbm, 395, rfl⟩
abbrev main_v332 : Ref sig .tc := ⟨.hbm, 396, rfl⟩
abbrev main_v333 : Ref sig .tc := ⟨.hbm, 397, rfl⟩
abbrev main_cst_54 : Ref sig .tc := ⟨.hbm, 398, rfl⟩
abbrev main_v334 : Ref sig .tc := ⟨.hbm, 399, rfl⟩
abbrev main_v335 : Ref sig .tc := ⟨.hbm, 400, rfl⟩
abbrev main_v336 : Ref sig .tc := ⟨.hbm, 401, rfl⟩
abbrev main_v337 : Ref sig .tc := ⟨.hbm, 402, rfl⟩
abbrev main_v338 : Ref sig .tc := ⟨.hbm, 403, rfl⟩
abbrev main_cst_55 : Ref sig .tc := ⟨.hbm, 404, rfl⟩
abbrev main_v339 : Ref sig .tc := ⟨.hbm, 405, rfl⟩
abbrev main_v340 : Ref sig .tc := ⟨.hbm, 406, rfl⟩
abbrev main_v341 : Ref sig .tc := ⟨.hbm, 407, rfl⟩
abbrev main_v342 : Ref sig .tc := ⟨.hbm, 408, rfl⟩
abbrev main_v343 : Ref sig .tc := ⟨.hbm, 409, rfl⟩
abbrev main_v344 : Ref sig .tc := ⟨.hbm, 410, rfl⟩
abbrev main_v345 : Ref sig .tc := ⟨.hbm, 411, rfl⟩
abbrev main_v346 : Ref sig .tc := ⟨.hbm, 412, rfl⟩
abbrev main_v347 : Ref sig .tc := ⟨.hbm, 413, rfl⟩
abbrev main_v348 : Ref sig .tc := ⟨.hbm, 414, rfl⟩
abbrev main_v349 : Ref sig .tc := ⟨.hbm, 415, rfl⟩
abbrev main_v350 : Ref sig .tc := ⟨.hbm, 416, rfl⟩
abbrev main_v351 : Ref sig .tc := ⟨.hbm, 417, rfl⟩
abbrev main_v352 : Ref sig .tc := ⟨.hbm, 418, rfl⟩
abbrev main_v353 : Ref sig .tc := ⟨.hbm, 419, rfl⟩
abbrev main_v354 : Ref sig .tc := ⟨.hbm, 420, rfl⟩
abbrev main_v355 : Ref sig .tc := ⟨.hbm, 421, rfl⟩
abbrev main_c_56 : Ref sig .tc := ⟨.hbm, 422, rfl⟩
abbrev main_v356 : Ref sig .tc := ⟨.hbm, 423, rfl⟩
abbrev main_v357 : Ref sig .tc := ⟨.hbm, 424, rfl⟩
abbrev main_c_57 : Ref sig .tc := ⟨.hbm, 425, rfl⟩
abbrev main_v358 : Ref sig .tc := ⟨.hbm, 426, rfl⟩
abbrev main_v359 : Ref sig .tc := ⟨.hbm, 427, rfl⟩
abbrev main_v360 : Ref sig .tc := ⟨.hbm, 428, rfl⟩
abbrev main_c_58 : Ref sig .tc := ⟨.hbm, 429, rfl⟩
abbrev main_v361 : Ref sig .tc := ⟨.hbm, 430, rfl⟩
abbrev main_v362 : Ref sig .tc := ⟨.hbm, 431, rfl⟩
abbrev main_v363 : Ref sig .tc := ⟨.hbm, 432, rfl⟩
abbrev main_v364 : Ref sig .tc := ⟨.hbm, 433, rfl⟩
abbrev main_v365 : Ref sig .tc := ⟨.hbm, 434, rfl⟩
abbrev main_c_59 : Ref sig .tc := ⟨.hbm, 435, rfl⟩
abbrev main_v366 : Ref sig .tc := ⟨.hbm, 436, rfl⟩
abbrev main_v367 : Ref sig .tc := ⟨.hbm, 437, rfl⟩
abbrev main_v368 : Ref sig .tc := ⟨.hbm, 438, rfl⟩
abbrev main_v369 : Ref sig .tc := ⟨.hbm, 439, rfl⟩
abbrev main_v370 : Ref sig .tc := ⟨.hbm, 440, rfl⟩
abbrev main_c_60 : Ref sig .tc := ⟨.hbm, 441, rfl⟩
abbrev main_v371 : Ref sig .tc := ⟨.hbm, 442, rfl⟩
abbrev main_v372 : Ref sig .tc := ⟨.hbm, 443, rfl⟩
abbrev main_c_61 : Ref sig .tc := ⟨.hbm, 444, rfl⟩
abbrev main_v373 : Ref sig .tc := ⟨.hbm, 445, rfl⟩
abbrev main_v374 : Ref sig .tc := ⟨.hbm, 446, rfl⟩
abbrev main_c_62 : Ref sig .tc := ⟨.hbm, 447, rfl⟩
abbrev main_v375 : Ref sig .tc := ⟨.hbm, 448, rfl⟩
abbrev main_v376 : Ref sig .tc := ⟨.hbm, 449, rfl⟩
abbrev main_c_63 : Ref sig .tc := ⟨.hbm, 450, rfl⟩
abbrev main_v377 : Ref sig .tc := ⟨.hbm, 451, rfl⟩
abbrev main_v378 : Ref sig .tc := ⟨.hbm, 452, rfl⟩
abbrev main_v379 : Ref sig .tc := ⟨.hbm, 453, rfl⟩
abbrev main_c_64 : Ref sig .tc := ⟨.hbm, 454, rfl⟩
abbrev main_v380 : Ref sig .tc := ⟨.hbm, 455, rfl⟩
abbrev main_v381 : Ref sig .tc := ⟨.hbm, 456, rfl⟩
abbrev main_c_65 : Ref sig .tc := ⟨.hbm, 457, rfl⟩
abbrev main_v382 : Ref sig .tc := ⟨.hbm, 458, rfl⟩
abbrev main_v383 : Ref sig .tc := ⟨.hbm, 459, rfl⟩
abbrev main_v384 : Ref sig .tc := ⟨.hbm, 460, rfl⟩
abbrev main_c_66 : Ref sig .tc := ⟨.hbm, 461, rfl⟩
abbrev main_v385 : Ref sig .tc := ⟨.hbm, 462, rfl⟩
abbrev main_v386 : Ref sig .tc := ⟨.hbm, 463, rfl⟩
abbrev main_c_67 : Ref sig .tc := ⟨.hbm, 464, rfl⟩
abbrev main_v387 : Ref sig .tc := ⟨.hbm, 465, rfl⟩
abbrev main_v388 : Ref sig .tc := ⟨.hbm, 466, rfl⟩
abbrev main_v389 : Ref sig .tc := ⟨.hbm, 467, rfl⟩
abbrev main_c_68 : Ref sig .tc := ⟨.hbm, 468, rfl⟩
abbrev main_v390 : Ref sig .tc := ⟨.hbm, 469, rfl⟩
abbrev main_v391 : Ref sig .tc := ⟨.hbm, 470, rfl⟩
abbrev main_c_69 : Ref sig .tc := ⟨.hbm, 471, rfl⟩
abbrev main_v392 : Ref sig .tc := ⟨.hbm, 472, rfl⟩
abbrev main_v393 : Ref sig .tc := ⟨.hbm, 473, rfl⟩
abbrev main_v394 : Ref sig .tc := ⟨.hbm, 474, rfl⟩
abbrev main_v395 : Ref sig .tc := ⟨.hbm, 475, rfl⟩
abbrev main_v396 : Ref sig .tc := ⟨.hbm, 476, rfl⟩
abbrev main_v397 : Ref sig .tc := ⟨.hbm, 477, rfl⟩
abbrev main_v398 : Ref sig .tc := ⟨.hbm, 478, rfl⟩
abbrev main_v399 : Ref sig .tc := ⟨.hbm, 479, rfl⟩
abbrev main_v400 : Ref sig .tc := ⟨.hbm, 480, rfl⟩
abbrev main_v401 : Ref sig .tc := ⟨.hbm, 481, rfl⟩
abbrev main_v402 : Ref sig .tc := ⟨.hbm, 482, rfl⟩
abbrev main_v403 : Ref sig .tc := ⟨.hbm, 483, rfl⟩
abbrev main_v404 : Ref sig .tc := ⟨.hbm, 484, rfl⟩
abbrev main_v405 : Ref sig .tc := ⟨.hbm, 485, rfl⟩
abbrev main_v406 : Ref sig .tc := ⟨.hbm, 486, rfl⟩
abbrev main_v407 : Ref sig .tc := ⟨.hbm, 487, rfl⟩
abbrev main_v408 : Ref sig .tc := ⟨.hbm, 488, rfl⟩
abbrev main_cst_70 : Ref sig .tc := ⟨.hbm, 489, rfl⟩
abbrev main_v409 : Ref sig .tc := ⟨.hbm, 490, rfl⟩
abbrev main_v410 : Ref sig .tc := ⟨.hbm, 491, rfl⟩
abbrev main_cst_71 : Ref sig .tc := ⟨.hbm, 492, rfl⟩
abbrev main_v411 : Ref sig .tc := ⟨.hbm, 493, rfl⟩
abbrev main_v412 : Ref sig .tc := ⟨.hbm, 494, rfl⟩
abbrev main_v413 : Ref sig .tc := ⟨.hbm, 495, rfl⟩
abbrev main_v414 : Ref sig .tc := ⟨.hbm, 496, rfl⟩
abbrev main_v415 : Ref sig .tc := ⟨.hbm, 497, rfl⟩
abbrev main_v416 : Ref sig .tc := ⟨.hbm, 498, rfl⟩
abbrev main_cst_72 : Ref sig .tc := ⟨.hbm, 499, rfl⟩
abbrev main_v417 : Ref sig .tc := ⟨.hbm, 500, rfl⟩
abbrev main_v418 : Ref sig .tc := ⟨.hbm, 501, rfl⟩
abbrev main_v419 : Ref sig .tc := ⟨.hbm, 502, rfl⟩
abbrev main_v420 : Ref sig .tc := ⟨.hbm, 503, rfl⟩
abbrev main_v421 : Ref sig .tc := ⟨.hbm, 504, rfl⟩
abbrev main_v422 : Ref sig .tc := ⟨.hbm, 505, rfl⟩
abbrev main_v423 : Ref sig .tc := ⟨.hbm, 506, rfl⟩
abbrev main_cst_73 : Ref sig .tc := ⟨.hbm, 507, rfl⟩
abbrev main_v424 : Ref sig .tc := ⟨.hbm, 508, rfl⟩
abbrev main_v425 : Ref sig .tc := ⟨.hbm, 509, rfl⟩
abbrev main_v426 : Ref sig .tc := ⟨.hbm, 510, rfl⟩
abbrev main_v427 : Ref sig .tc := ⟨.hbm, 511, rfl⟩
abbrev main_v428 : Ref sig .tc := ⟨.hbm, 512, rfl⟩
abbrev main_v429 : Ref sig .tc := ⟨.hbm, 513, rfl⟩
abbrev main_v430 : Ref sig .tc := ⟨.hbm, 514, rfl⟩
abbrev main_v431 : Ref sig .tc := ⟨.hbm, 515, rfl⟩
abbrev main_v432 : Ref sig .tc := ⟨.hbm, 516, rfl⟩
abbrev main_v433 : Ref sig .tc := ⟨.hbm, 517, rfl⟩
abbrev main_v434 : Ref sig .tc := ⟨.hbm, 518, rfl⟩
abbrev main_c_74 : Ref sig .tc := ⟨.hbm, 519, rfl⟩
abbrev main_v435 : Ref sig .tc := ⟨.hbm, 520, rfl⟩
abbrev main_v436 : Ref sig .tc := ⟨.hbm, 521, rfl⟩
abbrev main_c_75 : Ref sig .tc := ⟨.hbm, 522, rfl⟩
abbrev main_v437 : Ref sig .tc := ⟨.hbm, 523, rfl⟩
abbrev main_v438 : Ref sig .tc := ⟨.hbm, 524, rfl⟩
abbrev main_cst_76 : Ref sig .tc := ⟨.hbm, 525, rfl⟩
abbrev main_v439 : Ref sig .tc := ⟨.hbm, 526, rfl⟩
abbrev main_v440 : Ref sig .tc := ⟨.hbm, 527, rfl⟩
abbrev main_cst_77 : Ref sig .tc := ⟨.hbm, 528, rfl⟩
abbrev main_v441 : Ref sig .tc := ⟨.hbm, 529, rfl⟩
abbrev main_v442 : Ref sig .tc := ⟨.hbm, 530, rfl⟩
abbrev main_v443 : Ref sig .tc := ⟨.hbm, 531, rfl⟩
abbrev main_v444 : Ref sig .tc := ⟨.hbm, 532, rfl⟩
abbrev main_v445 : Ref sig .tc := ⟨.hbm, 533, rfl⟩
abbrev main_cst_78 : Ref sig .tc := ⟨.hbm, 534, rfl⟩
abbrev main_v446 : Ref sig .tc := ⟨.hbm, 535, rfl⟩
abbrev main_v447 : Ref sig .tc := ⟨.hbm, 536, rfl⟩
abbrev main_cst_79 : Ref sig .tc := ⟨.hbm, 537, rfl⟩
abbrev main_v448 : Ref sig .tc := ⟨.hbm, 538, rfl⟩
abbrev main_v449 : Ref sig .tc := ⟨.hbm, 539, rfl⟩
abbrev main_v450 : Ref sig .tc := ⟨.hbm, 540, rfl⟩
abbrev main_v451 : Ref sig .tc := ⟨.hbm, 541, rfl⟩
abbrev main_v452 : Ref sig .tc := ⟨.hbm, 542, rfl⟩
abbrev main_v453 : Ref sig .tc := ⟨.hbm, 543, rfl⟩
abbrev main_v454 : Ref sig .tc := ⟨.hbm, 544, rfl⟩
abbrev main_v455 : Ref sig .tc := ⟨.hbm, 545, rfl⟩
abbrev main_v456 : Ref sig .tc := ⟨.hbm, 546, rfl⟩
abbrev main_v457 : Ref sig .tc := ⟨.hbm, 547, rfl⟩
abbrev main_v458 : Ref sig .tc := ⟨.hbm, 548, rfl⟩
abbrev main_v459 : Ref sig .tc := ⟨.hbm, 549, rfl⟩
abbrev main_v460 : Ref sig .tc := ⟨.hbm, 550, rfl⟩
abbrev main_v461 : Ref sig .tc := ⟨.hbm, 551, rfl⟩
abbrev main_v462 : Ref sig .tc := ⟨.hbm, 552, rfl⟩
abbrev main_v463 : Ref sig .tc := ⟨.hbm, 553, rfl⟩
abbrev main_v464 : Ref sig .tc := ⟨.hbm, 554, rfl⟩
abbrev main_c_80 : Ref sig .tc := ⟨.hbm, 555, rfl⟩
abbrev main_v465 : Ref sig .tc := ⟨.hbm, 556, rfl⟩
abbrev main_v466 : Ref sig .tc := ⟨.hbm, 557, rfl⟩
abbrev main_c_81 : Ref sig .tc := ⟨.hbm, 558, rfl⟩
abbrev main_v467 : Ref sig .tc := ⟨.hbm, 559, rfl⟩
abbrev main_v468 : Ref sig .tc := ⟨.hbm, 560, rfl⟩
abbrev main_v469 : Ref sig .tc := ⟨.hbm, 561, rfl⟩
abbrev main_c_82 : Ref sig .tc := ⟨.hbm, 562, rfl⟩
abbrev main_v470 : Ref sig .tc := ⟨.hbm, 563, rfl⟩
abbrev main_v471 : Ref sig .tc := ⟨.hbm, 564, rfl⟩
abbrev main_v472 : Ref sig .tc := ⟨.hbm, 565, rfl⟩
abbrev main_v473 : Ref sig .tc := ⟨.hbm, 566, rfl⟩
abbrev main_v474 : Ref sig .tc := ⟨.hbm, 567, rfl⟩
abbrev main_c_83 : Ref sig .tc := ⟨.hbm, 568, rfl⟩
abbrev main_v475 : Ref sig .tc := ⟨.hbm, 569, rfl⟩
abbrev main_v476 : Ref sig .tc := ⟨.hbm, 570, rfl⟩
abbrev main_v477 : Ref sig .tc := ⟨.hbm, 571, rfl⟩
abbrev main_v478 : Ref sig .tc := ⟨.hbm, 572, rfl⟩
abbrev main_v479 : Ref sig .tc := ⟨.hbm, 573, rfl⟩
abbrev main_c_84 : Ref sig .tc := ⟨.hbm, 574, rfl⟩
abbrev main_v480 : Ref sig .tc := ⟨.hbm, 575, rfl⟩
abbrev main_v481 : Ref sig .tc := ⟨.hbm, 576, rfl⟩
abbrev main_c_85 : Ref sig .tc := ⟨.hbm, 577, rfl⟩
abbrev main_v482 : Ref sig .tc := ⟨.hbm, 578, rfl⟩
abbrev main_v483 : Ref sig .tc := ⟨.hbm, 579, rfl⟩
abbrev main_c_86 : Ref sig .tc := ⟨.hbm, 580, rfl⟩
abbrev main_v484 : Ref sig .tc := ⟨.hbm, 581, rfl⟩
abbrev main_v485 : Ref sig .tc := ⟨.hbm, 582, rfl⟩
abbrev main_c_87 : Ref sig .tc := ⟨.hbm, 583, rfl⟩
abbrev main_v486 : Ref sig .tc := ⟨.hbm, 584, rfl⟩
abbrev main_v487 : Ref sig .tc := ⟨.hbm, 585, rfl⟩
abbrev main_v488 : Ref sig .tc := ⟨.hbm, 586, rfl⟩
abbrev main_c_88 : Ref sig .tc := ⟨.hbm, 587, rfl⟩
abbrev main_v489 : Ref sig .tc := ⟨.hbm, 588, rfl⟩
abbrev main_v490 : Ref sig .tc := ⟨.hbm, 589, rfl⟩
abbrev main_c_89 : Ref sig .tc := ⟨.hbm, 590, rfl⟩
abbrev main_v491 : Ref sig .tc := ⟨.hbm, 591, rfl⟩
abbrev main_v492 : Ref sig .tc := ⟨.hbm, 592, rfl⟩
abbrev main_v493 : Ref sig .tc := ⟨.hbm, 593, rfl⟩
abbrev main_c_90 : Ref sig .tc := ⟨.hbm, 594, rfl⟩
abbrev main_v494 : Ref sig .tc := ⟨.hbm, 595, rfl⟩
abbrev main_v495 : Ref sig .tc := ⟨.hbm, 596, rfl⟩
abbrev main_c_91 : Ref sig .tc := ⟨.hbm, 597, rfl⟩
abbrev main_v496 : Ref sig .tc := ⟨.hbm, 598, rfl⟩
abbrev main_v497 : Ref sig .tc := ⟨.hbm, 599, rfl⟩
abbrev main_v498 : Ref sig .tc := ⟨.hbm, 600, rfl⟩
abbrev main_c_92 : Ref sig .tc := ⟨.hbm, 601, rfl⟩
abbrev main_v499 : Ref sig .tc := ⟨.hbm, 602, rfl⟩
abbrev main_v500 : Ref sig .tc := ⟨.hbm, 603, rfl⟩
abbrev main_c_93 : Ref sig .tc := ⟨.hbm, 604, rfl⟩
abbrev main_v501 : Ref sig .tc := ⟨.hbm, 605, rfl⟩
abbrev main_v502 : Ref sig .tc := ⟨.hbm, 606, rfl⟩
abbrev main_v503 : Ref sig .tc := ⟨.hbm, 607, rfl⟩
abbrev main_v504 : Ref sig .tc := ⟨.hbm, 608, rfl⟩
abbrev main_v505 : Ref sig .tc := ⟨.hbm, 609, rfl⟩
abbrev main_v506 : Ref sig .tc := ⟨.hbm, 610, rfl⟩
abbrev main_v507 : Ref sig .tc := ⟨.hbm, 611, rfl⟩
abbrev main_v508 : Ref sig .tc := ⟨.hbm, 612, rfl⟩
abbrev main_v509 : Ref sig .tc := ⟨.hbm, 613, rfl⟩
abbrev main_v510 : Ref sig .tc := ⟨.hbm, 614, rfl⟩
abbrev main_v511 : Ref sig .tc := ⟨.hbm, 615, rfl⟩
abbrev main_v512 : Ref sig .tc := ⟨.hbm, 616, rfl⟩
abbrev main_v513 : Ref sig .tc := ⟨.hbm, 617, rfl⟩
abbrev main_v514 : Ref sig .tc := ⟨.hbm, 618, rfl⟩
abbrev main_v515 : Ref sig .tc := ⟨.hbm, 619, rfl⟩
abbrev main_v516 : Ref sig .tc := ⟨.hbm, 620, rfl⟩
abbrev main_v517 : Ref sig .tc := ⟨.hbm, 621, rfl⟩
abbrev main_cst_94 : Ref sig .tc := ⟨.hbm, 622, rfl⟩
abbrev main_v518 : Ref sig .tc := ⟨.hbm, 623, rfl⟩
abbrev main_v519 : Ref sig .tc := ⟨.hbm, 624, rfl⟩
abbrev main_cst_95 : Ref sig .tc := ⟨.hbm, 625, rfl⟩
abbrev main_v520 : Ref sig .tc := ⟨.hbm, 626, rfl⟩
abbrev main_v521 : Ref sig .tc := ⟨.hbm, 627, rfl⟩
abbrev main_v522 : Ref sig .tc := ⟨.hbm, 628, rfl⟩
abbrev main_v523 : Ref sig .tc := ⟨.hbm, 629, rfl⟩
abbrev main_v524 : Ref sig .tc := ⟨.hbm, 630, rfl⟩
abbrev main_v525 : Ref sig .tc := ⟨.hbm, 631, rfl⟩
abbrev main_cst_96 : Ref sig .tc := ⟨.hbm, 632, rfl⟩
abbrev main_v526 : Ref sig .tc := ⟨.hbm, 633, rfl⟩
abbrev main_v527 : Ref sig .tc := ⟨.hbm, 634, rfl⟩
abbrev main_v528 : Ref sig .tc := ⟨.hbm, 635, rfl⟩
abbrev main_v529 : Ref sig .tc := ⟨.hbm, 636, rfl⟩
abbrev main_v530 : Ref sig .tc := ⟨.hbm, 637, rfl⟩
abbrev main_v531 : Ref sig .tc := ⟨.hbm, 638, rfl⟩
abbrev main_v532 : Ref sig .tc := ⟨.hbm, 639, rfl⟩
abbrev main_cst_97 : Ref sig .tc := ⟨.hbm, 640, rfl⟩
abbrev main_v533 : Ref sig .tc := ⟨.hbm, 641, rfl⟩
abbrev main_v534 : Ref sig .tc := ⟨.hbm, 642, rfl⟩
abbrev main_v535 : Ref sig .tc := ⟨.hbm, 643, rfl⟩
abbrev main_v536 : Ref sig .tc := ⟨.hbm, 644, rfl⟩
abbrev main_v537 : Ref sig .tc := ⟨.hbm, 645, rfl⟩
abbrev main_v538 : Ref sig .tc := ⟨.hbm, 646, rfl⟩
abbrev main_v539 : Ref sig .tc := ⟨.hbm, 647, rfl⟩
abbrev main_v540 : Ref sig .tc := ⟨.hbm, 648, rfl⟩
abbrev main_v541 : Ref sig .tc := ⟨.hbm, 649, rfl⟩
abbrev main_v542 : Ref sig .tc := ⟨.hbm, 650, rfl⟩
abbrev main_v543 : Ref sig .tc := ⟨.hbm, 651, rfl⟩
abbrev main_c_98 : Ref sig .tc := ⟨.hbm, 652, rfl⟩
abbrev main_v544 : Ref sig .tc := ⟨.hbm, 653, rfl⟩
abbrev main_v545 : Ref sig .tc := ⟨.hbm, 654, rfl⟩
abbrev main_c_99 : Ref sig .tc := ⟨.hbm, 655, rfl⟩
abbrev main_v546 : Ref sig .tc := ⟨.hbm, 656, rfl⟩
abbrev main_v547 : Ref sig .tc := ⟨.hbm, 657, rfl⟩
abbrev main_v548 : Ref sig .tc := ⟨.hbm, 658, rfl⟩
abbrev main_v549 : Ref sig .tc := ⟨.hbm, 659, rfl⟩
abbrev main_v550 : Ref sig .tc := ⟨.hbm, 660, rfl⟩
abbrev main_v551 : Ref sig .tc := ⟨.hbm, 661, rfl⟩
abbrev main_v552 : Ref sig .tc := ⟨.hbm, 662, rfl⟩
abbrev main_cst_100 : Ref sig .tc := ⟨.hbm, 663, rfl⟩
abbrev main_v553 : Ref sig .tc := ⟨.hbm, 664, rfl⟩
abbrev main_v554 : Ref sig .tc := ⟨.hbm, 665, rfl⟩
abbrev main_v555 : Ref sig .tc := ⟨.hbm, 666, rfl⟩
abbrev main_cst_101 : Ref sig .tc := ⟨.hbm, 667, rfl⟩
abbrev main_v556 : Ref sig .tc := ⟨.hbm, 668, rfl⟩
abbrev main_v557 : Ref sig .tc := ⟨.hbm, 669, rfl⟩
abbrev main_v558 : Ref sig .tc := ⟨.hbm, 670, rfl⟩
abbrev main_cst_102 : Ref sig .tc := ⟨.hbm, 671, rfl⟩
abbrev main_v559 : Ref sig .tc := ⟨.hbm, 672, rfl⟩
abbrev main_v560 : Ref sig .tc := ⟨.hbm, 673, rfl⟩
abbrev main_v561 : Ref sig .tc := ⟨.hbm, 674, rfl⟩
abbrev main_cst_103 : Ref sig .tc := ⟨.hbm, 675, rfl⟩
abbrev main_v562 : Ref sig .tc := ⟨.hbm, 676, rfl⟩
abbrev main_v563 : Ref sig .tc := ⟨.hbm, 677, rfl⟩
abbrev main_v564 : Ref sig .tc := ⟨.hbm, 678, rfl⟩
abbrev main_cst_104 : Ref sig .tc := ⟨.hbm, 679, rfl⟩
abbrev main_v565 : Ref sig .tc := ⟨.hbm, 680, rfl⟩
abbrev main_v566 : Ref sig .tc := ⟨.hbm, 681, rfl⟩
abbrev main_v567 : Ref sig .tc := ⟨.hbm, 682, rfl⟩
abbrev main_cst_105 : Ref sig .tc := ⟨.hbm, 683, rfl⟩
abbrev main_v568 : Ref sig .tc := ⟨.hbm, 684, rfl⟩
abbrev main_v569 : Ref sig .tc := ⟨.hbm, 685, rfl⟩
abbrev main_v570 : Ref sig .tc := ⟨.hbm, 686, rfl⟩
abbrev main_cst_106 : Ref sig .tc := ⟨.hbm, 687, rfl⟩
abbrev main_v571 : Ref sig .tc := ⟨.hbm, 688, rfl⟩
abbrev main_v572 : Ref sig .tc := ⟨.hbm, 689, rfl⟩
abbrev main_v573 : Ref sig .tc := ⟨.hbm, 690, rfl⟩
abbrev main_cst_107 : Ref sig .tc := ⟨.hbm, 691, rfl⟩
abbrev main_v574 : Ref sig .tc := ⟨.hbm, 692, rfl⟩
abbrev main_v575 : Ref sig .tc := ⟨.hbm, 693, rfl⟩
abbrev main_v576 : Ref sig .tc := ⟨.hbm, 694, rfl⟩
abbrev main_cst_108 : Ref sig .tc := ⟨.hbm, 695, rfl⟩
abbrev main_v577 : Ref sig .tc := ⟨.hbm, 696, rfl⟩
abbrev main_v578 : Ref sig .tc := ⟨.hbm, 697, rfl⟩
abbrev main_v579 : Ref sig .tc := ⟨.hbm, 698, rfl⟩
abbrev main_cst_109 : Ref sig .tc := ⟨.hbm, 699, rfl⟩
abbrev main_v580 : Ref sig .tc := ⟨.hbm, 700, rfl⟩
abbrev main_v581 : Ref sig .tc := ⟨.hbm, 701, rfl⟩
abbrev main_v582 : Ref sig .tc := ⟨.hbm, 702, rfl⟩
abbrev main_cst_110 : Ref sig .tc := ⟨.hbm, 703, rfl⟩
abbrev main_v583 : Ref sig .tc := ⟨.hbm, 704, rfl⟩
abbrev main_v584 : Ref sig .tc := ⟨.hbm, 705, rfl⟩
abbrev main_v585 : Ref sig .tc := ⟨.hbm, 706, rfl⟩
abbrev main_cst_111 : Ref sig .tc := ⟨.hbm, 707, rfl⟩
abbrev main_v586 : Ref sig .tc := ⟨.hbm, 708, rfl⟩
abbrev main_v587 : Ref sig .tc := ⟨.hbm, 709, rfl⟩
abbrev main_v588 : Ref sig .tc := ⟨.hbm, 710, rfl⟩
abbrev main_cst_112 : Ref sig .tc := ⟨.hbm, 711, rfl⟩
abbrev main_v589 : Ref sig .tc := ⟨.hbm, 712, rfl⟩
abbrev main_v590 : Ref sig .tc := ⟨.hbm, 713, rfl⟩
abbrev main_v591 : Ref sig .tc := ⟨.hbm, 714, rfl⟩
abbrev main_cst_113 : Ref sig .tc := ⟨.hbm, 715, rfl⟩
abbrev main_v592 : Ref sig .tc := ⟨.hbm, 716, rfl⟩
abbrev main_v593 : Ref sig .tc := ⟨.hbm, 717, rfl⟩
abbrev main_v594 : Ref sig .tc := ⟨.hbm, 718, rfl⟩
abbrev main_cst_114 : Ref sig .tc := ⟨.hbm, 719, rfl⟩
abbrev main_v595 : Ref sig .tc := ⟨.hbm, 720, rfl⟩
abbrev main_v596 : Ref sig .tc := ⟨.hbm, 721, rfl⟩
abbrev main_v597 : Ref sig .tc := ⟨.hbm, 722, rfl⟩
abbrev main_cst_115 : Ref sig .tc := ⟨.hbm, 723, rfl⟩
abbrev main_v598 : Ref sig .tc := ⟨.hbm, 724, rfl⟩
abbrev main_v599 : Ref sig .tc := ⟨.hbm, 725, rfl⟩
abbrev main_v600 : Ref sig .tc := ⟨.hbm, 726, rfl⟩
abbrev main_cst_116 : Ref sig .tc := ⟨.hbm, 727, rfl⟩
abbrev main_v601 : Ref sig .tc := ⟨.hbm, 728, rfl⟩
abbrev main_v602 : Ref sig .tc := ⟨.hbm, 729, rfl⟩
abbrev main_v603 : Ref sig .tc := ⟨.hbm, 730, rfl⟩
abbrev main_cst_117 : Ref sig .tc := ⟨.hbm, 731, rfl⟩
abbrev main_v604 : Ref sig .tc := ⟨.hbm, 732, rfl⟩
abbrev main_v605 : Ref sig .tc := ⟨.hbm, 733, rfl⟩
abbrev main_v606 : Ref sig .tc := ⟨.hbm, 734, rfl⟩
abbrev main_v607 : Ref sig .tc := ⟨.hbm, 735, rfl⟩
abbrev main_v608 : Ref sig .tc := ⟨.hbm, 736, rfl⟩
abbrev main_v609 : Ref sig .tc := ⟨.hbm, 737, rfl⟩
abbrev main_v610 : Ref sig .tc := ⟨.hbm, 738, rfl⟩
abbrev main_v611 : Ref sig .tc := ⟨.hbm, 739, rfl⟩
abbrev main_v612 : Ref sig .tc := ⟨.hbm, 740, rfl⟩
abbrev main_v613 : Ref sig .tc := ⟨.hbm, 741, rfl⟩
abbrev main_v614 : Ref sig .tc := ⟨.hbm, 742, rfl⟩
abbrev main_v615 : Ref sig .tc := ⟨.hbm, 743, rfl⟩
abbrev main_v616 : Ref sig .tc := ⟨.hbm, 744, rfl⟩
abbrev main_v617 : Ref sig .tc := ⟨.hbm, 745, rfl⟩
abbrev main_v618 : Ref sig .tc := ⟨.hbm, 746, rfl⟩
abbrev main_v619 : Ref sig .tc := ⟨.hbm, 747, rfl⟩
abbrev main_v620 : Ref sig .tc := ⟨.hbm, 748, rfl⟩
abbrev main_v621 : Ref sig .tc := ⟨.hbm, 749, rfl⟩
abbrev main_v622 : Ref sig .tc := ⟨.hbm, 750, rfl⟩
abbrev main_v623 : Ref sig .tc := ⟨.hbm, 751, rfl⟩
abbrev main_v624 : Ref sig .tc := ⟨.hbm, 752, rfl⟩
abbrev main_v625 : Ref sig .tc := ⟨.hbm, 753, rfl⟩
abbrev main_v626 : Ref sig .tc := ⟨.hbm, 754, rfl⟩
abbrev main_v627 : Ref sig .tc := ⟨.hbm, 755, rfl⟩
abbrev main_v628 : Ref sig .tc := ⟨.hbm, 756, rfl⟩

abbrev nD : Nat := 1
abbrev τ : Topo := Topo.v7x

variable {F : FTy → Type} [FloatOps F]
-- ==== Proof.Decode.lean ====
/-
  The precondition read word by word: the block table is the literal one and every window base lies inside its frame.
-/
module

public import proofs.«01_k».proof.Pre_tables_in_range
public import Idealize.ShloMosaic.Lib.StableHlo.Predicate
public import Idealize.ShloMosaic.Lib.Pointwise

@[expose] public section

noncomputable section

namespace Cert.Tables

open Idealize.ShloMosaic Cert.Pre_tables_in_range

/-- The largest base of each of the four rows of the base table. -/
def top : Fin 4 → ℕ := ![264, 264, 88, 88]

/-- The entry of the block table at row `g`, column `r`. -/
def blk (g : Fin 20) (r : Fin 3) : ℕ := (lit0 ⟨3 * g.val + r.val, by omega⟩).toNat

theorem blk_src : ∀ g, blk g 0 < 8 := by decide +kernel
theorem blk_tgt : ∀ g, blk g 1 < 8 := by decide +kernel
theorem blk_row : ∀ g, blk g 2 < 20 := by decide +kernel
/-- Every row of the result is some block's. -/
theorem row_onto : ∀ r : Fin 20, ∃ g, blk g 2 = r.val := by decide +kernel
/-- No two blocks write one row. -/
theorem row_inj : ∀ g g', blk g 2 = blk g' 2 → g = g' := by decide +kernel

theorem and_one {a b : BitVec 1} : IntOp.andi a b = 1#1 ↔ a = 1#1 ∧ b = 1#1 := by
  revert a b; decide

theorem pos_eq (g : Fin 20) (r : Fin 3) : S20x3.rowMajor (ix2 g r) = (⟨3 * g.val + r.val, by omega⟩ : Fin 60) := by
  apply Fin.ext
  refine (Shape.rowMajor_val_two _).trans ?_
  show g.val * 3 + r.val = 3 * g.val + r.val
  omega

theorem le_of_bounds {a b : BitVec 32} (hb : b.toNat < 2 ^ 31) (h0 : IntOp.cmpi .sge a 0#32 = 1#1) (h1 : IntOp.cmpi .sle a b = 1#1) :
    a.toNat ≤ b.toNat := by
  have ha : a.toNat < 2 ^ 31 := by
    simp only [IntOp.cmpi, StableHlo.Predicate.ofBool_eq_one_iff, BitVec.sle, BitVec.toInt_eq_msb_cond, decide_eq_true_eq] at h0
    by_contra hn
    have hm : a.msb = true := BitVec.msb_eq_true_iff_two_mul_ge.mpr (by omega)
    have := a.isLt
    rw [hm] at h0
    simp at h0
    omega
  exact (StableHlo.Predicate.sle_iff_toNat ha hb).1 h1

variable {F : FTy → Type} [FloatOps F] [Facts]

/-- What the precondition says: the first table word for word, the second within its bounds. -/
theorem decode {x0 : FVec F S2x4x64x256x256 .f32} {x1 : FVec F S2048x1600 .f32} {x2 : FVec F S2x4x256x2 .f32} {x3 : FVec F S2x4x256x1 .f32}
    {x4 : FVec F S2x4x7 .f32} {a0 : IVec S20x3 32} {a1 : IVec S4x20x256 32} {x7 : FVec F S20x256x4 .f32}
    (h : fn x0 x1 x2 x3 x4 a0 a1 x7 = (fun _ => 1#1)) :
    (∀ g r, (a0 (ix2 g r)).toNat = blk g r) ∧ ∀ r g e, (a1 (ix3 r g e)).toNat ≤ top r := by
  have key (y : S4x20x256.Idx) := congrFun h y
  unfold fn at key
  pointwise at key
  simp only [and_one, StableHlo.Predicate.cmpi_eq_iff] at key
  constructor
  · intro g r
    have e := (key (ix3 0 g 0)).2
    unfold blk
    refine congrArg BitVec.toNat (Eq.trans ?_ (congrArg lit0 (pos_eq g r)))
    match r with
    | 0 => exact e.1.1
    | 1 => exact e.1.2
    | 2 => exact e.2
  · intro r g e
    have k := (key (ix3 r g e)).1
    have p : S4.rowMajor (ix1 r) = r := Fin.ext (Shape.rowMajor_val_one _)
    rw [show (ix3 r g e : S4x20x256.Idx) 0 = r from rfl, p] at k
    refine (le_of_bounds ?_ k.1 k.2).trans ?_
    · clear k p; revert r; decide
    · clear k p; revert r; decide

end Cert.Tables

end
-- ==== Proof.Flow.lean ====
/-
  A window of copies in flight, as a separation-logic family: 256 slots filled in order through 16 cells, slot `e` on
  cell `e % 16`, at most 16 copies in flight at once. `At lo hi`: slots below `lo` have landed, slots from `lo` to `hi`
  are in flight, the rest are untouched; a cell is idle when no slot of its residue is in flight.
-/
module

public import Idealize.ShloMosaic.Lib.Ring
public import Idealize.ShloMosaic.Lib.Tactic

@[expose] public section

noncomputable section

namespace Cert.Flow

open Idealize.ShloMosaic
open Idealize.SL Idealize.SL.RA Idealize.SL.BI
open scoped Idealize.SL.BI
open Idealize.SL.BI.BIBase Idealize.SL.BI.Laws Idealize.SL.ProofMode

variable {M : Type} [URA M]
variable (Ld Fl En : Fin 256 → sProp M) (Id : Fin 16 → sProp M)

/-- What slot `e` holds when slots below `lo` have landed and slots below `hi` have been issued. -/
def slotAt (lo hi : ℕ) (e : Fin 256) : sProp M :=
  if e.val < lo then Ld e else if e.val < hi then Fl e else En e

/-- Cell `j` is busy: a copy of its residue is in flight. -/
def Busy (lo hi : ℕ) (j : Fin 16) : Prop := ∃ e : ℕ, lo ≤ e ∧ e < hi ∧ e % 16 = j.val

open Classical in
/-- What cell `j` holds beside the slots: its idle assertion, unless a copy in flight has it. -/
def cellAt (lo hi : ℕ) (j : Fin 16) : sProp M := if Busy lo hi j then iprop(emp) else Id j

/-- The whole window. -/
def At (lo hi : ℕ) : sProp M :=
  iprop(bigSep Finset.univ (slotAt Ld Fl En lo hi) ∗ bigSep Finset.univ (cellAt Id lo hi))

/-- The cell a slot completes on. -/
abbrev cellOf (e : Fin 256) : Fin 16 := ⟨e.val % 16, Nat.mod_lt _ (by decide)⟩

theorem cellAt_idle {lo hi : ℕ} {j : Fin 16} (h : ¬ Busy lo hi j) : cellAt Id lo hi j = Id j := by
  unfold cellAt; exact if_neg h
theorem cellAt_busy {lo hi : ℕ} {j : Fin 16} (h : Busy lo hi j) : cellAt Id lo hi j = iprop(emp) := by
  unfold cellAt; exact if_pos h
theorem cellAt_congr {lo hi lo' hi' : ℕ} {j : Fin 16} (h : Busy lo hi j ↔ Busy lo' hi' j) :
    cellAt Id lo hi j = cellAt Id lo' hi' j := by
  by_cases a : Busy lo hi j
  · rw [cellAt_busy Id a, cellAt_busy Id (h.mp a)]
  · rw [cellAt_idle Id a, cellAt_idle Id fun b => a (h.mpr b)]

/-- One member of a finite family set apart. -/
theorem take {ι : Type} [Fintype ι] [DecidableEq ι] (Φ : ι → sProp M) (i : ι) :
    bigSep Finset.univ Φ = iprop(Φ i ∗ bigSep (Finset.univ.erase i) Φ) := BI.bigSep_erase (Finset.mem_univ i)

/-- ISSUE: slot `e = hi` is untouched and its cell idle; given back in flight, the window has grown by one. -/
theorem issue (lo : ℕ) (e : Fin 256) (h1 : lo ≤ e.val) (h2 : e.val < lo + 16) :
    At Ld Fl En Id lo e.val ⊢ iprop((En e ∗ Id (cellOf e)) ∗ (Fl e -∗ At Ld Fl En Id lo (e.val + 1))) := by
  have hs : slotAt Ld Fl En lo e.val e = En e := by
    unfold slotAt; rw [if_neg (by omega), if_neg (by omega)]
  have hs' : slotAt Ld Fl En lo (e.val + 1) e = Fl e := by
    unfold slotAt; rw [if_neg (by omega), if_pos (by omega)]
  have hr : bigSep (Finset.univ.erase e) (slotAt Ld Fl En lo e.val) = bigSep (Finset.univ.erase e) (slotAt Ld Fl En lo (e.val + 1)) :=
    BI.bigSep_congr fun k hk => by
      have : k.val ≠ e.val := fun h => Finset.ne_of_mem_erase hk (Fin.ext h)
      unfold slotAt
      by_cases a : k.val < lo
      · rw [if_pos a, if_pos a]
      · rw [if_neg a, if_neg a]
        by_cases b : k.val < e.val
        · rw [if_pos b, if_pos (by omega)]
        · rw [if_neg b, if_neg (by omega)]
  have hc : cellAt Id lo e.val (cellOf e) = Id (cellOf e) :=
    cellAt_idle Id (fun ⟨x, a, b, d⟩ => by have : x % 16 = e.val % 16 := d; omega)
  have hc' : cellAt Id lo (e.val + 1) (cellOf e) = iprop(emp) :=
    cellAt_busy Id ⟨e.val, h1, by omega, rfl⟩
  have hcr : bigSep (Finset.univ.erase (cellOf e)) (cellAt Id lo e.val) = bigSep (Finset.univ.erase (cellOf e)) (cellAt Id lo (e.val + 1)) :=
    BI.bigSep_congr fun k hk => by
      have hne : k.val ≠ e.val % 16 := fun h => Finset.ne_of_mem_erase hk (Fin.ext h)
      refine cellAt_congr Id ⟨fun ⟨x, a, b, d⟩ => ⟨x, a, by omega, d⟩, fun ⟨x, a, b, d⟩ => ⟨x, a, ?_, d⟩⟩
      by_contra hh
      have : x = e.val := by omega
      subst this; exact hne d.symm
  unfold At
  rw [take (slotAt Ld Fl En lo e.val) e, take (cellAt Id lo e.val) (cellOf e),
    take (slotAt Ld Fl En lo (e.val + 1)) e, take (cellAt Id lo (e.val + 1)) (cellOf e),
    hs, hs', hc, hc', hr, hcr]
  iintro ⟨⟨H1, H2⟩, ⟨H3, H4⟩⟩
  isplitl [H1 H3]
  · isplitl [H1]; · iexact H1
    iexact H3
  iintro H
  isplitl [H H2]
  · isplitl [H]; · iexact H
    iexact H2
  isplitr [H4]
  · iempintro
  iexact H4

/-- WAIT: slot `e = lo` is in flight; given back landed with its cell idle, the window has shrunk by one. -/
theorem wait (hi : ℕ) (e : Fin 256) (h1 : e.val < hi) (h2 : hi ≤ e.val + 16) :
    At Ld Fl En Id e.val hi ⊢ iprop(Fl e ∗ ((Ld e ∗ Id (cellOf e)) -∗ At Ld Fl En Id (e.val + 1) hi)) := by
  have hs : slotAt Ld Fl En e.val hi e = Fl e := by
    unfold slotAt; rw [if_neg (by omega), if_pos (by omega)]
  have hs' : slotAt Ld Fl En (e.val + 1) hi e = Ld e := by
    unfold slotAt; rw [if_pos (by omega)]
  have hr : bigSep (Finset.univ.erase e) (slotAt Ld Fl En e.val hi) = bigSep (Finset.univ.erase e) (slotAt Ld Fl En (e.val + 1) hi) :=
    BI.bigSep_congr fun k hk => by
      have : k.val ≠ e.val := fun h => Finset.ne_of_mem_erase hk (Fin.ext h)
      unfold slotAt
      by_cases a : k.val < e.val
      · rw [if_pos a, if_pos (by omega)]
      · rw [if_neg a, if_neg (show ¬ k.val < e.val + 1 by omega)]
  have hc : cellAt Id e.val hi (cellOf e) = iprop(emp) :=
    cellAt_busy Id ⟨e.val, le_rfl, h1, rfl⟩
  have hc' : cellAt Id (e.val + 1) hi (cellOf e) = Id (cellOf e) :=
    cellAt_idle Id (fun ⟨x, a, b, d⟩ => by have : x % 16 = e.val % 16 := d; omega)
  have hcr : bigSep (Finset.univ.erase (cellOf e)) (cellAt Id e.val hi) = bigSep (Finset.univ.erase (cellOf e)) (cellAt Id (e.val + 1) hi) :=
    BI.bigSep_congr fun k hk => by
      have hne : k.val ≠ e.val % 16 := fun h => Finset.ne_of_mem_erase hk (Fin.ext h)
      refine cellAt_congr Id ⟨fun ⟨x, a, b, d⟩ => ⟨x, ?_, b, d⟩, fun ⟨x, a, b, d⟩ => ⟨x, by omega, b, d⟩⟩
      by_contra hh
      have : x = e.val := by omega
      subst this; exact hne d.symm
  unfold At
  rw [take (slotAt Ld Fl En e.val hi) e, take (cellAt Id e.val hi) (cellOf e),
    take (slotAt Ld Fl En (e.val + 1) hi) e, take (cellAt Id (e.val + 1) hi) (cellOf e),
    hs, hs', hc, hc', hr, hcr]
  iintro ⟨⟨H1, H2⟩, ⟨H3, H4⟩⟩
  iclear H3
  isplitl [H1]; · iexact H1
  iintro ⟨HL, HI⟩
  isplitl [HL H2]
  · isplitl [HL]; · iexact HL
    iexact H2
  isplitl [HI]; · iexact HI
  iexact H4

/-- Before any copy every slot is untouched and every cell idle. -/
theorem at_start : At Ld Fl En Id 0 0 = iprop(bigSep Finset.univ En ∗ bigSep Finset.univ Id) := by
  unfold At
  rw [BI.bigSep_congr (Φ := slotAt Ld Fl En 0 0) (Ψ := En) fun e _ => by
      unfold slotAt; rw [if_neg (by omega), if_neg (by omega)],
    BI.bigSep_congr (Φ := cellAt Id 0 0) (Ψ := Id) fun j _ =>
      cellAt_idle Id (fun ⟨x, a, b, d⟩ => by omega)]

/-- After all of them every slot has landed and every cell is idle. -/
theorem at_end : At Ld Fl En Id 256 256 = iprop(bigSep Finset.univ Ld ∗ bigSep Finset.univ Id) := by
  unfold At
  rw [BI.bigSep_congr (Φ := slotAt Ld Fl En 256 256) (Ψ := Ld) fun e _ => by
      unfold slotAt; rw [if_pos e.isLt],
    BI.bigSep_congr (Φ := cellAt Id 256 256) (Ψ := Id) fun j _ =>
      cellAt_idle Id (fun ⟨x, a, b, d⟩ => by omega)]

end Cert.Flow

end
-- ==== Proof.Ideal.Offsets.lean ====
/-
  The offsets the edge kernel computes by words, as numbers: the slot, the cell and the table entry of each trip.
-/
module

public import proofs.«01_k».proof.Proof.Gen.KernelIdeal.Launch
public import proofs.«01_k».proof.Proof.Gen.KernelIdeal.Skeleton
public import proofs.«01_k».proof.Proof.Flow

@[expose] public section

set_option maxRecDepth 16384

noncomputable section

namespace Cert.KernelIdeal.Edge

open Cert.KernelIdeal Cert.KernelIdeal.Gen
open Idealize.ShloMosaic Idealize.ShloMosaic.TcCoe

theorem trips1 : k1_t1_loop.trips = 256 := by decide
theorem trips2 : k1_t2_loop.trips = 16 := by decide

theorem cond1_iff : ∀ t : Fin k1_t1_loop.trips, k1_cond1 t = 1#1 ↔ 16 ≤ t.val := by decide +kernel

theorem off17_eq : ∀ t : Fin k1_t1_loop.trips, k1_off17 t = ![t.val, 0, 0, 0] := by decide +kernel
theorem off22_eq : ∀ t : Fin k1_t1_loop.trips, k1_off22 t = ![t.val, 0, 0, 0] := by decide +kernel
theorem off16_eq : ∀ t : Fin k1_t1_loop.trips, k1_off16 t = ![0, t.val % 16] := by decide +kernel
theorem off21_eq : ∀ t : Fin k1_t1_loop.trips, k1_off21 t = ![1, t.val % 16] := by decide +kernel
theorem off7_eq : ∀ t : Fin k1_t1_loop.trips, 16 ≤ t.val → k1_off7 t = ![t.val - 16, 0, 0, 0] := by decide +kernel
theorem off12_eq : ∀ t : Fin k1_t1_loop.trips, 16 ≤ t.val → k1_off12 t = ![t.val - 16, 0, 0, 0] := by decide +kernel
theorem off6_eq : ∀ t : Fin k1_t1_loop.trips, 16 ≤ t.val → k1_off6 t = ![0, (t.val - 16) % 16] := by decide +kernel
theorem off11_eq : ∀ t : Fin k1_t1_loop.trips, 16 ≤ t.val → k1_off11 t = ![1, (t.val - 16) % 16] := by decide +kernel

theorem off27_eq : ∀ t : Fin k1_t2_loop.trips, k1_off27 t = ![240 + t.val, 0, 0, 0] := by decide +kernel
theorem off32_eq : ∀ t : Fin k1_t2_loop.trips, k1_off32 t = ![240 + t.val, 0, 0, 0] := by decide +kernel
theorem off26_eq : ∀ t : Fin k1_t2_loop.trips, k1_off26 t = ![0, (240 + t.val) % 16] := by decide +kernel
theorem off31_eq : ∀ t : Fin k1_t2_loop.trips, k1_off31 t = ![1, (240 + t.val) % 16] := by decide +kernel

theorem wordOfRow : ∀ n : Fin 20, (Scalar.indexCast (BitVec.ofNat 32 n.val) : Index).toNat = n.val := by decide +kernel

theorem coordWord (i : grid1.Coords) : (Scalar.indexCast (BitVec.ofNat 32 (i 0).val) : Index).toNat = (i 0).val :=
  wordOfRow ⟨(i 0).val, (i 0).isLt⟩

/-- A trip's word, and the word of the slot sixteen trips back. -/
theorem tripWord : ∀ t : Fin k1_t1_loop.trips, (Scalar.indexCast (Scf.iv (0#32) (1#32) t) : Index).toNat = t.val := by decide +kernel
theorem backWord : ∀ t : Fin k1_t1_loop.trips, 16 ≤ t.val → (Scalar.indexCast (Scalar.subi (Scf.iv (0#32) (1#32) t) 16#32) : Index).toNat = t.val - 16 := by decide +kernel
theorem drainWord : ∀ t : Fin k1_t2_loop.trips, (Scalar.indexCast (Scf.iv (240#32) (1#32) t) : Index).toNat = 240 + t.val := by decide +kernel

theorem off14_eq (i : grid1.Coords) (t : Fin k1_t1_loop.trips) : k1_off14 i t = ![0, (i 0).val, t.val] := by
  unfold k1_off14; simp only [coordWord, tripWord]
theorem off15_eq (i : grid1.Coords) (t : Fin k1_t1_loop.trips) : k1_off15 i t = ![1, (i 0).val, t.val] := by
  unfold k1_off15; simp only [coordWord, tripWord]
theorem off19_eq (i : grid1.Coords) (t : Fin k1_t1_loop.trips) : k1_off19 i t = ![2, (i 0).val, t.val] := by
  unfold k1_off19; simp only [coordWord, tripWord]
theorem off20_eq (i : grid1.Coords) (t : Fin k1_t1_loop.trips) : k1_off20 i t = ![3, (i 0).val, t.val] := by
  unfold k1_off20; simp only [coordWord, tripWord]
theorem off4_eq (i : grid1.Coords) (t : Fin k1_t1_loop.trips) (h : 16 ≤ t.val) : k1_off4 i t = ![0, (i 0).val, t.val - 16] := by
  unfold k1_off4; simp only [coordWord, backWord t h]
theorem off5_eq (i : grid1.Coords) (t : Fin k1_t1_loop.trips) (h : 16 ≤ t.val) : k1_off5 i t = ![1, (i 0).val, t.val - 16] := by
  unfold k1_off5; simp only [coordWord, backWord t h]
theorem off9_eq (i : grid1.Coords) (t : Fin k1_t1_loop.trips) (h : 16 ≤ t.val) : k1_off9 i t = ![2, (i 0).val, t.val - 16] := by
  unfold k1_off9; simp only [coordWord, backWord t h]
theorem off10_eq (i : grid1.Coords) (t : Fin k1_t1_loop.trips) (h : 16 ≤ t.val) : k1_off10 i t = ![3, (i 0).val, t.val - 16] := by
  unfold k1_off10; simp only [coordWord, backWord t h]
theorem off24_eq (i : grid1.Coords) (t : Fin k1_t2_loop.trips) : k1_off24 i t = ![0, (i 0).val, 240 + t.val] := by
  unfold k1_off24; simp only [coordWord, drainWord]
theorem off25_eq (i : grid1.Coords) (t : Fin k1_t2_loop.trips) : k1_off25 i t = ![1, (i 0).val, 240 + t.val] := by
  unfold k1_off25; simp only [coordWord, drainWord]
theorem off29_eq (i : grid1.Coords) (t : Fin k1_t2_loop.trips) : k1_off29 i t = ![2, (i 0).val, 240 + t.val] := by
  unfold k1_off29; simp only [coordWord, drainWord]
theorem off30_eq (i : grid1.Coords) (t : Fin k1_t2_loop.trips) : k1_off30 i t = ![3, (i 0).val, 240 + t.val] := by
  unfold k1_off30; simp only [coordWord, drainWord]
theorem off2_eq (i : grid1.Coords) : k1_off2 i = ![(i 0).val, 1] := by
  unfold k1_off2; simp only [coordWord]
theorem off1_eq (i : grid1.Coords) : k1_off1 i = ![(i 0).val, 0] := by
  unfold k1_off1; simp only [coordWord]
theorem off3_eq (i : grid1.Coords) : k1_off3 i = ![(i 0).val, 2] := by
  unfold k1_off3; simp only [coordWord]

end Cert.KernelIdeal.Edge

end
-- ==== Proof.Ideal.Slots.lean ====
/-
  The edge kernel's two rings of patch copies: the slots of a scratch, the cells, the windows of a feature map, and what
  each is held as before a copy, in flight, and landed.
-/
module

public import proofs.«01_k».proof.Proof.Ideal.Offsets
public import Idealize.ShloMosaic.Lib.Pipeline.FrameBody
public import Idealize.ShloMosaic.Lib.Ring
public import Idealize.ShloMosaic.Lib.Tactic

@[expose] public section

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Names -/

/-- The slot of the first scratch at an offset; of the second. -/
abbrev pA (off : Fin 4 → Nat) (h : ∀ a, off a + S1x8x8x64.size a ≤ S256x8x8x64.size a) : Memref sig .tc .vmem S8x8x64 .f32 :=
  ((Memref.whole cc1_scratch0).slice (Rect.unit (s := S256x8x8x64) off S1x8x8x64.size h) (fun _ => rfl)).squeeze S8x8x64 squeezes_S1x8x8x64_S8x8x64
abbrev pB (off : Fin 4 → Nat) (h : ∀ a, off a + S1x8x8x64.size a ≤ S256x8x8x64.size a) : Memref sig .tc .vmem S8x8x64 .f32 :=
  ((Memref.whole cc1_scratch1).slice (Rect.unit (s := S256x8x8x64) off S1x8x8x64.size h) (fun _ => rfl)).squeeze S8x8x64 squeezes_S1x8x8x64_S8x8x64
/-- The completion cell at an offset of the semaphore array. -/
abbrev pC (off : Fin 2 → Nat) (h : ∀ a, off a + S1x1.size a ≤ S2x16.size a) : SemLoc sig :=
  .dma ((cc1_scratch2.slice (Rect.unit (s := S2x16) off S1x1.size h)).squeeze S_ squeezes_S1x1_S_).sem
/-- The window of the first map at an offset; of the second. -/
abbrev wA (off : Fin 4 → Nat) (h : ∀ a, off a + S1x8x8x64.size a ≤ S8x272x272x64.size a) : Memref sig .tc .hbm S8x8x64 .f32 :=
  ((Memref.whole main_v3).slice (Rect.unit (s := S8x272x272x64) off S1x8x8x64.size h) (fun _ => rfl)).squeeze S8x8x64 squeezes_S1x8x8x64_S8x8x64
abbrev wB (off : Fin 4 → Nat) (h : ∀ a, off a + S1x8x8x64.size a ≤ S8x96x96x64.size a) : Memref sig .tc .hbm S8x8x64 .f32 :=
  ((Memref.whole main_v4).slice (Rect.unit (s := S8x96x96x64) off S1x8x8x64.size h) (fun _ => rfl)).squeeze S8x8x64 squeezes_S1x8x8x64_S8x8x64

/-! ## What is held -/

/-- A slot nothing is known of. -/
def Slot (c : Dev nD) (s : Memref sig .tc .vmem S8x8x64 .f32) : sProp 𝕄 :=
  iprop(∃ f, s.view.loc (c : Thread nD τ) ↦[s.view.set]{fullShare} f)

/-- What a finished copy of `w` (an array holding `fa`) into the slot `s` leaves there. -/
def Full (c : Dev nD) (s : Memref sig .tc .vmem S8x8x64 .f32) (w : Memref sig .tc .hbm S8x8x64 .f32) (fa : Buf (Elt F) (w.view.loc (c : Thread nD τ))) : sProp 𝕄 :=
  iprop(∃ f, s.view.loc (c : Thread nD τ) ↦[s.view.set]{fullShare}
    s.view.writes (Elt F) f [⟨Rect.whole S8x8x64, ReadAs.same.apply (w.view.read (Elt F) fa)⟩])

/-- An idle cell, with its read share of the array. -/
def Idle (c : Dev nD) (x : SemLoc sig) (q : PosShare TreeShare) {s : Shape} (w : Memref sig .tc .hbm s .f32)
    (fa : Buf (Elt F) (w.view.loc (c : Thread nD τ))) : sProp 𝕄 :=
  iprop(semVal ((c : Thread nD τ), x) 0 ∗ (w.view.loc (c : Thread nD τ) ↦[Finset.univ]{q} fa))

/-- A copy of `w` into `s` in flight on the cell `x`. -/
def Fly (c : Dev nD) (s : Memref sig .tc .vmem S8x8x64 .f32) (x : SemLoc sig) (q : PosShare TreeShare) (w : Memref sig .tc .hbm S8x8x64 .f32)
    (fa : Buf (Elt F) (w.view.loc (c : Thread nD τ))) : sProp 𝕄 :=
  iprop((∃ f, Transfers.Flight (countersEmb (U := Pipeline.UD sig nD τ)) (c : Thread nD τ) x default 1024
      iprop((s.view.loc (c : Thread nD τ) ↦[s.view.set]{fullShare}
          s.view.writes (Elt F) f [⟨Rect.whole S8x8x64, ReadAs.same.apply (w.view.read (Elt F) fa)⟩])
        ∗ (w.view.loc (c : Thread nD τ) ↦[w.view.set]{q} fa)))
    ∗ (w.view.loc (c : Thread nD τ) ↦[Finset.univ \ w.view.set]{q} fa))

/-- The body's instance of the table: its words are read at half a share. -/
abbrev Tab (c : Dev nD) (T1 : Buf (Elt F) ((Memref.whole main_arg6).view.loc (c : Thread nD τ))) : sProp 𝕄 :=
  iprop((Memref.whole main_arg6).view.loc (c : Thread nD τ) ↦[(Memref.whole main_arg6).view.set]{fullShare} T1)

/-! ## The table's words and the copies they place -/

theorem pA_congr {o o' : Fin 4 → Nat} (e : o = o') (h h') : pA o h = pA o' h' := by subst e; rfl
theorem pB_congr {o o' : Fin 4 → Nat} (e : o = o') (h h') : pB o h = pB o' h' := by subst e; rfl
theorem pC_congr {o o' : Fin 2 → Nat} (e : o = o') (h h') : pC o h = pC o' h' := by subst e; rfl

/-- The table's word at an offset. -/
def wordAt (c : Dev nD) (T1 : Buf (Elt F) ((Memref.whole main_arg6).view.loc (c : Thread nD τ))) (o : Fin 3 → Nat)
    (h : ∀ a, o a + S1x1x1.size a ≤ S4x20x256.size a) : Elt F .i32 :=
  (Memref.whole main_arg6).view.readAt (Elt F) (Rect.unit (s := S4x20x256) o S1x1x1.size h).toLoadRect T1
    (Shape.Idx.first (by show 0 < S1x1x1.numel; rw [numel1_S1x1x1]; exact Nat.one_pos))

theorem wordAt_congr (c : Dev nD) (T1 : Buf (Elt F) ((Memref.whole main_arg6).view.loc (c : Thread nD τ))) {o o' : Fin 3 → Nat} (e : o = o') (h h') :
    wordAt c T1 o h = wordAt c T1 o' h' := by subst e; rfl

theorem rowInb (r : Fin 4) (i : grid1.Coords) (e : Fin 256) : ∀ a, (![r.val, (i 0).val, e.val] : Fin 3 → Nat) a + S1x1x1.size a ≤ S4x20x256.size a := by
  have h0 := r.isLt; have h1 : (i 0).val < 20 := (i 0).isLt; have h2 := e.isLt
  intro a; fin_cases a
  · show r.val + 1 ≤ 4; omega
  · show (i 0).val + 1 ≤ 20; omega
  · show e.val + 1 ≤ 256; omega

/-- Row `r` of the table for patch `e` of block `i`. -/
def tw (c : Dev nD) (T1 : Buf (Elt F) ((Memref.whole main_arg6).view.loc (c : Thread nD τ))) (i : grid1.Coords) (r : Fin 4) (e : Fin 256) : Elt F .i32 :=
  wordAt c T1 ![r.val, (i 0).val, e.val] (rowInb r i e)

/-- Every patch of block `i` lies inside its frame's two maps. -/
def Inside (c : Dev nD) (T1 : Buf (Elt F) ((Memref.whole main_arg6).view.loc (c : Thread nD τ))) (i : grid1.Coords) (v : Elt F .i32) : Prop :=
  ∀ e : Fin 256, k1_chk3 v (tw c T1 i 0 e) (tw c T1 i 1 e) ∧ k1_chk4 v (tw c T1 i 2 e) (tw c T1 i 3 e)

theorem slotInb (e : Fin 256) : ∀ a, (![e.val, 0, 0, 0] : Fin 4 → Nat) a + S1x8x8x64.size a ≤ S256x8x8x64.size a := by
  have h2 := e.isLt
  intro a; fin_cases a
  · show e.val + 1 ≤ 256; omega
  · show 0 + 8 ≤ 8; omega
  · show 0 + 8 ≤ 8; omega
  · show 0 + 64 ≤ 64; omega

theorem cellInb (r : Fin 2) (j : Fin 16) : ∀ a, (![r.val, j.val] : Fin 2 → Nat) a + S1x1.size a ≤ S2x16.size a := by
  have h0 := r.isLt; have h2 := j.isLt
  intro a; fin_cases a
  · show r.val + 1 ≤ 2; omega
  · show j.val + 1 ≤ 16; omega

section Rings
variable (c : Dev nD) (T1 : Buf (Elt F) ((Memref.whole main_arg6).view.loc (c : Thread nD τ)))
  (fA : Buf (Elt F) ((Memref.whole main_v3).view.loc (c : Thread nD τ)))
  (fB : Buf (Elt F) ((Memref.whole main_v4).view.loc (c : Thread nD τ)))
  (i : grid1.Coords) (v : Elt F .i32) (H : Inside c T1 i v)

/-- The first ring's slots and cells, and the windows its copies read; the second's. -/
abbrev sA (e : Fin 256) := pA ![e.val, 0, 0, 0] (slotInb e)
abbrev sB (e : Fin 256) := pB ![e.val, 0, 0, 0] (slotInb e)
abbrev xA (j : Fin 16) : SemLoc sig := pC ![0, j.val] (cellInb 0 j)
abbrev xB (j : Fin 16) : SemLoc sig := pC ![1, j.val] (cellInb 1 j)
abbrev uA (e : Fin 256) := wA (k1_off18 v (tw c T1 i 0 e) (tw c T1 i 1 e)) (H e).1
abbrev uB (e : Fin 256) := wB (k1_off23 v (tw c T1 i 2 e) (tw c T1 i 3 e)) (H e).2
abbrev tok (j : Fin 16) : PosShare TreeShare := Transfers.shareTok fullShare 16 j

abbrev AtA (lo hi : ℕ) : sProp 𝕄 :=
  Flow.At (fun e => Full c (sA e) (uA c T1 i v H e) fA) (fun e => Fly c (sA e) (xA (Flow.cellOf e)) (tok (Flow.cellOf e)) (uA c T1 i v H e) fA)
    (fun e => Slot c (sA e)) (fun j => Idle c (xA j) (tok j) (Memref.whole main_v3) fA) lo hi
abbrev AtB (lo hi : ℕ) : sProp 𝕄 :=
  Flow.At (fun e => Full c (sB e) (uB c T1 i v H e) fB) (fun e => Fly c (sB e) (xB (Flow.cellOf e)) (tok (Flow.cellOf e)) (uB c T1 i v H e) fB)
    (fun e => Slot c (sB e)) (fun j => Idle c (xB j) (tok j) (Memref.whole main_v4) fB) lo hi

theorem issueA (lo : ℕ) (e : Fin 256) (h1 : lo ≤ e.val) (h2 : e.val < lo + 16) :
    AtA c T1 fA i v H lo e.val ⊢ iprop((Slot c (sA e) ∗ Idle c (xA (Flow.cellOf e)) (tok (Flow.cellOf e)) (Memref.whole main_v3) fA)
      ∗ (Fly c (sA e) (xA (Flow.cellOf e)) (tok (Flow.cellOf e)) (uA c T1 i v H e) fA -∗ AtA c T1 fA i v H lo (e.val + 1))) :=
  Flow.issue _ _ _ _ lo e h1 h2
theorem waitA (hi : ℕ) (e : Fin 256) (h1 : e.val < hi) (h2 : hi ≤ e.val + 16) :
    AtA c T1 fA i v H e.val hi ⊢ iprop(Fly c (sA e) (xA (Flow.cellOf e)) (tok (Flow.cellOf e)) (uA c T1 i v H e) fA
      ∗ ((Full c (sA e) (uA c T1 i v H e) fA ∗ Idle c (xA (Flow.cellOf e)) (tok (Flow.cellOf e)) (Memref.whole main_v3) fA)
        -∗ AtA c T1 fA i v H (e.val + 1) hi)) :=
  Flow.wait _ _ _ _ hi e h1 h2

theorem issueB (lo : ℕ) (e : Fin 256) (h1 : lo ≤ e.val) (h2 : e.val < lo + 16) :
    AtB c T1 fB i v H lo e.val ⊢ iprop((Slot c (sB e) ∗ Idle c (xB (Flow.cellOf e)) (tok (Flow.cellOf e)) (Memref.whole main_v4) fB)
      ∗ (Fly c (sB e) (xB (Flow.cellOf e)) (tok (Flow.cellOf e)) (uB c T1 i v H e) fB -∗ AtB c T1 fB i v H lo (e.val + 1))) :=
  Flow.issue _ _ _ _ lo e h1 h2
theorem waitB (hi : ℕ) (e : Fin 256) (h1 : e.val < hi) (h2 : hi ≤ e.val + 16) :
    AtB c T1 fB i v H e.val hi ⊢ iprop(Fly c (sB e) (xB (Flow.cellOf e)) (tok (Flow.cellOf e)) (uB c T1 i v H e) fB
      ∗ ((Full c (sB e) (uB c T1 i v H e) fB ∗ Idle c (xB (Flow.cellOf e)) (tok (Flow.cellOf e)) (Memref.whole main_v4) fB)
        -∗ AtB c T1 fB i v H (e.val + 1) hi)) :=
  Flow.wait _ _ _ _ hi e h1 h2

end Rings

end Cert.KernelIdeal.Edge

end
-- ==== Proof.Ideal.Trips.lean ====
/-
  One trip of each of the edge kernel's two copy loops, as a step of the two windows of copies in flight.
-/
module

public import proofs.«01_k».proof.Proof.Ideal.Slots
public import Idealize.ShloMosaic.Lib.WordCmp

@[expose] public section

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (T1 : Buf (Elt F) ((Memref.whole main_arg6).view.loc (c : Thread nD τ)))
  (fA : Buf (Elt F) ((Memref.whole main_v3).view.loc (c : Thread nD τ)))
  (fB : Buf (Elt F) ((Memref.whole main_v4).view.loc (c : Thread nD τ)))
  (i : grid1.Coords) (arg1 : Memref sig .tc .smem S20x3 .i32) (harg1 : arg1.IsWhole) (arg3 : Memref sig .tc .vmem S1x256x3 .f32) (harg3 : arg3.IsWhole) (arg4 : Memref sig .tc .vmem S1x1x7 .f32) (harg4 : arg4.IsWhole) (arg5 : Memref sig .tc .vmem S1x1x7 .f32) (harg5 : arg5.IsWhole) (arg6 : Memref sig .tc .vmem S1x256x4 .f32) (harg6 : arg6.IsWhole) (arg7 : Memref sig .tc .vmem S1x256x5x5x64 .f32) (harg7 : arg7.IsWhole) (arg10 : Memref sig .tc .vmem S1x256x18 .f32) (harg10 : arg10.IsWhole) (arg0 : BitVec 32) (v233 : FVec F S256x1 .f32) (v237 : FVec F S256x1 .f32) (v247 : FVec F S256x1 .f32) (v248 : FVec F S256x1 .f32) (v : Elt F .i32) (H : Inside c T1 i v)

abbrev body1 := k1_t1_body (F := F) i arg1 harg1 (Memref.whole main_arg6) (Memref.isWhole_whole _) arg3 harg3 arg4 harg4 arg5 harg5 arg6 harg6 arg7 harg7 (Memref.whole main_v3) (Memref.isWhole_whole _) (Memref.whole main_v4) (Memref.isWhole_whole _) arg10 harg10 (Memref.whole cc1_scratch0) (Memref.isWhole_whole _) (Memref.whole cc1_scratch1) (Memref.isWhole_whole _) cc1_scratch2 arg0 v233 v237 v247 v248 v

abbrev ix (t : Fin k1_t1_loop.trips) : Fin 256 := Fin.cast trips1 t

theorem word14 (t : Fin k1_t1_loop.trips) : wordAt c T1 (k1_off14 i t) (k1_off14_inb i t) = tw c T1 i 0 (ix t) := wordAt_congr c T1 (off14_eq i t) _ _
theorem word15 (t : Fin k1_t1_loop.trips) : wordAt c T1 (k1_off15 i t) (k1_off15_inb i t) = tw c T1 i 1 (ix t) := wordAt_congr c T1 (off15_eq i t) _ _
theorem word19 (t : Fin k1_t1_loop.trips) : wordAt c T1 (k1_off19 i t) (k1_off19_inb i t) = tw c T1 i 2 (ix t) := wordAt_congr c T1 (off19_eq i t) _ _
theorem word20 (t : Fin k1_t1_loop.trips) : wordAt c T1 (k1_off20 i t) (k1_off20_inb i t) = tw c T1 i 3 (ix t) := wordAt_congr c T1 (off20_eq i t) _ _

include H in
theorem chk3 (t : Fin k1_t1_loop.trips) : k1_chk3 v (wordAt c T1 (k1_off14 i t) (k1_off14_inb i t)) (wordAt c T1 (k1_off15 i t) (k1_off15_inb i t)) := by
  rw [word14, word15]; exact (H _).1
include H in
theorem chk4 (t : Fin k1_t1_loop.trips) : k1_chk4 v (wordAt c T1 (k1_off19 i t) (k1_off19_inb i t)) (wordAt c T1 (k1_off20 i t) (k1_off20_inb i t)) := by
  rw [word19, word20]; exact (H _).2

theorem flyA (t : Fin k1_t1_loop.trips) (h) : Fly c (pA (k1_off17 t) (k1_off17_inb t)) (pC (k1_off16 t) (k1_off16_inb t)) (tok (Flow.cellOf (ix t)))
    (wA (k1_off18 v (wordAt c T1 (k1_off14 i t) (k1_off14_inb i t)) (wordAt c T1 (k1_off15 i t) (k1_off15_inb i t))) h) fA
   ⊢ Fly c (pA (k1_off17 t) (k1_off17_inb t)) (pC (k1_off16 t) (k1_off16_inb t)) (tok (Flow.cellOf (ix t))) (uA c T1 i v H (ix t)) fA := by
  revert h; rw [word14, word15]; intro h; exact .rfl

theorem flyB (t : Fin k1_t1_loop.trips) (h) : Fly c (pB (k1_off22 t) (k1_off22_inb t)) (pC (k1_off21 t) (k1_off21_inb t)) (tok (Flow.cellOf (ix t)))
    (wB (k1_off23 v (wordAt c T1 (k1_off19 i t) (k1_off19_inb i t)) (wordAt c T1 (k1_off20 i t) (k1_off20_inb i t))) h) fB
   ⊢ Fly c (pB (k1_off22 t) (k1_off22_inb t)) (pC (k1_off21 t) (k1_off21_inb t)) (tok (Flow.cellOf (ix t))) (uB c T1 i v H (ix t)) fB := by
  revert h; rw [word19, word20]; intro h; exact .rfl

/-- A trip of the first loop that only starts its two copies. -/
theorem trip_early (t : Fin k1_t1_loop.trips) (ht : ¬ 16 ≤ t.val) (K : Unit → sProp 𝕄) :
    iprop(Tab c T1 ∗ AtA c T1 fA i v H 0 (ix t).val ∗ AtB c T1 fB i v H 0 (ix t).val ∗ (∃ W, owes (c : Thread nD τ) 0 W)
        ∗ ((Tab c T1 ∗ AtA c T1 fA i v H 0 ((ix t).val + 1) ∗ AtB c T1 fB i v H 0 ((ix t).val + 1) ∗ (∃ W, owes (c : Thread nD τ) 0 W)) -∗ K ⟨⟩))
      ⊢ wp frame (wpE (defs₀ (F := F)) Variants.none c none) Set.univ
        (body1 i arg1 harg1 arg3 harg3 arg4 harg4 arg5 harg5 arg6 harg6 arg7 harg7 arg10 harg10 arg0 v233 v237 v247 v248 v t ()) K := by
  have hc : ¬ k1_cond1 t = 1#1 := fun h => ht ((cond1_iff t).mp h)
  have e1 : pA (k1_off17 t) (k1_off17_inb t) = sA (ix t) := pA_congr (off17_eq t) _ _
  have e2 : pB (k1_off22 t) (k1_off22_inb t) = sB (ix t) := pB_congr (off22_eq t) _ _
  have e3 : pC (k1_off16 t) (k1_off16_inb t) = xA (Flow.cellOf (ix t)) := pC_congr (off16_eq t) _ _
  have e4 : pC (k1_off21 t) (k1_off21_inb t) = xB (Flow.cellOf (ix t)) := pC_congr (off21_eq t) _ _
  iintro ⟨HT, HA, HB, HO, Hk⟩
  ihave HA := (issueA c T1 fA i v H 0 (ix t) (Nat.zero_le _) (show t.val < 0 + 16 by omega)) $$ HA
  ihave HB := (issueB c T1 fB i v H 0 (ix t) (Nat.zero_le _) (show t.val < 0 + 16 by omega)) $$ HB
  icases HA with ⟨⟨HsA, HiA⟩, HA⟩
  icases HB with ⟨⟨HsB, HiB⟩, HB⟩
  rw [← e1, ← e2, ← e3, ← e4]
  unfold Slot Idle
  icases HsA with ⟨%f, HsA⟩
  icases HsB with ⟨%g, HsB⟩
  icases HiA with ⟨HcA, HtA⟩
  icases HiB with ⟨HcB, HtB⟩
  unfold body1 k1_t1_body
  rw [dif_neg hc]
  sl_exec (disch := first | exact chk3 c T1 i v H t | exact chk4 c T1 i v H t)
  sl_step
  iapply Hk
  isplitl [HT]; · iexact HT
  isplitl [HA HcA HtA]
  · iapply HA
    iapply (flyA c T1 fA i v H t (chk3 c T1 i v H t))
    unfold Fly
    isplitl [HcA]
    · iexists f; iexact HcA
    · iexact HtA
  isplitl [HB HcB HtB]
  · iapply HB
    iapply (flyB c T1 fB i v H t (chk4 c T1 i v H t))
    unfold Fly
    isplitl [HcB]
    · iexists g; iexact HcB
    · iexact HtB
  iexact HO

/-- The trip sixteen back. -/
abbrev ix' (t : Fin k1_t1_loop.trips) (ht : 16 ≤ t.val) : Fin 256 := ⟨t.val - 16, by have h := t.isLt; have h' := trips1; omega⟩

include H in
theorem chk1 (t : Fin k1_t1_loop.trips) (hc : k1_cond1 t = 1#1) : k1_chk1 v t (wordAt c T1 (k1_off4 i t) (k1_off4_inb i t hc)) (wordAt c T1 (k1_off5 i t) (k1_off5_inb i t hc)) := by
  have ht := (cond1_iff t).mp hc
  intro _
  rw [wordAt_congr c T1 (off4_eq i t ht) _ (rowInb 0 i (ix' t ht)), wordAt_congr c T1 (off5_eq i t ht) _ (rowInb 1 i (ix' t ht))]
  exact (H (ix' t ht)).1
include H in
theorem chk2 (t : Fin k1_t1_loop.trips) (hc : k1_cond1 t = 1#1) : k1_chk2 v t (wordAt c T1 (k1_off9 i t) (k1_off9_inb i t hc)) (wordAt c T1 (k1_off10 i t) (k1_off10_inb i t hc)) := by
  have ht := (cond1_iff t).mp hc
  intro _
  rw [wordAt_congr c T1 (off9_eq i t ht) _ (rowInb 2 i (ix' t ht)), wordAt_congr c T1 (off10_eq i t ht) _ (rowInb 3 i (ix' t ht))]
  exact (H (ix' t ht)).2

/-- A trip that waits for the copies sixteen back, then starts its two. -/
theorem trip_full (t : Fin k1_t1_loop.trips) (ht : 16 ≤ t.val) (K : Unit → sProp 𝕄) :
    iprop(Tab c T1 ∗ AtA c T1 fA i v H (ix' t ht).val (ix t).val ∗ AtB c T1 fB i v H (ix' t ht).val (ix t).val ∗ (∃ W, owes (c : Thread nD τ) 0 W)
        ∗ ((Tab c T1 ∗ AtA c T1 fA i v H ((ix' t ht).val + 1) ((ix t).val + 1) ∗ AtB c T1 fB i v H ((ix' t ht).val + 1) ((ix t).val + 1) ∗ (∃ W, owes (c : Thread nD τ) 0 W)) -∗ K ⟨⟩))
      ⊢ wp frame (wpE (defs₀ (F := F)) Variants.none c none) Set.univ
        (body1 i arg1 harg1 arg3 harg3 arg4 harg4 arg5 harg5 arg6 harg6 arg7 harg7 arg10 harg10 arg0 v233 v237 v247 v248 v t ()) K := by
  have hc : k1_cond1 t = 1#1 := (cond1_iff t).mpr ht
  have e1 : pA (k1_off17 t) (k1_off17_inb t) = sA (ix t) := pA_congr (off17_eq t) _ _
  have e2 : pB (k1_off22 t) (k1_off22_inb t) = sB (ix t) := pB_congr (off22_eq t) _ _
  have e3 : pC (k1_off16 t) (k1_off16_inb t) = xA (Flow.cellOf (ix t)) := pC_congr (off16_eq t) _ _
  have e4 : pC (k1_off21 t) (k1_off21_inb t) = xB (Flow.cellOf (ix t)) := pC_congr (off21_eq t) _ _
  have w1 : pA (k1_off7 t) (k1_off7_inb t hc) = sA (ix' t ht) := pA_congr (off7_eq t ht) _ _
  have w2 : pB (k1_off12 t) (k1_off12_inb t hc) = sB (ix' t ht) := pB_congr (off12_eq t ht) _ _
  have w3 : pC (k1_off6 t) (k1_off6_inb t hc) = xA (Flow.cellOf (ix' t ht)) := pC_congr (off6_eq t ht) _ _
  have w4 : pC (k1_off11 t) (k1_off11_inb t hc) = xB (Flow.cellOf (ix' t ht)) := pC_congr (off11_eq t ht) _ _
  iintro ⟨HT, HA, HB, HO, Hk⟩
  ihave HA := (waitA c T1 fA i v H (ix t).val (ix' t ht) (show t.val - 16 < t.val by omega) (show t.val ≤ t.val - 16 + 16 by omega)) $$ HA
  ihave HB := (waitB c T1 fB i v H (ix t).val (ix' t ht) (show t.val - 16 < t.val by omega) (show t.val ≤ t.val - 16 + 16 by omega)) $$ HB
  icases HA with ⟨HfA, HA⟩
  icases HB with ⟨HfB, HB⟩
  rw [← w1, ← w2, ← w3, ← w4]
  unfold Fly
  icases HfA with ⟨⟨%f, HfA⟩, HtA⟩
  icases HfB with ⟨⟨%g, HfB⟩, HtB⟩
  icases HO with ⟨%W, HO⟩
  unfold body1 k1_t1_body
  rw [dif_pos hc]
  sl_exec (disch := first | exact chk1 c T1 i v H t hc | exact chk2 c T1 i v H t hc | exact chk3 c T1 i v H t | exact chk4 c T1 i v H t)
  ihave HA := HA $$ [HfA_dst HtA HfA]
  · unfold Full Idle
    isplitl [HfA_dst]
    · iexists f; iexact HfA_dst
    · isplitl [HfA]
      · iexact HfA
      · iexact HtA
  ihave HB := HB $$ [HfB_dst HtB HfB]
  · unfold Full Idle
    isplitl [HfB_dst]
    · iexists g; iexact HfB_dst
    · isplitl [HfB]
      · iexact HfB
      · iexact HtB
  ihave HA := (issueA c T1 fA i v H ((ix' t ht).val + 1) (ix t) (show t.val - 16 + 1 ≤ t.val by omega) (show t.val < t.val - 16 + 1 + 16 by omega)) $$ HA
  ihave HB := (issueB c T1 fB i v H ((ix' t ht).val + 1) (ix t) (show t.val - 16 + 1 ≤ t.val by omega) (show t.val < t.val - 16 + 1 + 16 by omega)) $$ HB
  icases HA with ⟨⟨HsA, HiA⟩, HA⟩
  icases HB with ⟨⟨HsB, HiB⟩, HB⟩
  rw [← e1, ← e2, ← e3, ← e4]
  unfold Slot Idle
  icases HsA with ⟨%f', HsA⟩
  icases HsB with ⟨%g', HsB⟩
  icases HiA with ⟨HcA, HtA⟩
  icases HiB with ⟨HcB, HtB⟩
  sl_exec (disch := first | exact chk3 c T1 i v H t | exact chk4 c T1 i v H t)
  sl_step
  iapply Hk
  isplitl [HT]; · iexact HT
  isplitl [HA HcA HtA]
  · iapply HA
    iapply (flyA c T1 fA i v H t (chk3 c T1 i v H t))
    unfold Fly
    isplitl [HcA]
    · iexists f'; iexact HcA
    · iexact HtA
  isplitl [HB HcB HtB]
  · iapply HB
    iapply (flyB c T1 fB i v H t (chk4 c T1 i v H t))
    unfold Fly
    isplitl [HcB]
    · iexists g'; iexact HcB
    · iexact HtB
  iexists _; iexact HO

/-- The patch a trip of the second loop waits for. -/
abbrev iy (t : Fin k1_t2_loop.trips) : Fin 256 := ⟨240 + t.val, by have h := t.isLt; have h' := trips2; omega⟩

include H in
theorem chk5 (t : Fin k1_t2_loop.trips) : k1_chk5 v (wordAt c T1 (k1_off24 i t) (k1_off24_inb i t)) (wordAt c T1 (k1_off25 i t) (k1_off25_inb i t)) := by
  rw [wordAt_congr c T1 (off24_eq i t) _ (rowInb 0 i (iy t)), wordAt_congr c T1 (off25_eq i t) _ (rowInb 1 i (iy t))]
  exact (H (iy t)).1
include H in
theorem chk6 (t : Fin k1_t2_loop.trips) : k1_chk6 v (wordAt c T1 (k1_off29 i t) (k1_off29_inb i t)) (wordAt c T1 (k1_off30 i t) (k1_off30_inb i t)) := by
  rw [wordAt_congr c T1 (off29_eq i t) _ (rowInb 2 i (iy t)), wordAt_congr c T1 (off30_eq i t) _ (rowInb 3 i (iy t))]
  exact (H (iy t)).2

abbrev body2 := k1_t2_body (F := F) i arg1 harg1 (Memref.whole main_arg6) (Memref.isWhole_whole _) arg3 harg3 arg4 harg4 arg5 harg5 arg6 harg6 arg7 harg7 (Memref.whole main_v3) (Memref.isWhole_whole _) (Memref.whole main_v4) (Memref.isWhole_whole _) arg10 harg10 (Memref.whole cc1_scratch0) (Memref.isWhole_whole _) (Memref.whole cc1_scratch1) (Memref.isWhole_whole _) cc1_scratch2 arg0 v233 v237 v247 v248 v

/-- A trip of the second loop: it waits for the last copies, one pair a trip. -/
theorem trip_drain (t : Fin k1_t2_loop.trips) (K : Unit → sProp 𝕄) :
    iprop(Tab c T1 ∗ AtA c T1 fA i v H (iy t).val 256 ∗ AtB c T1 fB i v H (iy t).val 256 ∗ (∃ W, owes (c : Thread nD τ) 0 W)
        ∗ ((Tab c T1 ∗ AtA c T1 fA i v H ((iy t).val + 1) 256 ∗ AtB c T1 fB i v H ((iy t).val + 1) 256 ∗ (∃ W, owes (c : Thread nD τ) 0 W)) -∗ K ⟨⟩))
      ⊢ wp frame (wpE (defs₀ (F := F)) Variants.none c none) Set.univ
        (body2 i arg1 harg1 arg3 harg3 arg4 harg4 arg5 harg5 arg6 harg6 arg7 harg7 arg10 harg10 arg0 v233 v237 v247 v248 v t ()) K := by
  have w1 : pA (k1_off27 t) (k1_off27_inb t) = sA (iy t) := pA_congr (off27_eq t) _ _
  have w2 : pB (k1_off32 t) (k1_off32_inb t) = sB (iy t) := pB_congr (off32_eq t) _ _
  have w3 : pC (k1_off26 t) (k1_off26_inb t) = xA (Flow.cellOf (iy t)) := pC_congr (off26_eq t) _ _
  have w4 : pC (k1_off31 t) (k1_off31_inb t) = xB (Flow.cellOf (iy t)) := pC_congr (off31_eq t) _ _
  iintro ⟨HT, HA, HB, HO, Hk⟩
  ihave HA := (waitA c T1 fA i v H 256 (iy t) (iy t).isLt (show 256 ≤ 240 + t.val + 16 by omega)) $$ HA
  ihave HB := (waitB c T1 fB i v H 256 (iy t) (iy t).isLt (show 256 ≤ 240 + t.val + 16 by omega)) $$ HB
  icases HA with ⟨HfA, HA⟩
  icases HB with ⟨HfB, HB⟩
  rw [← w1, ← w2, ← w3, ← w4]
  unfold Fly
  icases HfA with ⟨⟨%f, HfA⟩, HtA⟩
  icases HfB with ⟨⟨%g, HfB⟩, HtB⟩
  icases HO with ⟨%W, HO⟩
  unfold body2 k1_t2_body
  sl_exec (disch := first | exact chk5 c T1 i v H t | exact chk6 c T1 i v H t)
  ihave HA := HA $$ [HfA_dst HtA HfA]
  · unfold Full Idle
    isplitl [HfA_dst]
    · iexists f; iexact HfA_dst
    · isplitl [HfA]
      · iexact HfA
      · iexact HtA
  ihave HB := HB $$ [HfB_dst HtB HfB]
  · unfold Full Idle
    isplitl [HfB_dst]
    · iexists g; iexact HfB_dst
    · isplitl [HfB]
      · iexact HfB
      · iexact HtB
  sl_step
  iapply Hk
  isplitl [HT]; · iexact HT
  isplitl [HA]; · iexact HA
  isplitl [HB]; · iexact HB
  iexists _; iexact HO

end Cert.KernelIdeal.Edge

end
-- ==== Proof.Ideal.Join.lean ====
/-
  A scratch held slot by slot, and whole: split at the loops' entry, joined at their exit at the copied patches.
-/
module

public import proofs.«01_k».proof.Proof.Ideal.Slots
public import Idealize.ShloMosaic.Lib.ValueIdx

@[expose] public section

set_option maxRecDepth 16384

noncomputable section

namespace Cert.KernelIdeal.Edge

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem toEntails {P Q : sProp 𝕄} (h : P = Q) : P ⊢ Q := h ▸ .rfl

abbrev slotRect (e : Fin 256) : Rect S256x8x8x64 := Rect.unit ![e.val, 0, 0, 0] S1x8x8x64.size (slotInb e)

theorem slot_disjoint (e e' : Fin 256) (h : e ≠ e') : Disjoint (slotRect e).set (slotRect e').set :=
  Ring.lead_disjoint (s := S256x8x8x64) (NB := 256) 0 1 (fun e => ![e.val, 0, 0, 0]) S1x8x8x64.size slotInb
    (fun b => (Nat.one_mul _).symm) rfl e e' h

theorem slot_cover : Finset.univ.biUnion (fun e => (slotRect e).set) = Finset.univ :=
  Ring.lead_cover (s := S256x8x8x64) (NB := 256) 0 1 (fun e => ![e.val, 0, 0, 0]) S1x8x8x64.size slotInb
    (fun b => (Nat.one_mul _).symm) (fun b a h => by fin_cases a <;> first | exact absurd rfl h | rfl) rfl
    (fun a h => by fin_cases a <;> first | exact absurd rfl h | rfl) rfl

theorem set_sA (e : Fin 256) : (sA e).view.set = (slotRect e).set :=
  (View.set_reshape _ _).trans (View.set_slice_whole cc1_scratch0 (slotRect e))
theorem set_sB (e : Fin 256) : (sB e).view.set = (slotRect e).set :=
  (View.set_reshape _ _).trans (View.set_slice_whole cc1_scratch1 (slotRect e))

section
variable (c : Dev nD) (T1 : Buf (Elt F) ((Memref.whole main_arg6).view.loc (c : Thread nD τ)))
  (fA : Buf (Elt F) ((Memref.whole main_v3).view.loc (c : Thread nD τ)))
  (fB : Buf (Elt F) ((Memref.whole main_v4).view.loc (c : Thread nD τ)))
  (i : grid1.Coords) (v : Elt F .i32) (H : Inside c T1 i v)

/-- A slot's element as the scratch's. -/
theorem slot_emb (e : Fin 256) (h : S8x8x64.numel = (slotRect e).shape.numel) (x : S8x8x64.Idx) :
    (slotRect e).emb (Shape.reshapeEquiv h x) = ix4 e (x 0) (x 1) (x 2) := by
  have hx : Shape.reshapeEquiv h x = Fin.cons ⟨0, Nat.one_pos⟩ x := Shape.reshapeEquiv_cons_one (d := ![8, 8, 64]) h x
  rw [hx]
  funext a
  refine Fin.ext ?_
  rw [Rect.emb_apply]
  fin_cases a
  · show e.val + 1 * 0 = e.val; omega
  · show 0 + 1 * (x 0).val = (x 0).val; omega
  · show 0 + 1 * (x 1).val = (x 1).val; omega
  · show 0 + 1 * (x 2).val = (x 2).val; omega

theorem ix3_eta (x : S8x8x64.Idx) : ix3 (x 0) (x 1) (x 2) = x := by
  funext a; fin_cases a <;> rfl

/-- The scratch whole is its slots; -/
theorem splitA (c : Dev nD) (f : Buf (Elt F) ((Memref.whole cc1_scratch0).view.loc (c : Thread nD τ))) :
    ((Memref.whole cc1_scratch0).view.loc (c : Thread nD τ) ↦{fullShare} f : sProp 𝕄) ⊢ bigSep Finset.univ fun e => Slot c (sA e) := by
  rw [Ring.pointsTo_blocks (ℓ := (Memref.whole cc1_scratch0).view.loc (c : Thread nD τ)) (fun e => (slotRect e).set) slot_disjoint slot_cover f]
  have h : ∀ e, ((Memref.whole cc1_scratch0).view.loc (c : Thread nD τ) ↦[(slotRect e).set]{fullShare} f : sProp 𝕄) ⊢ Slot c (sA e) := fun e => by
    unfold Slot
    rw [set_sA]
    iintro H; iexists f; iexact H
  exact BI.bigSep_mono fun e _ => h e

/-- What the scratch holds when every copy has landed: patch `e`'s window of the map. -/
def GA : Buf (Elt F) ((Memref.whole cc1_scratch0).view.loc (c : Thread nD τ)) :=
  fun y : S256x8x8x64.Idx => (uA c T1 i v H (y 0)).view.read (Elt F) fA (ix3 (y 1) (y 2) (y 3))

theorem landedA (e : Fin 256) : Full c (sA e) (uA c T1 i v H e) fA
    ⊢ ((Memref.whole cc1_scratch0).view.loc (c : Thread nD τ) ↦[(slotRect e).set]{fullShare} GA c T1 fA i v H : sProp 𝕄) := by
  unfold Full
  iintro ⟨%f, Hf⟩
  have h : ∀ y ∈ (sA e).view.set, (sA e).view.writes (Elt F) f [⟨Rect.whole S8x8x64, ReadAs.same.apply ((uA c T1 i v H e).view.read (Elt F) fA)⟩] y
      = GA c T1 fA i v H y := by
    intro y hy
    obtain ⟨x, -, rfl⟩ := Finset.mem_map.mp hy
    rw [← View.write_univ_eq_writes_whole, View.writes_nil, View.write_emb_of_mem _ _ (Finset.mem_univ _)]
    have hx : (sA e).view.emb x = ix4 e (x 0) (x 1) (x 2) := slot_emb e _ x
    rw [hx]
    exact congrArg ((uA c T1 i v H e).view.read (Elt F) fA) (ix3_eta x).symm
  have g := pointsTo_congr (ℓ := (sA e).view.loc (c : Thread nD τ)) (I := (sA e).view.set) (q := fullShare) (Ix := Unit) (Name := ℕ) (U := Pipeline.UD sig nD τ) (Lvl := ℕ) h
  rw [set_sA] at g
  iapply (toEntails g)
  rw [set_sA]
  iexact Hf

/-- and the landed slots are the scratch whole at those patches. -/
theorem joinA : bigSep Finset.univ (fun e => Full c (sA e) (uA c T1 i v H e) fA)
    ⊢ ((Memref.whole cc1_scratch0).view.loc (c : Thread nD τ) ↦{fullShare} GA c T1 fA i v H : sProp 𝕄) := by
  rw [Ring.pointsTo_blocks (ℓ := (Memref.whole cc1_scratch0).view.loc (c : Thread nD τ)) (fun e => (slotRect e).set) slot_disjoint slot_cover (GA c T1 fA i v H)]
  exact BI.bigSep_mono fun e _ => landedA c T1 fA i v H e

/-- The scratch whole is its slots; -/
theorem splitB (c : Dev nD) (f : Buf (Elt F) ((Memref.whole cc1_scratch1).view.loc (c : Thread nD τ))) :
    ((Memref.whole cc1_scratch1).view.loc (c : Thread nD τ) ↦{fullShare} f : sProp 𝕄) ⊢ bigSep Finset.univ fun e => Slot c (sB e) := by
  rw [Ring.pointsTo_blocks (ℓ := (Memref.whole cc1_scratch1).view.loc (c : Thread nD τ)) (fun e => (slotRect e).set) slot_disjoint slot_cover f]
  have h : ∀ e, ((Memref.whole cc1_scratch1).view.loc (c : Thread nD τ) ↦[(slotRect e).set]{fullShare} f : sProp 𝕄) ⊢ Slot c (sB e) := fun e => by
    unfold Slot
    rw [set_sB]
    iintro H; iexists f; iexact H
  exact BI.bigSep_mono fun e _ => h e

/-- What the scratch holds when every copy has landed: patch `e`'s window of the map. -/
def GB : Buf (Elt F) ((Memref.whole cc1_scratch1).view.loc (c : Thread nD τ)) :=
  fun y : S256x8x8x64.Idx => (uB c T1 i v H (y 0)).view.read (Elt F) fB (ix3 (y 1) (y 2) (y 3))

theorem landedB (e : Fin 256) : Full c (sB e) (uB c T1 i v H e) fB
    ⊢ ((Memref.whole cc1_scratch1).view.loc (c : Thread nD τ) ↦[(slotRect e).set]{fullShare} GB c T1 fB i v H : sProp 𝕄) := by
  unfold Full
  iintro ⟨%f, Hf⟩
  have h : ∀ y ∈ (sB e).view.set, (sB e).view.writes (Elt F) f [⟨Rect.whole S8x8x64, ReadAs.same.apply ((uB c T1 i v H e).view.read (Elt F) fB)⟩] y
      = GB c T1 fB i v H y := by
    intro y hy
    obtain ⟨x, -, rfl⟩ := Finset.mem_map.mp hy
    rw [← View.write_univ_eq_writes_whole, View.writes_nil, View.write_emb_of_mem _ _ (Finset.mem_univ _)]
    have hx : (sB e).view.emb x = ix4 e (x 0) (x 1) (x 2) := slot_emb e _ x
    rw [hx]
    exact congrArg ((uB c T1 i v H e).view.read (Elt F) fB) (ix3_eta x).symm
  have g := pointsTo_congr (ℓ := (sB e).view.loc (c : Thread nD τ)) (I := (sB e).view.set) (q := fullShare) (Ix := Unit) (Name := ℕ) (U := Pipeline.UD sig nD τ) (Lvl := ℕ) h
  rw [set_sB] at g
  iapply (toEntails g)
  rw [set_sB]
  iexact Hf

/-- and the landed slots are the scratch whole at those patches. -/
theorem joinB : bigSep Finset.univ (fun e => Full c (sB e) (uB c T1 i v H e) fB)
    ⊢ ((Memref.whole cc1_scratch1).view.loc (c : Thread nD τ) ↦{fullShare} GB c T1 fB i v H : sProp 𝕄) := by
  rw [Ring.pointsTo_blocks (ℓ := (Memref.whole cc1_scratch1).view.loc (c : Thread nD τ)) (fun e => (slotRect e).set) slot_disjoint slot_cover (GB c T1 fB i v H)]
  exact BI.bigSep_mono fun e _ => landedB c T1 fB i v H e

end

end Cert.KernelIdeal.Edge

end
-- ==== Proof.Ideal.Rings.lean ====
/-
  The two rings of copies from what the body holds: the 32 cells and the read shares of the feature maps dealt to the
  cells, the scratches cut into their slots, and both put back together when every copy has landed.
-/
module

public import proofs.«01_k».proof.Proof.Ideal.Trips
public import proofs.«01_k».proof.Proof.Ideal.Join
public import Idealize.ShloMosaic.Lib.Pipeline.Frame

@[expose] public section

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The cells the kernel names itself: sixteen for each ring. -/
abbrev osem : Fin 16 ⊕ Fin 16 → SemLoc sig := Sum.elim (fun j => .dma ⟨16 + j.val, by have := j.isLt; show 16 + j.val < 48; omega⟩) (fun j => .dma ⟨32 + j.val, by have := j.isLt; show 32 + j.val < 48; omega⟩)

theorem xA_eq : ∀ j : Fin 16, xA j = osem (.inl j) := by decide +kernel
theorem xB_eq : ∀ j : Fin 16, xB j = osem (.inr j) := by decide +kernel

theorem ownSemFacts : Pipeline.OwnSemFacts spec1 osem := by decide +kernel

theorem cells_eq (c : Dev nD) : (Pipeline.ownSems0 osem c : sProp 𝕄)
    = iprop(bigSep Finset.univ (fun j : Fin 16 => (semVal ((c : Thread nD τ), xA j) 0 : sProp 𝕄)) ∗ bigSep Finset.univ (fun j : Fin 16 => (semVal ((c : Thread nD τ), xB j) 0 : sProp 𝕄))) := by
  simp only [xA_eq, xB_eq]
  exact BI.bigSep_univ_sum _

theorem idle_eq {s : Shape} (c : Dev nD) (x : Fin 16 → SemLoc sig) (w : Memref sig .tc .hbm s .f32) (fa : Buf (Elt F) (w.view.loc (c : Thread nD τ))) :
    bigSep Finset.univ (fun j => Idle c (x j) (tok j) w fa)
      = iprop(bigSep Finset.univ (fun j : Fin 16 => (semVal ((c : Thread nD τ), x j) 0 : sProp 𝕄)) ∗ bigSep Finset.univ (fun j : Fin 16 => (w.view.loc (c : Thread nD τ) ↦[Finset.univ]{tok j} fa : sProp 𝕄))) := by
  unfold Idle
  exact BI.bigSep_sep _ _ _

/-- The share of a map no copy reads through. -/
abbrev keep {s : Shape} (c : Dev nD) (w : Memref sig .tc .hbm s .f32) (fa : Buf (Elt F) (w.view.loc (c : Thread nD τ))) : sProp 𝕄 :=
  iprop(w.view.loc (c : Thread nD τ) ↦[Finset.univ]{Transfers.shareDrop fullShare 16} fa)

/-- A map held whole is dealt to the sixteen cells; -/
theorem deal {s : Shape} (c : Dev nD) (x : Fin 16 → SemLoc sig) (w : Memref sig .tc .hbm s .f32) (fa : Buf (Elt F) (w.view.loc (c : Thread nD τ))) :
    iprop((w.view.loc (c : Thread nD τ) ↦{fullShare} fa) ∗ bigSep Finset.univ (fun j : Fin 16 => (semVal ((c : Thread nD τ), x j) 0 : sProp 𝕄)))
      ⊢ iprop(keep c w fa ∗ bigSep Finset.univ (fun j => Idle c (x j) (tok j) w fa)) := by
  rw [idle_eq]
  iintro ⟨H, HC⟩
  ihave H := (Transfers.pointsTo_toks_split (ℓ := w.view.loc (c : Thread nD τ)) (S := Finset.univ) (f := fa) fullShare 16) $$ H
  icases H with ⟨H, HT⟩
  isplitl [H]; · iexact H
  isplitl [HC]; · iexact HC
  iexact HT
/-- and gathered back from them. -/
theorem undeal {s : Shape} (c : Dev nD) (x : Fin 16 → SemLoc sig) (w : Memref sig .tc .hbm s .f32) (fa : Buf (Elt F) (w.view.loc (c : Thread nD τ))) :
    iprop(keep c w fa ∗ bigSep Finset.univ (fun j => Idle c (x j) (tok j) w fa))
      ⊢ iprop((w.view.loc (c : Thread nD τ) ↦{fullShare} fa) ∗ bigSep Finset.univ (fun j : Fin 16 => (semVal ((c : Thread nD τ), x j) 0 : sProp 𝕄))) := by
  rw [idle_eq]
  iintro ⟨H, HC, HT⟩
  isplitl [H HT]
  · iapply (Transfers.pointsTo_toks_join (ℓ := w.view.loc (c : Thread nD τ)) (S := Finset.univ) (f := fa) fullShare 16)
    isplitl [H]; · iexact H
    iexact HT
  iexact HC

section
variable (c : Dev nD) (T1 : Buf (Elt F) ((Memref.whole main_arg6).view.loc (c : Thread nD τ)))
  (fA : Buf (Elt F) ((Memref.whole main_v3).view.loc (c : Thread nD τ)))
  (fB : Buf (Elt F) ((Memref.whole main_v4).view.loc (c : Thread nD τ)))
  (i : grid1.Coords) (v : Elt F .i32) (H : Inside c T1 i v)

/-- Before the first copy: the scratches, the maps and the cells make the two empty windows of copies in flight. -/
theorem rings_start (s0 : Buf (Elt F) ((Memref.whole cc1_scratch0).view.loc (c : Thread nD τ))) (s1 : Buf (Elt F) ((Memref.whole cc1_scratch1).view.loc (c : Thread nD τ))) :
    iprop(((Memref.whole cc1_scratch0).view.loc (c : Thread nD τ) ↦{fullShare} s0) ∗ ((Memref.whole cc1_scratch1).view.loc (c : Thread nD τ) ↦{fullShare} s1)
      ∗ ((Memref.whole main_v3).view.loc (c : Thread nD τ) ↦{fullShare} fA) ∗ ((Memref.whole main_v4).view.loc (c : Thread nD τ) ↦{fullShare} fB)
      ∗ Pipeline.ownSems0 osem c)
    ⊢ iprop(AtA c T1 fA i v H 0 0 ∗ AtB c T1 fB i v H 0 0 ∗ keep c (Memref.whole main_v3) fA ∗ keep c (Memref.whole main_v4) fB) := by
  rw [cells_eq]
  unfold AtA AtB
  rw [Flow.at_start, Flow.at_start]
  iintro ⟨H0, H1, HA, HB, HcA, HcB⟩
  ihave H0 := (splitA c s0) $$ H0
  ihave H1 := (splitB c s1) $$ H1
  ihave HA := (deal c xA (Memref.whole main_v3) fA) $$ [HA HcA]
  · isplitl [HA]; · iexact HA
    iexact HcA
  ihave HB := (deal c xB (Memref.whole main_v4) fB) $$ [HB HcB]
  · isplitl [HB]; · iexact HB
    iexact HcB
  icases HA with ⟨HkA, HA⟩
  icases HB with ⟨HkB, HB⟩
  isplitl [H0 HA]
  · isplitl [H0]; · iexact H0
    iexact HA
  isplitl [H1 HB]
  · isplitl [H1]; · iexact H1
    iexact HB
  isplitl [HkA]; · iexact HkA
  iexact HkB

/-- After the last wait: the scratches hold the copied windows, the maps and the cells are whole again. -/
theorem rings_end :
    iprop(AtA c T1 fA i v H 256 256 ∗ AtB c T1 fB i v H 256 256 ∗ keep c (Memref.whole main_v3) fA ∗ keep c (Memref.whole main_v4) fB)
    ⊢ iprop(((Memref.whole cc1_scratch0).view.loc (c : Thread nD τ) ↦{fullShare} GA c T1 fA i v H) ∗ ((Memref.whole cc1_scratch1).view.loc (c : Thread nD τ) ↦{fullShare} GB c T1 fB i v H)
      ∗ ((Memref.whole main_v3).view.loc (c : Thread nD τ) ↦{fullShare} fA) ∗ ((Memref.whole main_v4).view.loc (c : Thread nD τ) ↦{fullShare} fB)
      ∗ Pipeline.ownSems0 osem c) := by
  rw [cells_eq]
  unfold AtA AtB
  rw [Flow.at_end, Flow.at_end]
  iintro ⟨⟨H0, HA⟩, ⟨H1, HB⟩, HkA, HkB⟩
  ihave H0 := (joinA c T1 fA i v H) $$ H0
  ihave H1 := (joinB c T1 fB i v H) $$ H1
  ihave HA := (undeal c xA (Memref.whole main_v3) fA) $$ [HA HkA]
  · isplitl [HkA]; · iexact HkA
    iexact HA
  ihave HB := (undeal c xB (Memref.whole main_v4) fB) $$ [HB HkB]
  · isplitl [HkB]; · iexact HkB
    iexact HB
  icases HA with ⟨HA, HcA⟩
  icases HB with ⟨HB, HcB⟩
  isplitl [H0]; · iexact H0
  isplitl [H1]; · iexact H1
  isplitl [HA]; · iexact HA
  isplitl [HB]; · iexact HB
  isplitl [HcA]; · iexact HcA
  iexact HcB

end

end Cert.KernelIdeal.Edge

end
-- ==== Proof.Ideal.Patches.lean ====
/-
  The two copy loops run, and the part of the body around them: it leaves both scratches holding the patches it read.
-/
module

public import proofs.«01_k».proof.Proof.Ideal.Rings
public import Idealize.ShloMosaic.Lib.VecWindow

@[expose] public section

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (T0 : Buf (Elt F) ((Memref.whole main_arg5).view.loc (c : Thread nD τ)))
  (T1 : Buf (Elt F) ((Memref.whole main_arg6).view.loc (c : Thread nD τ)))
  (fA : Buf (Elt F) ((Memref.whole main_v3).view.loc (c : Thread nD τ)))
  (fB : Buf (Elt F) ((Memref.whole main_v4).view.loc (c : Thread nD τ)))
  (i : grid1.Coords) (arg3 : Memref sig .tc .vmem S1x256x3 .f32) (harg3 : arg3.IsWhole) (arg4 : Memref sig .tc .vmem S1x1x7 .f32) (harg4 : arg4.IsWhole) (arg5 : Memref sig .tc .vmem S1x1x7 .f32) (harg5 : arg5.IsWhole) (arg6 : Memref sig .tc .vmem S1x256x4 .f32) (harg6 : arg6.IsWhole) (arg7 : Memref sig .tc .vmem S1x256x5x5x64 .f32) (harg7 : arg7.IsWhole) (arg10 : Memref sig .tc .vmem S1x256x18 .f32) (harg10 : arg10.IsWhole) (arg0 : BitVec 32) (v233 : FVec F S256x1 .f32) (v237 : FVec F S256x1 .f32) (v247 : FVec F S256x1 .f32) (v248 : FVec F S256x1 .f32) (v : Elt F .i32) (H : Inside c T1 i v)

/-- Between two trips: what the windows of copies in flight hold. -/
def Inv (lo hi : ℕ) : sProp 𝕄 :=
  iprop(Tab c T1 ∗ AtA c T1 fA i v H lo hi ∗ AtB c T1 fB i v H lo hi ∗ (∃ W, owes (c : Thread nD τ) 0 W))

/-- The first loop. -/
theorem loop1 {β : Type} {kk : Unit → Prog (TpuEff nD τ sig (Elt F) Λ₀ .tc) β} {Q : β → sProp 𝕄} :
    Inv c T1 fA fB i v H 0 0 ⊢ iprop((Inv c T1 fA fB i v H 240 256 -∗ wp frame (wpE (defs₀ (F := F)) Variants.none c none) Set.univ (kk ⟨⟩) Q)
      -∗ wp frame (wpE (defs₀ (F := F)) Variants.none c none) Set.univ
        (Scf.Loop.for k1_t1_loop k1_t1_ok ⟨⟩ (body1 i (Memref.whole main_arg5) (Memref.isWhole_whole _) arg3 harg3 arg4 harg4 arg5 harg5 arg6 harg6 arg7 harg7 arg10 harg10 arg0 v233 v237 v247 v248 v) >>= kk) Q) := by
  iintro HI HK
  iapply (Scf.wp_for_bind frame (wpE (defs₀ (F := F)) Variants.none c none) Set.univ _ _ _ k1_t1_ok (⟨⟩ : Unit)
    (body1 i (Memref.whole main_arg5) (Memref.isWhole_whole _) arg3 harg3 arg4 harg4 arg5 harg5 arg6 harg6 arg7 harg7 arg10 harg10 arg0 v233 v237 v247 v248 v)
    (fun k _ => Inv c T1 fA fB i v H (k - 16) k) (fun t _ => by
      unfold Inv
      by_cases ht : 16 ≤ t.val
      · iintro ⟨HT, HA, HB, HO⟩
        iapply (trip_full c T1 fA fB i (Memref.whole main_arg5) (Memref.isWhole_whole _) arg3 harg3 arg4 harg4 arg5 harg5 arg6 harg6 arg7 harg7 arg10 harg10 arg0 v233 v237 v247 v248 v H t ht _)
        isplitl [HT]; · iexact HT
        isplitl [HA]; · iexact HA
        isplitl [HB]; · iexact HB
        isplitl [HO]; · iexact HO
        rw [show t.val + 1 - 16 = t.val - 16 + 1 by omega]
        iintro HX; iexact HX
      · iintro ⟨HT, HA, HB, HO⟩
        rw [show t.val + 1 - 16 = 0 by omega, show t.val - 16 = 0 by omega]
        iapply (trip_early c T1 fA fB i (Memref.whole main_arg5) (Memref.isWhole_whole _) arg3 harg3 arg4 harg4 arg5 harg5 arg6 harg6 arg7 harg7 arg10 harg10 arg0 v233 v237 v247 v248 v H t ht _)
        isplitl [HT]; · iexact HT
        isplitl [HA]; · iexact HA
        isplitl [HB]; · iexact HB
        isplitl [HO]; · iexact HO
        iintro HX; iexact HX)) $$ HI
  iintro %_ HI
  rw [show Scf.trips k1_t1_loop.lb k1_t1_loop.ub k1_t1_loop.st = 256 from trips1]
  iapply HK
  iexact HI

/-- The second loop. -/
theorem loop2 {β : Type} {kk : Unit → Prog (TpuEff nD τ sig (Elt F) Λ₀ .tc) β} {Q : β → sProp 𝕄} :
    Inv c T1 fA fB i v H 240 256 ⊢ iprop((Inv c T1 fA fB i v H 256 256 -∗ wp frame (wpE (defs₀ (F := F)) Variants.none c none) Set.univ (kk ⟨⟩) Q)
      -∗ wp frame (wpE (defs₀ (F := F)) Variants.none c none) Set.univ
        (Scf.Loop.for k1_t2_loop k1_t2_ok ⟨⟩ (body2 i (Memref.whole main_arg5) (Memref.isWhole_whole _) arg3 harg3 arg4 harg4 arg5 harg5 arg6 harg6 arg7 harg7 arg10 harg10 arg0 v233 v237 v247 v248 v) >>= kk) Q) := by
  iintro HI HK
  iapply (Scf.wp_for_bind frame (wpE (defs₀ (F := F)) Variants.none c none) Set.univ _ _ _ k1_t2_ok (⟨⟩ : Unit)
    (body2 i (Memref.whole main_arg5) (Memref.isWhole_whole _) arg3 harg3 arg4 harg4 arg5 harg5 arg6 harg6 arg7 harg7 arg10 harg10 arg0 v233 v237 v247 v248 v)
    (fun k _ => Inv c T1 fA fB i v H (240 + k) 256) (fun t _ => by
      unfold Inv
      iintro ⟨HT, HA, HB, HO⟩
      iapply (trip_drain c T1 fA fB i (Memref.whole main_arg5) (Memref.isWhole_whole _) arg3 harg3 arg4 harg4 arg5 harg5 arg6 harg6 arg7 harg7 arg10 harg10 arg0 v233 v237 v247 v248 v H t _)
      isplitl [HT]; · iexact HT
      isplitl [HA]; · iexact HA
      isplitl [HB]; · iexact HB
      isplitl [HO]; · iexact HO
      iintro HX; iexact HX)) $$ HI
  iintro %_ HI
  rw [show Scf.trips k1_t2_loop.lb k1_t2_loop.ub k1_t2_loop.st = 16 from trips2]
  iapply HK
  iexact HI

/-- The body's instance of the first table. -/
abbrev Tab0 (c : Dev nD) (T0 : Buf (Elt F) ((Memref.whole main_arg5).view.loc (c : Thread nD τ))) : sProp 𝕄 :=
  iprop((Memref.whole main_arg5).view.loc (c : Thread nD τ) ↦[(Memref.whole main_arg5).view.set]{fullShare} T0)

/-- The frame block `i` reads its patches from: the second word of its row. -/
def word0 (c : Dev nD) (T0 : Buf (Elt F) ((Memref.whole main_arg5).view.loc (c : Thread nD τ))) (i : grid1.Coords) : Elt F .i32 :=
  (Memref.whole main_arg5).view.readAt (Elt F) (Rect.unit (s := S20x3) (k1_off2 i) S1x1.size (k1_off2_inb i)).toLoadRect T0
    (Shape.Idx.first (by show 0 < S1x1.numel; rw [numel1_S1x1]; exact Nat.one_pos))

abbrev part6 := k1_part6 (F := F) i (Memref.whole main_arg5) (Memref.isWhole_whole _) (Memref.whole main_arg6) (Memref.isWhole_whole _) arg3 harg3 arg4 harg4 arg5 harg5 arg6 harg6 arg7 harg7 (Memref.whole main_v3) (Memref.isWhole_whole _) (Memref.whole main_v4) (Memref.isWhole_whole _) arg10 harg10 (Memref.whole cc1_scratch0) (Memref.isWhole_whole _) (Memref.whole cc1_scratch1) (Memref.isWhole_whole _) cc1_scratch2 arg0 v233 v237 v247 v248

theorem readWhole0 (c : Dev nD) (f : Buf (Elt F) ((Memref.whole cc1_scratch0).view.loc (c : Thread nD τ))) :
    (Memref.whole cc1_scratch0).view.readAt (Elt F) (Rect.unit (s := S256x8x8x64) ![0, 0, 0, 0] S256x8x8x64.size inb_S256x8x8x64_S256x8x8x64_0_0_0_0).toLoadRect f = f :=
  (View.readAt_full (s := S256x8x8x64) (Memref.whole cc1_scratch0).view f _).trans rfl
theorem triple6 (H0 : Inside c T1 i (word0 c T0 i))
    (s0 : Buf (Elt F) ((Memref.whole cc1_scratch0).view.loc (c : Thread nD τ))) (s1 : Buf (Elt F) ((Memref.whole cc1_scratch1).view.loc (c : Thread nD τ)))
    (K : (Σ' (v249 : FVec F S256x1 .f32), FVec F S256x7x7x64 .f32) → sProp 𝕄) :
    iprop(Tab0 c T0 ∗ Tab c T1 ∗ ((Memref.whole cc1_scratch0).view.loc (c : Thread nD τ) ↦{fullShare} s0) ∗ ((Memref.whole cc1_scratch1).view.loc (c : Thread nD τ) ↦{fullShare} s1)
      ∗ ((Memref.whole main_v3).view.loc (c : Thread nD τ) ↦{fullShare} fA) ∗ ((Memref.whole main_v4).view.loc (c : Thread nD τ) ↦{fullShare} fB)
      ∗ Pipeline.ownSems0 osem c ∗ (∃ W, owes (c : Thread nD τ) 0 W)
      ∗ ((Tab0 c T0 ∗ Tab c T1 ∗ ((Memref.whole cc1_scratch0).view.loc (c : Thread nD τ) ↦{fullShare} GA c T1 fA i (word0 c T0 i) H0) ∗ ((Memref.whole cc1_scratch1).view.loc (c : Thread nD τ) ↦{fullShare} GB c T1 fB i (word0 c T0 i) H0)
        ∗ ((Memref.whole main_v3).view.loc (c : Thread nD τ) ↦{fullShare} fA) ∗ ((Memref.whole main_v4).view.loc (c : Thread nD τ) ↦{fullShare} fB)
        ∗ Pipeline.ownSems0 osem c ∗ (∃ W, owes (c : Thread nD τ) 0 W)) -∗ K ⟨k1_pay67 v247 v248, k1_pay68 v233 v237 (GA c T1 fA i (word0 c T0 i) H0)⟩))
    ⊢ wp frame (wpE (defs₀ (F := F)) Variants.none c none) Set.univ
        (part6 i arg3 harg3 arg4 harg4 arg5 harg5 arg6 harg6 arg7 harg7 arg10 harg10 arg0 v233 v237 v247 v248) K := by
  iintro ⟨HT0, HT1, HS0, HS1, HA, HB, HC, HO, HK⟩
  ihave HR := (rings_start c T1 fA fB i (word0 c T0 i) H0 s0 s1) $$ [HS0 HS1 HA HB HC]
  · isplitl [HS0]; · iexact HS0
    isplitl [HS1]; · iexact HS1
    isplitl [HA]; · iexact HA
    isplitl [HB]; · iexact HB
    iexact HC
  icases HR with ⟨HA, HB, HkA, HkB⟩
  unfold part6
  rw [k1_part6_eq_skeleton]
  unfold k1_part6_skel
  sl_exec
  iapply (loop1 c T1 fA fB i arg3 harg3 arg4 harg4 arg5 harg5 arg6 harg6 arg7 harg7 arg10 harg10 arg0 v233 v237 v247 v248 (word0 c T0 i) H0) $$ [HT1 HA HB HO]
  · unfold Inv
    isplitl [HT1]; · iexact HT1
    isplitl [HA]; · iexact HA
    isplitl [HB]; · iexact HB
    iexact HO
  iintro HI
  iapply (loop2 c T1 fA fB i arg3 harg3 arg4 harg4 arg5 harg5 arg6 harg6 arg7 harg7 arg10 harg10 arg0 v233 v237 v247 v248 (word0 c T0 i) H0) $$ HI
  iintro HI
  unfold Inv
  icases HI with ⟨HT1, HA, HB, HO⟩
  ihave HR := (rings_end c T1 fA fB i (word0 c T0 i) H0) $$ [HA HB HkA HkB]
  · isplitl [HA]; · iexact HA
    isplitl [HB]; · iexact HB
    isplitl [HkA]; · iexact HkA
    iexact HkB
  icases HR with ⟨HS0, HS1, HA, HB, HC⟩
  sl_exec
  rw [readWhole0]
  sl_step
  iapply HK
  isplitl [HT0]; · iexact HT0
  isplitl [HT1]; · iexact HT1
  isplitl [HS0]; · iexact HS0
  isplitl [HS1]; · iexact HS1
  isplitl [HA]; · iexact HA
  isplitl [HB]; · iexact HB
  isplitl [HC]; · iexact HC
  iexact HO

end Cert.KernelIdeal.Edge

end
-- ==== Proof.Ideal.Tables.lean ====
/-
  What the precondition gives the edge call: its block positions and its copies' windows all lie inside the arrays.
-/
module

public import proofs.«01_k».proof.Proof.Decode
public import proofs.«01_k».proof.Proof.Ideal.Patches

@[expose] public section

set_option maxRecDepth 16384

noncomputable section

namespace Cert.KernelIdeal.Edge

open Cert.KernelIdeal Cert.KernelIdeal.Gen Cert.Tables
open Idealize.ShloMosaic Idealize.ShloMosaic.TcCoe

variable {F : FTy → Type} [FloatOps F]

/-- Tables as the precondition asks. -/
def Good (pf : pre1.Contents (Elt F)) : Prop :=
  (∀ (g : Fin 20) (r : Fin 3), BitVec.toNat (w := 32) (pf 0 (ix2 g r)) = blk g r)
    ∧ ∀ (r : Fin 4) (g : Fin 20) (e : Fin 256), BitVec.toNat (w := 32) (pf 1 (ix3 r g e)) ≤ top r

variable {pf : pre1.Contents (Elt F)} (hg : Good pf) (i : grid1.Coords)

theorem unit_first2 (o : Fin 2 → ℕ) (g : Fin 20) (r : Fin 3) (e : o = ![g.val, r.val]) (h : ∀ a, o a + S1x1.size a ≤ S20x3.size a) (x) :
    (Rect.unit (s := S20x3) o S1x1.size h).emb x = ix2 g r := by
  subst e
  funext a; apply Fin.ext
  match a with
  | 0 => show g.val + 1 * (x 0).val = g.val; have : (x 0).val < 1 := (x 0).isLt; omega
  | 1 => show r.val + 1 * (x 1).val = r.val; have : (x 1).val < 1 := (x 1).isLt; omega

theorem unit_first3 (o : Fin 3 → ℕ) (r : Fin 4) (g : Fin 20) (e : Fin 256) (ho : o = ![r.val, g.val, e.val])
    (h : ∀ a, o a + S1x1x1.size a ≤ S4x20x256.size a) (x) : (Rect.unit (s := S4x20x256) o S1x1x1.size h).emb x = ix3 r g e := by
  subst ho
  funext a; apply Fin.ext
  match a with
  | 0 => show r.val + 1 * (x 0).val = r.val; have : (x 0).val < 1 := (x 0).isLt; omega
  | 1 => show g.val + 1 * (x 1).val = g.val; have : (x 1).val < 1 := (x 1).isLt; omega
  | 2 => show e.val + 1 * (x 2).val = e.val; have : (x 2).val < 1 := (x 2).isLt; omega

include hg

theorem at0 (o : Fin 2 → ℕ) (r : Fin 3) (e : o = ![(i 0).val, r.val]) (h : ∀ a, o a + S1x1.size a ≤ S20x3.size a) :
    BitVec.toNat (w := 32) (pf.at 0 (Rect.unit (s := S20x3) o S1x1.size h) numel1_S1x1) = blk (i 0) r :=
  (congrArg (fun z => BitVec.toNat (w := 32) (pf 0 z)) (unit_first2 o (i 0) r e h _)).trans (hg.1 (i 0) r)

theorem tr0 : cc1_transform_0 k1_off1_inb numel1_S1x1 pf i = ![blk (i 0) 0, 0, 0] :=
  congrArg (fun n => ![n, 0, 0]) (at0 hg i _ 0 (off1_eq i) (k1_off1_inb i))
theorem tr1 : cc1_transform_1 k1_off1_inb numel1_S1x1 pf i = ![blk (i 0) 0, 0, 0] :=
  congrArg (fun n => ![n, 0, 0]) (at0 hg i _ 0 (off1_eq i) (k1_off1_inb i))
theorem tr2 : cc1_transform_2 k1_off2_inb numel1_S1x1 pf i = ![blk (i 0) 1, 0, 0] :=
  congrArg (fun n => ![n, 0, 0]) (at0 hg i _ 1 (off2_eq i) (k1_off2_inb i))
theorem tr4 : cc1_transform_4 k1_off1_inb numel1_S1x1 pf i = ![blk (i 0) 0, 0, 0, 0, 0] :=
  congrArg (fun n => ![n, 0, 0, 0, 0]) (at0 hg i _ 0 (off1_eq i) (k1_off1_inb i))
theorem tr7 : cc1_transform_7 k1_off3_inb numel1_S1x1 pf i = ![blk (i 0) 2, 0, 0] :=
  congrArg (fun n => ![n, 0, 0]) (at0 hg i _ 2 (off3_eq i) (k1_off3_inb i))

/-- Every block the call moves lies inside its array. -/
theorem good_ok : ok1 pf := by
  have b0 (i : grid1.Coords) := blk_src (i 0)
  have b1 (i : grid1.Coords) := blk_tgt (i 0)
  have b2 (i : grid1.Coords) := blk_row (i 0)
  refine ⟨fun i => ⟨?_, .inl rfl⟩, fun i => ⟨?_, .inl rfl⟩, fun i => ⟨?_, .inl rfl⟩, fun i => ⟨?_, .inl rfl⟩, fun i => ⟨?_, .inl rfl⟩⟩
  · rw [tr0 hg i]; intro a; have := b0 i
    fin_cases a
    · show (blk (i 0) 0 + 1) * 1 ≤ 8; omega
    · show (0 + 1) * 256 ≤ 256; omega
    · show (0 + 1) * 3 ≤ 3; omega
  · rw [tr1 hg i]; intro a; have := b0 i
    fin_cases a
    · show (blk (i 0) 0 + 1) * 1 ≤ 8; omega
    · show (0 + 1) * 1 ≤ 1; omega
    · show (0 + 1) * 7 ≤ 7; omega
  · rw [tr2 hg i]; intro a; have := b1 i
    fin_cases a
    · show (blk (i 0) 1 + 1) * 1 ≤ 8; omega
    · show (0 + 1) * 1 ≤ 1; omega
    · show (0 + 1) * 7 ≤ 7; omega
  · rw [tr4 hg i]; intro a; have := b0 i
    fin_cases a
    · show (blk (i 0) 0 + 1) * 1 ≤ 8; omega
    · show (0 + 1) * 256 ≤ 256; omega
    · show (0 + 1) * 5 ≤ 5; omega
    · show (0 + 1) * 5 ≤ 5; omega
    · show (0 + 1) * 64 ≤ 64; omega
  · rw [tr7 hg i]; intro a; have := b2 i
    fin_cases a
    · show (blk (i 0) 2 + 1) * 1 ≤ 20; omega
    · show (0 + 1) * 256 ≤ 256; omega
    · show (0 + 1) * 18 ≤ 18; omega

variable (c : Dev nD)

theorem word0_eq : BitVec.toNat (w := 32) (word0 (F := F) c (pf 0) i) = blk (i 0) 1 :=
  (congrArg (fun z => BitVec.toNat (w := 32) (pf 0 z)) (unit_first2 _ (i 0) 1 (off2_eq i) (k1_off2_inb i) _)).trans (hg.1 (i 0) 1)

theorem tw_eq (r : Fin 4) (e : Fin 256) : tw (F := F) c (pf 1) i r e = pf 1 (ix3 r (i 0) e) :=
  congrArg (pf 1) (unit_first3 _ r (i 0) e rfl (rowInb r i e) _)

theorem tw_le (r : Fin 4) (e : Fin 256) : BitVec.toNat (w := 32) (tw (F := F) c (pf 1) i r e) ≤ top r := by
  rw [tw_eq hg i c]; exact hg.2 r (i 0) e

/-- Every window the call copies lies inside its frame. -/
theorem good_inside : Inside c (pf 1) i (word0 (F := F) c (pf 0) i) := by
  intro e
  have hw := word0_eq hg i c
  have b := blk_tgt (i 0)
  have h0 : _ ≤ 264 := tw_le hg i c 0 e
  have h1 : _ ≤ 264 := tw_le hg i c 1 e
  have h2 : _ ≤ 88 := tw_le hg i c 2 e
  have h3 : _ ≤ 88 := tw_le hg i c 3 e
  constructor
  · intro a
    fin_cases a
    · show BitVec.toNat (w := 32) (word0 (F := F) c (pf 0) i) + 1 ≤ 8; omega
    · show BitVec.toNat (w := 32) (tw (F := F) c (pf 1) i 1 e) + 8 ≤ 272; omega
    · show BitVec.toNat (w := 32) (tw (F := F) c (pf 1) i 0 e) + 8 ≤ 272; omega
    · show 0 + 64 ≤ 64; omega
  · intro a
    fin_cases a
    · show BitVec.toNat (w := 32) (word0 (F := F) c (pf 0) i) + 1 ≤ 8; omega
    · show BitVec.toNat (w := 32) (tw (F := F) c (pf 1) i 3 e) + 8 ≤ 96; omega
    · show BitVec.toNat (w := 32) (tw (F := F) c (pf 1) i 2 e) + 8 ≤ 96; omega
    · show 0 + 64 ≤ 64; omega

end Cert.KernelIdeal.Edge

end
-- ==== Proof.Ideal.Block.lean ====
/-
  What one grid step of the edge kernel computes, named: the values its body passes from one part to the next, as
  functions of the windows it loads and of the patches its copies land in the two scratches.
-/
module

public import proofs.«01_k».proof.Proof.Gen.KernelIdeal.Skeleton

@[expose] public section

set_option maxRecDepth 16384

noncomputable section

namespace Cert.KernelIdeal.Edge

open Cert.KernelIdeal Cert.KernelIdeal.Gen
open Idealize.ShloMosaic Idealize.ShloMosaic.TcCoe

/-- What a grid step reads: five windows, and the two scratches once the copies have landed. -/
structure Blk (F : FTy → Type) where
  x3 : Vec F S1x256x3 .f32
  x4 : Vec F S1x1x7 .f32
  x5 : Vec F S1x1x7 .f32
  x6 : Vec F S1x256x4 .f32
  x7 : Vec F S1x256x5x5x64 .f32
  ga : Vec F S256x8x8x64 .f32
  gb : Vec F S256x8x8x64 .f32

namespace Blk

variable {F : FTy → Type} [FloatOps F] (X : Blk F)

/-! The points' coordinates and the two poses, taken apart. -/
def v22 : FVec F S256x1 .f32 := k1_pay10 X.x3
def v25 : FVec F S256x1 .f32 := k1_pay11 X.x3
def v27 : FVec F S256x1 .f32 := k1_pay12 X.x3
def v29 : FVec F S1x7 .f32 := k1_pay13 X.x4
def v31 : FVec F S1x7 .f32 := k1_pay14 X.x5
def v32 : FVec F S1x1 .f32 := k1_pay15 X.x4
def v33 : FVec F S1x1 .f32 := k1_pay16 X.x4
def v34 : FVec F S1x1 .f32 := k1_pay17 X.x4
def v35 : FVec F S1x1 .f32 := k1_pay18 X.x4
def v42 : FVec F S1x1 .f32 := k1_pay19 X.x4

/-! The first pose's rotation applied. -/
def v44 : FVec F S1x1 .f32 := k1_pay21 X.v32 X.v42
def v45 : FVec F S1x1 .f32 := k1_pay22 X.v33 X.v42
def v47 : FVec F S1x1 .f32 := k1_pay24 X.v35 X.v42
def v60 : FVec F S1x1 .f32 := k1_pay30 X.v31
def v61 : FVec F S1x1 .f32 := k1_pay31 X.v31
def v62 : FVec F S1x1 .f32 := k1_pay32 X.v31
def v63 : FVec F S1x1 .f32 := k1_pay33 X.v31
def v70 : FVec F S256x1 .f32 := k1_pay34 X.v25 X.v27 X.v33 X.v34 X.v42
def v77 : FVec F S256x1 .f32 := k1_pay35 X.v22 X.v27 X.v32 X.v34 X.v42
def v84 : FVec F S256x1 .f32 := k1_pay36 X.v22 X.v25 X.v32 X.v33 X.v42
def v93 : FVec F S256x1 .f32 := k1_pay37 X.v22 X.v25 X.v27 X.v32 X.v33 X.v34 X.v35 X.v42
def v96 : FVec F S256x1 .f32 := k1_pay38 X.v22 X.v25 X.v27 X.v32 X.v34 X.v35 X.v42
def v98 : FVec F S256x1 .f32 := k1_pay39 X.v25 X.v27 X.v33 X.v34 X.v42
def v99 : FVec F S256x1 .f32 := k1_pay40 X.v32 X.v42

/-! The second pose's inverse applied to the points. -/
def v123 : FVec F S256x1 .f32 := k1_pay41 X.v29 X.v31 X.v93
def v126 : FVec F S256x1 .f32 := k1_pay42 X.v29 X.v31 X.v84 X.v96 X.v98 X.v99
def v129 : FVec F S256x1 .f32 := k1_pay43 X.v27 X.v29 X.v31 X.v44 X.v45 X.v47 X.v70 X.v77 X.v84
def v131 : FVec F S1x1 .f32 := k1_pay44 X.v60
def v133 : FVec F S1x1 .f32 := k1_pay45 X.v61
def v135 : FVec F S1x1 .f32 := k1_pay46 X.v62
def v142 : FVec F S256x1 .f32 := k1_pay47 X.v27 X.v29 X.v31 X.v44 X.v45 X.v47 X.v61 X.v62 X.v70 X.v77 X.v84 X.v96 X.v98 X.v99
def v149 : FVec F S256x1 .f32 := k1_pay48 X.v27 X.v29 X.v31 X.v44 X.v45 X.v47 X.v60 X.v62 X.v70 X.v77 X.v84 X.v93
def v154 : FVec F S256x1 .f32 := k1_pay49 X.v29 X.v31 X.v60 X.v61 X.v84 X.v93 X.v96 X.v98 X.v99

/-! The pixel coordinates and the view test. -/
def v189 : FVec F S256x1 .f32 := k1_pay54 X.v63 X.v123 X.v126 X.v129 X.v131 X.v133 X.v135 X.v142 X.v149 X.v154
def v190 : FVec F S256x1 .f32 := k1_pay55 X.v63 X.v123 X.v126 X.v131 X.v133 X.v135 X.v142 X.v149 X.v154
def v206 : IVec S256x1 1 := k1_pay56 X.v63 X.v123 X.v126 X.v129 X.v131 X.v133 X.v135 X.v142 X.v149 X.v154
def v207 : FVec F S256x1 .f32 := k1_pay57 X.v63 X.v123 X.v126 X.v129 X.v131 X.v133 X.v135 X.v142 X.v149 X.v154

/-! The mask, and the fractions of a pixel. -/
def v213 : FVec F S256x1 .f32 := k1_pay58 X.v206 X.v207
def v233 : FVec F S256x1 .f32 := k1_pay62 X.v190 X.x6
def v237 : FVec F S256x1 .f32 := k1_pay63 X.v189 X.x6
def v243 : FVec F S256x1 .f32 := k1_pay64 X.v190 X.x6
def v247 : FVec F S256x1 .f32 := k1_pay65 X.v189
def v248 : FVec F S256x1 .f32 := k1_pay66 X.x6

/-! The first map's patches, interpolated. -/
def v249 : FVec F S256x1 .f32 := k1_pay67 X.v247 X.v248
def v285 : FVec F S256x7x7x64 .f32 := k1_pay68 X.v233 X.v237 X.ga

/-! The second map's patches, interpolated, and the first correlation sums. -/
def v317 : FVec F S256x7x7x64 .f32 := k1_pay69 X.v243 X.v249 X.gb
def v319 : FVec F S256x5x5x64 .f32 := k1_pay70 X.x7
def v323 : FVec F S256x1 .f32 := k1_pay71 X.v285 X.x7
def v327 : FVec F S256x1 .f32 := k1_pay72 X.v285 X.x7
def v331 : FVec F S256x1 .f32 := k1_pay73 X.v285 X.x7
def v333 : FVec F S256x5x5x64 .f32 := k1_pay74 X.v285 X.x7

/-! The other correlation sums. -/
def v335 : FVec F S256x1 .f32 := k1_pay75 X.v333
def v339 : FVec F S256x1 .f32 := k1_pay76 X.v285 X.v319
def v343 : FVec F S256x1 .f32 := k1_pay77 X.v285 X.v319
def v347 : FVec F S256x1 .f32 := k1_pay78 X.v285 X.v319
def v351 : FVec F S256x1 .f32 := k1_pay79 X.v285 X.v319
def v355 : FVec F S256x1 .f32 := k1_pay80 X.v285 X.v319
def v359 : FVec F S256x1 .f32 := k1_pay81 X.v317 X.v319
def v363 : FVec F S256x1 .f32 := k1_pay82 X.v317 X.v319
def v367 : FVec F S256x1 .f32 := k1_pay83 X.v317 X.v319
def v371 : FVec F S256x1 .f32 := k1_pay84 X.v317 X.v319
def v375 : FVec F S256x1 .f32 := k1_pay85 X.v317 X.v319
def v379 : FVec F S256x1 .f32 := k1_pay86 X.v317 X.v319
def v381 : FVec F S256x5x5x64 .f32 := k1_pay87 X.v317 X.v319

def v385 : FVec F S256x5x5x64 .f32 := k1_pay1 X.v317 X.v319
def v389 : FVec F S256x5x5x64 .f32 := k1_pay2 X.v317 X.v319
def v392 : FVec F S256x18 .f32 := k1_pay3 X.v323 X.v327 X.v331 X.v335 X.v339 X.v343 X.v347 X.v351 X.v355 X.v359 X.v363 X.v367 X.v371 X.v375 X.v379 X.v381 X.v385 X.v389

/-- The block of results the step stores. -/
def out : Vec F S1x256x18 .f32 := k1_pay4 X.v213 X.v392

end Blk

end Cert.KernelIdeal.Edge

end
-- ==== Proof.Ideal.Body.lean ====
/-
  One grid step of the edge kernel: from the windows, the scratches, the maps, the tables and the cells to the same with
  the block of results stored.
-/
module

public import proofs.«01_k».proof.Proof.Ideal.Patches
public import proofs.«01_k».proof.Proof.Ideal.Block

@[expose] public section

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (T0 : Buf (Elt F) ((Memref.whole main_arg5).view.loc (c : Thread nD τ)))
  (T1 : Buf (Elt F) ((Memref.whole main_arg6).view.loc (c : Thread nD τ)))
  (fA : Buf (Elt F) ((Memref.whole main_v3).view.loc (c : Thread nD τ)))
  (fB : Buf (Elt F) ((Memref.whole main_v4).view.loc (c : Thread nD τ)))
  (i : grid1.Coords)

theorem readWhole1 (f : Buf (Elt F) ((Memref.whole cc1_scratch1).view.loc (c : Thread nD τ))) :
    (Memref.whole cc1_scratch1).view.readAt (Elt F) (Rect.unit (s := S256x8x8x64) ![0, 0, 0, 0] S256x8x8x64.size inb_S256x8x8x64_S256x8x8x64_0_0_0_0).toLoadRect f = f :=
  (View.readAt_full (s := S256x8x8x64) (Memref.whole cc1_scratch1).view f _).trans rfl

section Parts
variable (m3 : Memref sig .tc .vmem S1x256x3 .f32) (h3 : m3.IsWhole) (m4 : Memref sig .tc .vmem S1x1x7 .f32) (h4 : m4.IsWhole) (m5 : Memref sig .tc .vmem S1x1x7 .f32) (h5 : m5.IsWhole)
  (m6 : Memref sig .tc .vmem S1x256x4 .f32) (h6 : m6.IsWhole) (m7 : Memref sig .tc .vmem S1x256x5x5x64 .f32) (h7 : m7.IsWhole) (m10 : Memref sig .tc .vmem S1x256x18 .f32) (h10 : m10.IsWhole) (X : Blk F)

theorem pure2 : k1_part2 (F := F) i (Memref.whole main_arg5) (Memref.isWhole_whole _) (Memref.whole main_arg6) (Memref.isWhole_whole _) m3 h3 m4 h4 m5 h5 m6 h6 m7 h7 (Memref.whole main_v3) (Memref.isWhole_whole _) (Memref.whole main_v4) (Memref.isWhole_whole _) m10 h10 (Memref.whole cc1_scratch0) (Memref.isWhole_whole _) (Memref.whole cc1_scratch1) (Memref.isWhole_whole _) cc1_scratch2 X.v22 X.v25 X.v27 X.v31 X.v32 X.v33 X.v34 X.v35 X.v42 = pure ⟨X.v44, X.v45, X.v47, X.v60, X.v61, X.v62, X.v63, X.v70, X.v77, X.v84, X.v93, X.v96, X.v98, X.v99⟩ := by
  rw [k1_part2_eq_skeleton]; rfl
theorem pure3 : k1_part3 (F := F) i (Memref.whole main_arg5) (Memref.isWhole_whole _) (Memref.whole main_arg6) (Memref.isWhole_whole _) m3 h3 m4 h4 m5 h5 m6 h6 m7 h7 (Memref.whole main_v3) (Memref.isWhole_whole _) (Memref.whole main_v4) (Memref.isWhole_whole _) m10 h10 (Memref.whole cc1_scratch0) (Memref.isWhole_whole _) (Memref.whole cc1_scratch1) (Memref.isWhole_whole _) cc1_scratch2 X.v27 X.v29 X.v31 X.v44 X.v45 X.v47 X.v60 X.v61 X.v62 X.v70 X.v77 X.v84 X.v93 X.v96 X.v98 X.v99 = pure ⟨X.v123, X.v126, X.v129, X.v131, X.v133, X.v135, X.v142, X.v149, X.v154⟩ := by
  rw [k1_part3_eq_skeleton]; rfl
theorem pure4 : k1_part4 (F := F) i (Memref.whole main_arg5) (Memref.isWhole_whole _) (Memref.whole main_arg6) (Memref.isWhole_whole _) m3 h3 m4 h4 m5 h5 m6 h6 m7 h7 (Memref.whole main_v3) (Memref.isWhole_whole _) (Memref.whole main_v4) (Memref.isWhole_whole _) m10 h10 (Memref.whole cc1_scratch0) (Memref.isWhole_whole _) (Memref.whole cc1_scratch1) (Memref.isWhole_whole _) cc1_scratch2 X.v63 X.v123 X.v126 X.v129 X.v131 X.v133 X.v135 X.v142 X.v149 X.v154 = pure ⟨X.v189, X.v190, X.v206, X.v207⟩ := by
  rw [k1_part4_eq_skeleton]; rfl
theorem pure8 : k1_part8 (F := F) i (Memref.whole main_arg5) (Memref.isWhole_whole _) (Memref.whole main_arg6) (Memref.isWhole_whole _) m3 h3 m4 h4 m5 h5 m6 h6 m7 h7 (Memref.whole main_v3) (Memref.isWhole_whole _) (Memref.whole main_v4) (Memref.isWhole_whole _) m10 h10 (Memref.whole cc1_scratch0) (Memref.isWhole_whole _) (Memref.whole cc1_scratch1) (Memref.isWhole_whole _) cc1_scratch2 X.v285 X.v317 X.v319 X.v333 = pure ⟨X.v335, X.v339, X.v343, X.v347, X.v351, X.v355, X.v359, X.v363, X.v367, X.v371, X.v375, X.v379, X.v381⟩ := by
  rw [k1_part8_eq_skeleton]; rfl
theorem load1 (K : _ → sProp 𝕄) : iprop(owns (c : Thread nD τ) m3 fullShare X.x3 ∗ owns (c : Thread nD τ) m4 fullShare X.x4 ∗ owns (c : Thread nD τ) m5 fullShare X.x5 ∗ ((owns (c : Thread nD τ) m3 fullShare X.x3 ∗ owns (c : Thread nD τ) m4 fullShare X.x4 ∗ owns (c : Thread nD τ) m5 fullShare X.x5) -∗ K ⟨BitVec.ofNat 32 (i 0).val, X.v22, X.v25, X.v27, X.v29, X.v31, X.v32, X.v33, X.v34, X.v35, X.v42⟩))
    ⊢ wp frame (wpE (defs₀ (F := F)) Variants.none c none) Set.univ (k1_part1 (F := F) i (Memref.whole main_arg5) (Memref.isWhole_whole _) (Memref.whole main_arg6) (Memref.isWhole_whole _) m3 h3 m4 h4 m5 h5 m6 h6 m7 h7 (Memref.whole main_v3) (Memref.isWhole_whole _) (Memref.whole main_v4) (Memref.isWhole_whole _) m10 h10 (Memref.whole cc1_scratch0) (Memref.isWhole_whole _) (Memref.whole cc1_scratch1) (Memref.isWhole_whole _) cc1_scratch2 ) K := by
  rw [k1_part1_eq_skeleton]
  unfold k1_part1_skel owns
  unfold Blk.v22 Blk.v25 Blk.v27 Blk.v29 Blk.v31 Blk.v32 Blk.v33 Blk.v34 Blk.v35 Blk.v42
  iintro ⟨⟨%f3, %e3, H3⟩, ⟨%f4, %e4, H4⟩, ⟨%f5, %e5, H5⟩, HK⟩
  sl_exec
  sl_step
  rw [View.readAt_full m3.view f3 _, e3, View.readAt_full m4.view f4 _, e4, View.readAt_full m5.view f5 _, e5]
  iapply HK
  isplitl [H3]
  · iexists f3; isplitr; · ipureintro; exact e3
    iexact H3
  isplitl [H4]
  · iexists f4; isplitr; · ipureintro; exact e4
    iexact H4
  iexists f5; isplitr; · ipureintro; exact e5
  iexact H5
theorem load5 (K : _ → sProp 𝕄) : iprop(owns (c : Thread nD τ) m6 fullShare X.x6 ∗ ((owns (c : Thread nD τ) m6 fullShare X.x6) -∗ K ⟨X.v213, X.v233, X.v237, X.v243, X.v247, X.v248⟩))
    ⊢ wp frame (wpE (defs₀ (F := F)) Variants.none c none) Set.univ (k1_part5 (F := F) i (Memref.whole main_arg5) (Memref.isWhole_whole _) (Memref.whole main_arg6) (Memref.isWhole_whole _) m3 h3 m4 h4 m5 h5 m6 h6 m7 h7 (Memref.whole main_v3) (Memref.isWhole_whole _) (Memref.whole main_v4) (Memref.isWhole_whole _) m10 h10 (Memref.whole cc1_scratch0) (Memref.isWhole_whole _) (Memref.whole cc1_scratch1) (Memref.isWhole_whole _) cc1_scratch2 X.v189 X.v190 X.v206 X.v207) K := by
  rw [k1_part5_eq_skeleton]
  unfold k1_part5_skel owns
  unfold Blk.v213 Blk.v233 Blk.v237 Blk.v243 Blk.v247 Blk.v248
  iintro ⟨⟨%f6, %e6, H6⟩, HK⟩
  sl_exec
  sl_step
  rw [View.readAt_full m6.view f6 _, e6]
  iapply HK
  iexists f6; isplitr; · ipureintro; exact e6
  iexact H6
theorem load7 (K : _ → sProp 𝕄) : iprop(owns (c : Thread nD τ) m7 fullShare X.x7 ∗ ((Memref.whole cc1_scratch1).view.loc (c : Thread nD τ) ↦{fullShare} X.gb)
      ∗ ((owns (c : Thread nD τ) m7 fullShare X.x7 ∗ ((Memref.whole cc1_scratch1).view.loc (c : Thread nD τ) ↦{fullShare} X.gb)) -∗ K ⟨X.v317, X.v319, X.v323, X.v327, X.v331, X.v333⟩))
    ⊢ wp frame (wpE (defs₀ (F := F)) Variants.none c none) Set.univ (k1_part7 (F := F) i (Memref.whole main_arg5) (Memref.isWhole_whole _) (Memref.whole main_arg6) (Memref.isWhole_whole _) m3 h3 m4 h4 m5 h5 m6 h6 m7 h7 (Memref.whole main_v3) (Memref.isWhole_whole _) (Memref.whole main_v4) (Memref.isWhole_whole _) m10 h10 (Memref.whole cc1_scratch0) (Memref.isWhole_whole _) (Memref.whole cc1_scratch1) (Memref.isWhole_whole _) cc1_scratch2 X.v243 X.v249 X.v285) K := by
  rw [k1_part7_eq_skeleton]
  unfold k1_part7_skel owns
  unfold Blk.v317 Blk.v319 Blk.v323 Blk.v327 Blk.v331 Blk.v333
  iintro ⟨⟨%f7, %e7, H7⟩, HS, HK⟩
  sl_exec
  sl_step
  rw [View.readAt_full m7.view f7 _, e7, readWhole1 c]
  iapply HK
  isplitl [H7]
  · iexists f7; isplitr; · ipureintro; exact e7
    iexact H7
  iexact HS

/-- The store of the step's results. -/
def tail (r : FVec F S256x1 .f32) (u : FVec F S256x18 .f32) : Prog (TpuEff nD τ sig (Elt F) Λ₀ .tc) PUnit := do
  let _v395 : Vec F S1x256x18 .f32 ← Prog.lift (.load m10 (Rect.unit (s := S1x256x18) ![0, 0, 0] S1x256x18.size inb_S1x256x18_S1x256x18_0_0_0).toLoadRect (View.loadsAt_vmem h_S1x256x18))
  Prog.lift (.store m10 (Rect.unit (s := S1x256x18) ![0, 0, 0] S1x256x18.size inb_S1x256x18_S1x256x18_0_0_0) (k1_pay4 r u) Finset.univ (View.stores_vmem_bits_univ h_S1x256x18 rfl) (.inl rfl))
  pure ⟨⟩

theorem store8 (r : FVec F S256x1 .f32) (u : FVec F S256x18 .f32) (x10 : Vec F S1x256x18 .f32) (K : PUnit → sProp 𝕄) :
    iprop(owns (c : Thread nD τ) m10 fullShare x10 ∗ (owns (c : Thread nD τ) m10 fullShare (k1_pay4 r u) -∗ K ⟨⟩))
    ⊢ wp frame (wpE (defs₀ (F := F)) Variants.none c none) Set.univ (tail m10 r u) K := by
  unfold tail owns
  iintro ⟨⟨%f, %e, H⟩, HK⟩
  sl_exec
  sl_step
  iapply HK
  iexists _; isplitr
  swap; · iexact H
  ipureintro
  exact View.read_writes_full m10.view f _ _ _

set_option maxHeartbeats 1000000 in
theorem tripleBody (H0 : Inside c T1 i (word0 c T0 i)) (hga : GA c T1 fA i (word0 c T0 i) H0 = X.ga) (hgb : GB c T1 fB i (word0 c T0 i) H0 = X.gb) (x10 : Vec F S1x256x18 .f32)
    (s0 : Buf (Elt F) ((Memref.whole cc1_scratch0).view.loc (c : Thread nD τ))) (s1 : Buf (Elt F) ((Memref.whole cc1_scratch1).view.loc (c : Thread nD τ)))
    (K : PUnit → sProp 𝕄) :
    iprop(owns (c : Thread nD τ) m3 fullShare X.x3 ∗ owns (c : Thread nD τ) m4 fullShare X.x4 ∗ owns (c : Thread nD τ) m5 fullShare X.x5 ∗ owns (c : Thread nD τ) m6 fullShare X.x6
      ∗ owns (c : Thread nD τ) m7 fullShare X.x7 ∗ owns (c : Thread nD τ) m10 fullShare x10
      ∗ Tab0 c T0 ∗ Tab c T1 ∗ ((Memref.whole cc1_scratch0).view.loc (c : Thread nD τ) ↦{fullShare} s0) ∗ ((Memref.whole cc1_scratch1).view.loc (c : Thread nD τ) ↦{fullShare} s1)
      ∗ ((Memref.whole main_v3).view.loc (c : Thread nD τ) ↦{fullShare} fA) ∗ ((Memref.whole main_v4).view.loc (c : Thread nD τ) ↦{fullShare} fB)
      ∗ Pipeline.ownSems0 osem c ∗ (∃ W, owes (c : Thread nD τ) 0 W)
      ∗ ((owns (c : Thread nD τ) m3 fullShare X.x3 ∗ owns (c : Thread nD τ) m4 fullShare X.x4 ∗ owns (c : Thread nD τ) m5 fullShare X.x5 ∗ owns (c : Thread nD τ) m6 fullShare X.x6
        ∗ owns (c : Thread nD τ) m7 fullShare X.x7 ∗ owns (c : Thread nD τ) m10 fullShare X.out
        ∗ Tab0 c T0 ∗ Tab c T1 ∗ ((Memref.whole cc1_scratch0).view.loc (c : Thread nD τ) ↦{fullShare} X.ga) ∗ ((Memref.whole cc1_scratch1).view.loc (c : Thread nD τ) ↦{fullShare} X.gb)
        ∗ ((Memref.whole main_v3).view.loc (c : Thread nD τ) ↦{fullShare} fA) ∗ ((Memref.whole main_v4).view.loc (c : Thread nD τ) ↦{fullShare} fB)
        ∗ Pipeline.ownSems0 osem c ∗ (∃ W, owes (c : Thread nD τ) 0 W)) -∗ K ⟨⟩))
    ⊢ wp frame (wpE (defs₀ (F := F)) Variants.none c none) Set.univ
        (cc1__edge_body (F := F) i (Memref.whole main_arg5) (Memref.isWhole_whole _) (Memref.whole main_arg6) (Memref.isWhole_whole _) m3 h3 m4 h4 m5 h5 m6 h6 m7 h7 (Memref.whole main_v3) (Memref.isWhole_whole _) (Memref.whole main_v4) (Memref.isWhole_whole _) m10 h10 (Memref.whole cc1_scratch0) (Memref.isWhole_whole _) (Memref.whole cc1_scratch1) (Memref.isWhole_whole _) cc1_scratch2) K := by
  rw [cc1__edge_body_eq_skeleton]
  unfold cc1__edge_body_skel
  iintro ⟨H3, H4, H5, H6, H7, H10, HT0, HT1, HS0, HS1, HA, HB, HC, HO, HK⟩
  rw [wp_bind]
  iapply (load1 c i m3 h3 m4 h4 m5 h5 m6 h6 m7 h7 m10 h10 X _)
  isplitl [H3]; · iexact H3
  isplitl [H4]; · iexact H4
  isplitl [H5]; · iexact H5
  iintro ⟨H3, H4, H5⟩
  dsimp only
  rw [pure2 i m3 h3 m4 h4 m5 h5 m6 h6 m7 h7 m10 h10, pure_bind]
  dsimp only
  rw [pure3 i m3 h3 m4 h4 m5 h5 m6 h6 m7 h7 m10 h10, pure_bind]
  dsimp only
  rw [pure4 i m3 h3 m4 h4 m5 h5 m6 h6 m7 h7 m10 h10, pure_bind]
  dsimp only
  rw [wp_bind]
  iapply (load5 c i m3 h3 m4 h4 m5 h5 m6 h6 m7 h7 m10 h10 X _)
  isplitl [H6]; · iexact H6
  iintro H6
  dsimp only
  rw [wp_bind]
  iapply (triple6 c T0 T1 fA fB i m3 h3 m4 h4 m5 h5 m6 h6 m7 h7 m10 h10 (BitVec.ofNat 32 (i 0).val) X.v233 X.v237 X.v247 X.v248 H0 s0 s1 _)
  isplitl [HT0]; · iexact HT0
  isplitl [HT1]; · iexact HT1
  isplitl [HS0]; · iexact HS0
  isplitl [HS1]; · iexact HS1
  isplitl [HA]; · iexact HA
  isplitl [HB]; · iexact HB
  isplitl [HC]; · iexact HC
  isplitl [HO]; · iexact HO
  iintro ⟨HT0, HT1, HS0, HS1, HA, HB, HC, HO⟩
  rw [hga, hgb, show k1_pay67 X.v247 X.v248 = X.v249 from rfl, show k1_pay68 X.v233 X.v237 X.ga = X.v285 from rfl]
  dsimp only
  rw [wp_bind]
  iapply (load7 c i m3 h3 m4 h4 m5 h5 m6 h6 m7 h7 m10 h10 X _)
  isplitl [H7]; · iexact H7
  isplitl [HS1]; · iexact HS1
  iintro ⟨H7, HS1⟩
  dsimp only
  rw [pure8 i m3 h3 m4 h4 m5 h5 m6 h6 m7 h7 m10 h10, pure_bind]
  dsimp only
  iapply (store8 c m10 X.v213 X.v392 x10 _)
  isplitl [H10]; · iexact H10
  iintro H10
  iapply HK
  isplitl [H3]; · iexact H3
  isplitl [H4]; · iexact H4
  isplitl [H5]; · iexact H5
  isplitl [H6]; · iexact H6
  isplitl [H7]; · iexact H7
  isplitl [H10]; · iexact H10
  isplitl [HT0]; · iexact HT0
  isplitl [HT1]; · iexact HT1
  isplitl [HS0]; · iexact HS0
  isplitl [HS1]; · iexact HS1
  isplitl [HA]; · iexact HA
  isplitl [HB]; · iexact HB
  isplitl [HC]; · iexact HC
  iexact HO

end Parts

end Cert.KernelIdeal.Edge

end
-- ==== Proof.Ideal.Run.lean ====
/-
  The edge call's steps on the whole grid: what each reads and leaves, from any contents of the arrays.
-/
module

public import proofs.«01_k».proof.Proof.Ideal.Tables
public import proofs.«01_k».proof.Proof.Ideal.Body
public import Idealize.ShloMosaic.Lib.Pipeline.Frame
public import Idealize.ShloMosaic.Lib.Pipeline.FrameBody

@[expose] public section

set_option maxRecDepth 16384

noncomputable section

namespace Cert.KernelIdeal.Edge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Pipeline (Dat BodyObligation)

variable {F : FTy → Type} [FloatOps F]

local notation "𝕄" => MT nD τ sig Unit (Elt F) ℕ (Pipeline.UD sig nD τ) ℕ

variable (T : pre1.Contents (Elt F)) (V : (c : Dev nD) → (b : Ref sig .tc) → Buf (Elt F) ((c : Thread nD τ).loc b))

variable (hg : Good T)

abbrev cf := cfg1 (F := F) ⟨T, good_ok hg⟩
abbrev wn := (cf T hg).win

/-- The block of window `w` at grid point `t`. -/
def iblk (c : Dev nD) (w : Fin 6) (t : Fin (cf T hg).N) : ((wn T hg w).xblock ((cf T hg).grid.coords t)).Idx → Elt F (wn T hg w).elt :=
  ((wn T hg w).blk t).view.read (Elt F) (V c (Pipeline.arrRef spec1 w))

/-- What the step at `t` reads. -/
def stepIn (c : Dev nD) (t : Fin (cf T hg).N) : Blk F where
  x3 := iblk T V hg c 0 t
  x4 := iblk T V hg c 1 t
  x5 := iblk T V hg c 2 t
  x6 := iblk T V hg c 3 t
  x7 := iblk T V hg c 4 t
  ga := GA (F := F) c (T 1) (V c main_v3) (grid1.coords t) (word0 (F := F) c (T 0) (grid1.coords t)) (good_inside hg (grid1.coords t) c)
  gb := GB (F := F) c (T 1) (V c main_v4) (grid1.coords t) (word0 (F := F) c (T 0) (grid1.coords t)) (good_inside hg (grid1.coords t) c)

def H0 : Finset (Ref sig .tc) := {main_v3, main_v4}
theorem H0_sub : H0 ⊆ Pipeline.restRefsP sig pre1 spec1 := by decide

/-- The two tables, whole. -/
abbrev Tabs (c : Dev nD) : sProp 𝕄 := Pipeline.prefHeld (Ix := Unit) (Name := ℕ) (U := Pipeline.UD sig nD τ) (Lvl := ℕ) pre1 c (fun _ => fullShare) T

/-- The call's data: each input's block is left in place, the result's block is what the step computes. -/
def dat (c : Dev nD) : Dat τ (Elt F) Unit ℕ (Pipeline.UD sig nD τ) ℕ (cf T hg) c where
  A := fun w => V c (Pipeline.arrRef spec1 w)
  after := fun w t => match w with
    | 0 => iblk T V hg c 0 t
    | 1 => iblk T V hg c 1 t
    | 2 => iblk T V hg c 2 t
    | 3 => iblk T V hg c 3 t
    | 4 => iblk T V hg c 4 t
    | 5 => (stepIn T V hg c t).out
  Φ := fun _ => iprop(Pipeline.ΦD osem spec1 H0 V c ∗ Tabs T c)
  q := fun w => Pipeline.shareOf spec1 w
  owed := fun _ => 0

theorem before0 (c : Dev nD) (t d) : (dat T V hg c).before (0 : Fin 6) t d = (stepIn T V hg c t).x3 :=
  ((dat T V hg c).before_in_eq_fetched (0 : Fin 6) rfl (fun _ => rfl) (fun _ _ _ => rfl) (fun _ => rfl) t d).trans rfl
theorem before1 (c : Dev nD) (t d) : (dat T V hg c).before (1 : Fin 6) t d = (stepIn T V hg c t).x4 :=
  ((dat T V hg c).before_in_eq_fetched (1 : Fin 6) rfl (fun _ => rfl) (fun _ _ _ => rfl) (fun _ => rfl) t d).trans rfl
theorem before2 (c : Dev nD) (t d) : (dat T V hg c).before (2 : Fin 6) t d = (stepIn T V hg c t).x5 :=
  ((dat T V hg c).before_in_eq_fetched (2 : Fin 6) rfl (fun _ => rfl) (fun _ _ _ => rfl) (fun _ => rfl) t d).trans rfl
theorem before3 (c : Dev nD) (t d) : (dat T V hg c).before (3 : Fin 6) t d = (stepIn T V hg c t).x6 :=
  ((dat T V hg c).before_in_eq_fetched (3 : Fin 6) rfl (fun _ => rfl) (fun _ _ _ => rfl) (fun _ => rfl) t d).trans rfl
theorem before4 (c : Dev nD) (t d) : (dat T V hg c).before (4 : Fin 6) t d = (stepIn T V hg c t).x7 :=
  ((dat T V hg c).before_in_eq_fetched (4 : Fin 6) rfl (fun _ => rfl) (fun _ _ _ => rfl) (fun _ => rfl) t d).trans rfl

/-- The call's invariant, conjunct by conjunct. -/
theorem phi_eq (c : Dev nD) (t : Fin ((cf T hg).N + 1)) :
    (dat T V hg c).Φ t = iprop((((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc1_scratch0), ((c : Thread nD τ).loc cc1_scratch0) ↦{fullShare} f)
        ∗ (∃ f : Buf (Elt F) ((c : Thread nD τ).loc cc1_scratch1), ((c : Thread nD τ).loc cc1_scratch1) ↦{fullShare} f))
      ∗ (∃ r, prngReg c r) ∗ Pipeline.ownSems0 osem c
      ∗ ((((c : Thread nD τ).loc main_v3) ↦{fullShare} V c main_v3) ∗ (((c : Thread nD τ).loc main_v4) ↦{fullShare} V c main_v4)))
      ∗ (Tab0 c (T 0) ∗ Tab c (T 1))) := by
  have e : (Tabs T c : sProp 𝕄) = iprop(Tab0 c (T 0) ∗ Tab c (T 1)) := by
    unfold Tabs Pipeline.prefHeld
    rw [bigSep_univ_eq_bigSepL [(0 : Fin 2), (1 : Fin 2)] (by decide) (by decide)]
    unfold Tab0 Tab
    rw [show (Memref.whole main_arg5).view.set = Finset.univ from View.set_whole _, show (Memref.whole main_arg6).view.set = Finset.univ from View.set_whole _]
    rfl
  show iprop(Pipeline.ΦD osem spec1 H0 V c ∗ Tabs T c) = _
  rw [Pipeline.ΦD_eq, scopedRest1_eq, e, BI.bigSep_eq_bigSepL_of_eq (S := H0) [main_v3, main_v4] (by decide) (by decide)]
  rfl

abbrev bodyAt (t : Fin (cf T hg).N) := cc1__edge_body (F := F) (grid1.coords t) (Memref.whole main_arg5) (Memref.isWhole_whole _) (Memref.whole main_arg6) (Memref.isWhole_whole _) (spec1_0.stage ((cf T hg).slots t 0)) (hstage1_0 (((cf T hg).slots t 0).cast nbuf1_0)) (spec1_1.stage ((cf T hg).slots t 1)) (hstage1_1 (((cf T hg).slots t 1).cast nbuf1_1)) (spec1_2.stage ((cf T hg).slots t 2)) (hstage1_2 (((cf T hg).slots t 2).cast nbuf1_2)) (spec1_3.stage ((cf T hg).slots t 3)) (hstage1_3 (((cf T hg).slots t 3).cast nbuf1_3)) (spec1_4.stage ((cf T hg).slots t 4)) (hstage1_4 (((cf T hg).slots t 4).cast nbuf1_4)) (Memref.whole main_v3) (Memref.isWhole_whole _) (Memref.whole main_v4) (Memref.isWhole_whole _) (spec1_5.stage ((cf T hg).slots t 5)) (hstage1_5 (((cf T hg).slots t 5).cast nbuf1_5)) (Memref.whole cc1_scratch0) (Memref.isWhole_whole _) (Memref.whole cc1_scratch1) (Memref.isWhole_whole _) cc1_scratch2

def bodyPre (c : Dev nD) (t : Fin (cf T hg).N) : sProp 𝕄 :=
  iprop((dat T V hg c).Φ t.castSucc ∗ (dat T V hg c).owesAt () t.castSucc
    ∗ (∃ d, owns (c : Thread nD τ) (spec1_0.stage ((cf T hg).slots t 0)) fullShare ((dat T V hg c).before (0 : Fin 6) t d))
    ∗ (∃ d, owns (c : Thread nD τ) (spec1_1.stage ((cf T hg).slots t 1)) fullShare ((dat T V hg c).before (1 : Fin 6) t d))
    ∗ (∃ d, owns (c : Thread nD τ) (spec1_2.stage ((cf T hg).slots t 2)) fullShare ((dat T V hg c).before (2 : Fin 6) t d))
    ∗ (∃ d, owns (c : Thread nD τ) (spec1_3.stage ((cf T hg).slots t 3)) fullShare ((dat T V hg c).before (3 : Fin 6) t d))
    ∗ (∃ d, owns (c : Thread nD τ) (spec1_4.stage ((cf T hg).slots t 4)) fullShare ((dat T V hg c).before (4 : Fin 6) t d))
    ∗ (∃ d, owns (c : Thread nD τ) (spec1_5.stage ((cf T hg).slots t 5)) fullShare ((dat T V hg c).before (5 : Fin 6) t d)))

def bodyPost (c : Dev nD) (t : Fin (cf T hg).N) : sProp 𝕄 :=
  iprop((dat T V hg c).Φ t.succ ∗ (dat T V hg c).owesAt () t.succ
    ∗ owns (c : Thread nD τ) (spec1_0.stage ((cf T hg).slots t 0)) fullShare (stepIn T V hg c t).x3
    ∗ owns (c : Thread nD τ) (spec1_1.stage ((cf T hg).slots t 1)) fullShare (stepIn T V hg c t).x4
    ∗ owns (c : Thread nD τ) (spec1_2.stage ((cf T hg).slots t 2)) fullShare (stepIn T V hg c t).x5
    ∗ owns (c : Thread nD τ) (spec1_3.stage ((cf T hg).slots t 3)) fullShare (stepIn T V hg c t).x6
    ∗ owns (c : Thread nD τ) (spec1_4.stage ((cf T hg).slots t 4)) fullShare (stepIn T V hg c t).x7
    ∗ owns (c : Thread nD τ) (spec1_5.stage ((cf T hg).slots t 5)) fullShare (stepIn T V hg c t).out)

/-- One grid step, between the invariants. -/
theorem sound_body (c : Dev nD) (t : Fin (cf T hg).N) :
    bodyPre T V hg c t ⊢ wp frame (wpE (defs₀ (F := F)) Variants.none c none) Set.univ (bodyAt T hg t) (fun _ => bodyPost T V hg c t) := by
  unfold bodyPre bodyPost
  rw [phi_eq, phi_eq]
  simp only [before0, before1, before2, before3, before4]
  unfold Dat.owesAt Pipeline.owesWithin
  rw [show (dat T V hg c).owed t.castSucc = 0 from rfl, show (dat T V hg c).owed t.succ = 0 from rfl]
  iintro ⟨⟨⟨⟨P0, P1, P2, P3, ⟨%s0, HS0⟩, ⟨%s1, HS1⟩⟩, Hg, HC, HA, HB⟩, HT0, HT1⟩, ⟨%W, -, HW⟩, ⟨%d0, H3⟩, ⟨%d1, H4⟩, ⟨%d2, H5⟩, ⟨%d3, H6⟩, ⟨%d4, H7⟩, ⟨%d5, H10⟩⟩
  iapply (tripleBody c (T 0) (T 1) (V c main_v3) (V c main_v4) (grid1.coords t) _ _ _ _ _ _ _ _ _ _ _ _ (stepIn T V hg c t)
    (good_inside hg (grid1.coords t) c) rfl rfl _ s0 s1 _)
  isplitl [H3]; · iexact H3
  isplitl [H4]; · iexact H4
  isplitl [H5]; · iexact H5
  isplitl [H6]; · iexact H6
  isplitl [H7]; · iexact H7
  isplitl [H10]; · iexact H10
  isplitl [HT0]; · iexact HT0
  isplitl [HT1]; · iexact HT1
  isplitl [HS0]; · iexact HS0
  isplitl [HS1]; · iexact HS1
  isplitl [HA]; · iexact HA
  isplitl [HB]; · iexact HB
  isplitl [HC]; · iexact HC
  isplitl [HW]; · iexists W; iexact HW
  iintro ⟨H3, H4, H5, H6, H7, H10, HT0, HT1, HS0, HS1, HA, HB, HC, ⟨%W', HW'⟩⟩
  isplitl [P0 P1 P2 P3 HS0 HS1 Hg HC HA HB HT0 HT1]
  · isplitl [P0 P1 P2 P3 HS0 HS1 Hg HC HA HB]
    · isplitl [P0 P1 P2 P3 HS0 HS1]
      · isplitl [P0]; · iexact P0
        isplitl [P1]; · iexact P1
        isplitl [P2]; · iexact P2
        isplitl [P3]; · iexact P3
        isplitl [HS0]; · iexists _; iexact HS0
        iexists _; iexact HS1
      isplitl [Hg]; · iexact Hg
      isplitl [HC]; · iexact HC
      isplitl [HA]; · iexact HA
      iexact HB
    isplitl [HT0]; · iexact HT0
    iexact HT1
  isplitl [HW']
  · iexists W'; isplitr; · ipureintro; exact fun _ _ => Or.inl trivial
    iexact HW'
  isplitl [H3]; · iexact H3
  isplitl [H4]; · iexact H4
  isplitl [H5]; · iexact H5
  isplitl [H6]; · iexact H6
  isplitl [H7]; · iexact H7
  iexact H10

theorem defs₀_row (t : Fin (cf T hg).N) :
    defs₀ (F := F) .tc (cf T hg).body ((cf T hg).bodyArgs t ((cf T hg).slots t)) = bodyAt T hg t := by
  unfold defs₀; rw [Defs.onTc_tc]

theorem body_obligation (c : Dev nD) : BodyObligation (dat (F := F) T V hg c) (defs₀ (F := F)) Variants.none () Set.univ := fun t => by
  rw [bigSep_W1, bigSep_W1]
  exact triple_restated (sound_body T V hg c t) (congrArg (fun b => wp frame (wpE (defs₀ (F := F)) Variants.none (c : Thread nD τ) none) Set.univ b) (defs₀_row T hg t).symm) .rfl fun _ => .rfl

end Cert.KernelIdeal.Edge

end
-- ==== Proof.Ideal.Pool.lean ====
/-
  The pooling call's grid points: each averages the squares of its block of the map.
-/
module

public import proofs.«01_k».proof.Proof.Gen.KernelIdeal.Points
public import proofs.«01_k».proof.Proof.Gen.KernelIdeal.Launch
public import proofs.«01_k».proof.Proof.Gen.KernelIdeal.Skeleton
public import Idealize.ShloMosaic.Lib.Pipeline.Frame
public import Idealize.ShloMosaic.Lib.Pipeline.FrameBody
public import Idealize.ShloMosaic.Lib.Tactic
public import Idealize.ShloMosaic.Lib.VecWindow

@[expose] public section

set_option maxRecDepth 16384

noncomputable section

namespace Cert.KernelIdeal.Pooling

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Pipeline (Dat BodyObligation)

variable {F : FTy → Type} [FloatOps F]

local notation "𝕄" => MT nD τ sig Unit (Elt F) ℕ (Pipeline.UD sig nD τ) ℕ

/-- One grid point: it reads its block and stores the averages. -/
theorem triple (c : Dev nD) (i : grid0.Coords) (m2 : Memref sig .tc .vmem S1x64x256x64 .f32) (h2 : m2.IsWhole) (m3 : Memref sig .tc .vmem S1x16x64x64 .f32) (h3 : m3.IsWhole)
    (x : Vec F S1x64x256x64 .f32) (y : Vec F S1x16x64x64 .f32) (K : PUnit → sProp 𝕄) :
    iprop(owns (c : Thread nD τ) m2 fullShare x ∗ owns (c : Thread nD τ) m3 fullShare y
      ∗ ((owns (c : Thread nD τ) m2 fullShare x ∗ owns (c : Thread nD τ) m3 fullShare (k0_pay1 x)) -∗ K ⟨⟩))
    ⊢ wp frame (wpE (defs₀ (F := F)) Variants.none c none) Set.univ (cc0__pool_body (F := F) i m2 h2 m3 h3) K := by
  rw [cc0__pool_body_eq_skeleton]
  unfold cc0__pool_body_skel owns
  iintro ⟨⟨%f2, %e2, H2⟩, ⟨%f3, %e3, H3⟩, HK⟩
  sl_exec
  sl_step
  rw [View.readAt_full m2.view f2 _, e2]
  iapply HK
  isplitl [H2]
  · iexists f2; isplitr; · ipureintro; exact e2
    iexact H2
  iexists _; isplitr
  swap; · iexact H3
  ipureintro
  exact View.read_writes_full m3.view f3 _ _ _

variable (V : (c : Dev nD) → (b : Ref sig .tc) → Buf (Elt F) ((c : Thread nD τ).loc b))

/-- The block of the map at grid point `t`. -/
def iblk (c : Dev nD) (t : Fin cfg0.N) : (cfg0.win 0).block.Idx → Elt F (cfg0.win 0).elt :=
  ((cfg0.win 0).blk t).view.read (Elt F) (V c main_v1)

/-- The call's data: the map's block is left in place, the result's block is its averages. -/
def dat (c : Dev nD) : Dat τ (Elt F) Unit ℕ (Pipeline.UD sig nD τ) ℕ cfg0 c where
  A := fun w => V c (Pipeline.arrRef spec0 w)
  after := fun w t => match w with
    | 0 => iblk V c t
    | 1 => k0_pay1 (F := F) (iblk V c t)
  Φ := fun _ => Pipeline.scopedRest (Ix := Unit) (Name := ℕ) (U := Pipeline.UD sig nD τ) (Lvl := ℕ) (Val := Elt F) spec0 c
  q := fun _ => fullShare
  owed := fun _ => 0

theorem before0 (c : Dev nD) (t d) : (dat V c).before (0 : Fin 2) t d = iblk V c t :=
  ((dat V c).before_in_eq_fetched (0 : Fin 2) rfl (fun _ => rfl) (fun _ _ _ => rfl) (fun _ => rfl) t d).trans rfl

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat (F := F) V c) (defs₀ (F := F)) Variants.none () Set.univ := fun t => by
  rw [bigSep_W0, bigSep_W0, defs₀_row]
  rw [show (dat V c).Φ t.succ = (dat V c).Φ t.castSucc from rfl, show (dat V c).owesAt () t.succ = (dat V c).owesAt () t.castSucc from rfl]
  simp only [before0]
  iintro ⟨HΦ, HO, ⟨%d0, H0⟩, ⟨%d1, H1⟩⟩
  iapply (triple c (grid0.coords t) _ _ _ _ (iblk V c t) _ _)
  isplitl [H0]; · iexact H0
  isplitl [H1]; · iexact H1
  iintro ⟨H0, H1⟩
  isplitl [HΦ]; · iexact HΦ
  isplitl [HO]; · iexact HO
  isplitl [H0]; · iexact H0
  iexact H1

end Cert.KernelIdeal.Pooling

end
-- ==== Proof.Ideal.Calls.lean ====
/-
  The two calls one after the other, with the host's lines before and between them: every buffer's contents from the launch to
  the end.
-/
module

public import proofs.«01_k».proof.Proof.Ideal.Run
public import proofs.«01_k».proof.Proof.Ideal.Pool
public import proofs.«01_k».proof.Proof.Gen.KernelIdeal.Regions
public import Idealize.ShloMosaic.Lib.Pipeline.RegionsLoop

@[expose] public section

set_option maxRecDepth 16384

noncomputable section

namespace Cert.KernelIdeal.Calls

open Cert.KernelIdeal Cert.KernelIdeal.Gen Cert.KernelIdeal.Edge
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Pipeline (Dat Seg HostSeg RegionSeg cells launchToks pin)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The two tables at the launch. -/
def tabs : pre1.Contents (Elt F) := fun k => m (((0 : Dev nD) : Thread nD τ).loc (pre1.ref k))

variable (hg : Good (tabs m))

/-- The tables, with every block they place inside its array. -/
def adm : (p : Fin 2) → (pcfgs (F := F) p).Adm
  | ⟨0, _⟩ => cfg0.toPCfg_adm
  | ⟨1, _⟩ => ⟨tabs m, good_ok hg⟩

/-- The buffers' contents at the pooling call. -/
def poolV (c : Dev nD) (b : Ref sig .tc) : Buf (Elt F) ((c : Thread nD τ).loc b) := V1 m c (Proc.devRef .tc b)

/-- What the pooling call leaves in its result. -/
def pooled (c : Dev nD) : Buf (Elt F) ((c : Thread nD τ).loc main_v2) := (Pooling.dat (poolV m) c).arrAt 1 cfg0.N

/-- The contents left by the pooling call. -/
def outsA : Outs (F := F) := fun _ r c => Function.update (fun b : Ref sig .tc => m ((c : Thread nD τ).loc b)) main_v2 (pooled m c) r

/-- The buffers' contents at the edge call. -/
def edgeV (c : Dev nD) (b : Ref sig .tc) : Buf (Elt F) ((c : Thread nD τ).loc b) := V7 m (outsA m) c (Proc.devRef .tc b)

/-- What the edge call leaves in its result. -/
def edged (c : Dev nD) : Buf (Elt F) ((c : Thread nD τ).loc main_v11) := (Edge.dat (tabs m) (edgeV m) hg c).arrAt 5 (cf (tabs m) hg).N

/-- The contents left by the two calls. -/
def outs : Outs (F := F) := fun j r c =>
  match j with
  | 2 => outsA m 2 r c
  | _ => Function.update (fun b : Ref sig .tc => edgeV m c b) main_v11 (edged m hg c) r

/-- The two calls' data. -/
def pdats : (p : Fin 2) → (c : Dev nD) → Dat τ (Elt F) Unit ℕ (Pipeline.UD sig nD τ) ℕ (Pipeline.pin (pcfgs (F := F)) (adm m hg) p) c
  | ⟨0, _⟩ => fun c => Pooling.dat (poolV m) c
  | ⟨1, _⟩ => fun c => Edge.dat (tabs m) (edgeV m) hg c

theorem V7_eq (c : Dev nD) : V7 m (outs m hg) c = V7 m (outsA m) c := rfl

/-- What a core holds beside its buffers: its generator, and nothing owed. -/
abbrev Side (c : Dev nD) : sProp 𝕄 := iprop((∃ r, prngReg c r) ∗ ∃ W, owes (c : Thread nD τ) (0 : CellTallies nD τ sig Unit) W)

/-- No core owes another anything. -/
abbrev L : GSem nD τ sig → Finset Unit := fun _ => ∅
abbrev lv : GSem nD τ sig → Unit → ℕ := fun _ _ => 0

/-! ## The pooling call -/

theorem V2_out (c : Dev nD) : V2 m (outs m hg) c (Proc.devRef .tc main_v2) = pooled m c :=
  (Function.update_self ..).trans (show Function.update (fun b : Ref sig .tc => m ((c : Thread nD τ).loc b)) main_v2 (pooled m c) main_v2 = _ from Function.update_self ..)

set_option backward.isDefEq.respectTransparency.types false in
/-- The pooling call, from the buffers as the host's first lines leave them. -/
def reg0 : RegionSeg (pcfgs (F := F)) (adm m hg) (pdats m hg) () defs₀ Variants.none L lv 0 where
  win := (launch0 (F := F)).win.to₀
  block_pos := (launch0 (F := F)).block_pos
  stage_whole := (launch0 (F := F)).stage_whole
  K := PEmpty
  osem k := k.elim
  ho := Pipeline.OwnSemFacts.none _
  hbody c := (Pooling.body_obligation (poolV m) c).loose
  hwaits := Pipeline.hwaits_of_owed_zero _ _ _ _ L lv 0 fun _ _ => rfl
  pre c := iprop(unscopedBufs c (poolV m c) ∗ Side c)
  post c := iprop(unscopedBufs c (fun b => V2 m (outs m hg) c (Proc.devRef .tc b)) ∗ Side c)
  X _ := BI.emp
  Y _ := BI.emp
  Z c := iprop(Pipeline.unscopedRest (Ix := Unit) (Name := ℕ) (U := Pipeline.UD sig nD τ) (Lvl := ℕ) spec0 c (poolV m c) ∗ (∃ r, prngReg c r))
  hentry c := by
    rw [Pipeline.ownSems0_none]
    have hsplit := Pipeline.arrays_of_unscopedBufs (p := 0) (pcfgs (F := F)) (adm m hg) (pdats m hg) (launch0 (F := F)).win (launch0 (F := F)).arr_whole c
      ((pdats m hg 0 c).share_full fun _ => rfl) (poolV m c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    show _ ⊢ (Pipeline.scopedRest (Ix := Unit) (Name := ℕ) (U := Pipeline.UD sig nD τ) (Lvl := ℕ) (Val := Elt F) spec0 c : sProp 𝕄)
    iintro ⟨-, -, Hr⟩; iexact Hr
  hout c := by
    rw [Pipeline.ownSems0_none]
    show (Pipeline.scopedRest (Ix := Unit) (Name := ℕ) (U := Pipeline.UD sig nD τ) (Lvl := ℕ) (Val := Elt F) spec0 c : sProp 𝕄) ⊢ _
    iintro Hr
    isplitr; · iempintro
    isplitr; · iempintro
    iexact Hr
  hexit c := by
    have hjoin := Pipeline.unscopedBufs_of_arrays (p := 0) (pcfgs (F := F)) (adm m hg) (Ix := Unit) (Name := ℕ) (U := Pipeline.UD sig nD τ) (Lvl := ℕ) (launch0 (F := F)).win (launch0 (F := F)).arr_whole c
      (pdats m hg) ((pdats m hg 0 c).share_full fun _ => rfl) (poolV m c) (fun b => V2 m (outs m hg) c (Proc.devRef .tc b)) ((pdats m hg 0 c).arrAt · cfg0.N)
      (fun w => by
        fin_cases w
        · exact ((pdats m hg 0 c).arrAt_in 0 rfl _).trans (V2_of m (outs m hg) c main_v1 (by decide)).symm
        · exact (V2_out m hg c).symm)
      (fun b hb => V2_of m (outs m hg) c b fun h => hb ((List.mem_singleton.1 h) ▸ Finset.mem_image.mpr ⟨1, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

/-! ## The edge call -/

/-- The buffers' contents at the end. -/
abbrev endV (c : Dev nD) (b : Ref sig .tc) : Buf (Elt F) ((c : Thread nD τ).loc b) := V8 m (outs m hg) c (Proc.devRef .tc b)

theorem endV_out (c : Dev nD) : endV m hg c main_v11 = edged m hg c := by
  refine Eq.trans (b := outs m hg 8 main_v11 c) ?_ (show Function.update (fun b : Ref sig .tc => edgeV m c b) main_v11 (edged m hg c) main_v11 = _ from Function.update_self ..)
  simp only [endV, V8, Function.update_of_ne (StableHlo.devRef_ne_of_ne (show main_v11 ≠ main_v4 by decide) : (Proc.devRef .tc main_v11 : DevRef τ sig) ≠ Proc.devRef .tc main_v4),
    Function.update_of_ne (StableHlo.devRef_ne_of_ne (show main_v11 ≠ main_v3 by decide) : (Proc.devRef .tc main_v11 : DevRef τ sig) ≠ Proc.devRef .tc main_v3), Function.update_self]

theorem endV_ne (c : Dev nD) (b : Ref sig .tc) (h : b ≠ main_v11) : endV m hg c b = edgeV m c b := by
  have ho : outs m hg 8 b c = edgeV m c b := show Function.update (fun b : Ref sig .tc => edgeV m c b) main_v11 (edged m hg c) b = _ from Function.update_of_ne h ..
  by_cases h3 : b = main_v3
  · subst h3
    refine Eq.trans ?_ ho
    simp only [endV, V8, Function.update_of_ne (StableHlo.devRef_ne_of_ne (show main_v3 ≠ main_v4 by decide) : (Proc.devRef .tc main_v3 : DevRef τ sig) ≠ Proc.devRef .tc main_v4), Function.update_self]
  by_cases h4 : b = main_v4
  · subst h4
    refine Eq.trans ?_ ho
    simp only [endV, V8, Function.update_self]
  exact V8_of m (outs m hg) c b (by simp [h, h3, h4])

theorem edgeV_arg (c : Dev nD) (b : Ref sig .tc) (h : b ∉ hostOps0_W ++ [main_v2] ++ hostOps1_W ++ hostOps1_1_W ++ hostOps1_2_W ++ hostOps1_3_W ++ hostOps1_4_W) :
    edgeV m c b = m ((c : Thread nD τ).loc b) := by
  simp only [List.mem_append, not_or] at h
  obtain ⟨⟨⟨⟨⟨⟨a0, a1⟩, a2⟩, a3⟩, a4⟩, a5⟩, a6⟩ := h
  exact (V7_of m (outsA m) c b a6).trans <| (V6_of m (outsA m) c b a5).trans <| (V5_of m (outsA m) c b a4).trans <| (V4_of m (outsA m) c b a3).trans <|
    (V3_of m (outsA m) c b a2).trans <| (V2_of m (outsA m) c b a1).trans <| V1_of m c b a0

theorem tables (c : Dev nD) : (fun k => edgeV m c (pre1.ref k)) = tabs m := by
  funext k
  rw [Subsingleton.elim c 0]
  fin_cases k
  · exact edgeV_arg m 0 main_arg5 (by decide)
  · exact edgeV_arg m 0 main_arg6 (by decide)

set_option backward.isDefEq.respectTransparency.types false in
/-- The edge call, from the buffers as the host's lines after the pooling call leave them. -/
def reg1 : RegionSeg (pcfgs (F := F)) (adm m hg) (pdats m hg) () defs₀ Variants.none L lv 1 where
  win := (launch₀1 (F := F)).win
  block_pos := (launch₀1 (F := F)).block_pos
  stage_whole := (launch₀1 (F := F)).stage_whole
  K := Fin 16 ⊕ Fin 16
  osem := osem
  ho := ownSemFacts
  hbody c := (Edge.body_obligation (tabs m) (edgeV m) hg c).loose
  hwaits := Pipeline.hwaits_of_owed_zero _ _ _ _ L lv 1 fun _ _ => rfl
  pre c := iprop(unscopedBufs c (edgeV m c) ∗ Side c)
  post c := iprop(unscopedBufs c (endV m hg c) ∗ Side c)
  X c := iprop((∃ r, prngReg c r) ∗ Pipeline.ownSems0 (Ix := Unit) (Name := ℕ) (U := Pipeline.UD sig nD τ) (Lvl := ℕ) (Val := Elt F) (τ := τ) osem c
    ∗ bigSep H0 fun b => ((c.tc : Thread nD τ).loc b) ↦{fullShare} edgeV m c b)
  Y c := iprop((∃ r, prngReg c r) ∗ (bigSep H0 fun b => ((c.tc : Thread nD τ).loc b) ↦{fullShare} edgeV m c b) ∗ Tabs (tabs m) c)
  Z c := bigSep (Pipeline.restRefsP sig pre1 spec1 \ H0) fun b => ((c.tc : Thread nD τ).loc b) ↦{fullShare} edgeV m c b
  hentry c := by
    have hs := Pipeline.unscopedBufs_split₀ (Ix := Unit) (Name := ℕ) (U := Pipeline.UD sig nD τ) (Lvl := ℕ) (Pipeline.pin (pcfgs (F := F)) (adm m hg)) 1 (c := c) (launch₀1 (F := F)).win.arr_unscoped (edgeV m c)
    have ha := (pdats m hg 1 c).arrBufs_eq_arrays (launch₀1 (F := F)).sharedIn (launch₀1 (F := F)).arr_whole (fun _ _ => rfl) (edgeV m c) ((pdats m hg 1 c).A) (fun _ => rfl)
    have hr := Pipeline.unscopedRest_split (Ix := Unit) (Name := ℕ) (U := Pipeline.UD sig nD τ) (Lvl := ℕ) preFacts1 c (edgeV m c)
    have hd := Pipeline.unscopedRestP_sdiff pre1 spec1 H0 H0_sub c (edgeV m c)
    rw [tables m c] at hr
    iintro ⟨⟨Hub, HR, HO⟩, Hos, -⟩
    ihave H := (Entails.of_eq hs) $$ Hub
    icases H with ⟨Ha, Hrest⟩
    ihave Ha := (Entails.of_eq ha) $$ Ha
    ihave Hrest := (Entails.of_eq hr) $$ Hrest
    icases Hrest with ⟨Hpf, Hrest⟩
    ihave Hrest := (Entails.of_eq hd) $$ Hrest
    icases Hrest with ⟨HH, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [HR Hos HH]
    · isplitl [HR]; · iexact HR
      isplitl [Hos]; · iexact Hos
      iexact HH
    iexact Hrest
  hin c := by
    show _ ⊢ iprop(Pipeline.ΦD osem spec1 H0 (edgeV m) c ∗ Tabs (tabs m) c)
    rw [Pipeline.ΦD_eq]
    iintro ⟨⟨Hp, Hos, HH⟩, Hpf, Hr⟩
    isplitl [Hr Hp Hos HH]
    · isplitl [Hr]; · iexact Hr
      isplitl [Hp]; · iexact Hp
      isplitl [Hos]; · iexact Hos
      iexact HH
    iexact Hpf
  hout c := by
    show iprop(Pipeline.ΦD osem spec1 H0 (edgeV m) c ∗ Tabs (tabs m) c) ⊢ _
    rw [Pipeline.ΦD_eq]
    iintro ⟨⟨Hr, Hp, Hos, HH⟩, Hpf⟩
    isplitl [Hp HH Hpf]
    · isplitl [Hp]; · iexact Hp
      isplitl [HH]; · iexact HH
      iexact Hpf
    isplitl [Hos]; · iexact Hos
    iexact Hr
  hexit c := by
    have hs := Pipeline.unscopedBufs_split₀ (Ix := Unit) (Name := ℕ) (U := Pipeline.UD sig nD τ) (Lvl := ℕ) (Pipeline.pin (pcfgs (F := F)) (adm m hg)) 1 (c := c) (launch₀1 (F := F)).win.arr_unscoped (endV m hg c)
    have ha := (pdats m hg 1 c).arrBufs_eq_arrays (launch₀1 (F := F)).sharedIn (launch₀1 (F := F)).arr_whole (fun _ _ => rfl) (endV m hg c) ((pdats m hg 1 c).arrAt · (Pipeline.pin (pcfgs (F := F)) (adm m hg) 1).N)
      (fun w => by
        fin_cases w
        · exact ((pdats m hg 1 c).arrAt_in 0 rfl _).trans (endV_ne m hg c main_v9 (by decide)).symm
        · exact ((pdats m hg 1 c).arrAt_in 1 rfl _).trans (endV_ne m hg c main_v10 (by decide)).symm
        · exact ((pdats m hg 1 c).arrAt_in 2 rfl _).trans (endV_ne m hg c main_v10 (by decide)).symm
        · exact ((pdats m hg 1 c).arrAt_in 3 rfl _).trans (endV_ne m hg c main_arg7 (by decide)).symm
        · exact ((pdats m hg 1 c).arrAt_in 4 rfl _).trans (endV_ne m hg c main_v6 (by decide)).symm
        · exact (endV_out m hg c).symm)
    have hr := Pipeline.unscopedRest_split (Ix := Unit) (Name := ℕ) (U := Pipeline.UD sig nD τ) (Lvl := ℕ) preFacts1 c (edgeV m c)
    have hd := Pipeline.unscopedRestP_sdiff pre1 spec1 H0 H0_sub c (edgeV m c)
    have hc : (Pipeline.unscopedRest (Ix := Unit) (Name := ℕ) (U := Pipeline.UD sig nD τ) (Lvl := ℕ) spec1 c (edgeV m c) : sProp 𝕄)
        = Pipeline.unscopedRest (Ix := Unit) (Name := ℕ) (U := Pipeline.UD sig nD τ) (Lvl := ℕ) spec1 c (endV m hg c) := by
      unfold Pipeline.unscopedRest
      refine bigSep_congr fun b hb => ?_
      rw [endV_ne m hg c b fun h => (Finset.mem_sdiff.1 hb).2 (h ▸ Finset.mem_image.mpr ⟨5, Finset.mem_univ _, rfl⟩)]
    rw [tables m c] at hr
    iintro ⟨Ha, HO, ⟨Hp, HH, Hpf⟩, Hrest⟩
    imodintro
    isplitl [Ha HH Hpf Hrest]
    · iapply (Entails.of_eq hs.symm)
      isplitl [Ha]
      · iapply (Entails.of_eq ha.symm); iexact Ha
      iapply (Entails.of_eq hc)
      iapply (Entails.of_eq hr.symm)
      isplitl [Hpf]; · iexact Hpf
      iapply (Entails.of_eq hd.symm)
      isplitl [HH]; · iexact HH
      iexact Hrest
    isplitl [Hp]; · iexact Hp
    unfold Pipeline.Dat.owesAt Pipeline.owesWithin
    icases HO with ⟨%W, -, HO⟩; iexists W; iexact HO

/-! ## The run -/

/-- What a final state says of a core's memory: the arguments as launched, the result as the edge call leaves it. -/
def Final (c : Dev nD) (s : MemSt nD τ sig (Elt F)) : Prop :=
  s.mem ((c.tc : Thread nD τ).loc main_v11) = edged m hg c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7)

theorem hu₀ : (ownU ((initOf (cells (pin (pcfgs (F := F)) (adm m hg)) (cellOf_inj (adm m hg))) (launchToks (pin (pcfgs (F := F)) (adm m hg)) (cellOf_inj (adm m hg))), 1) : Pipeline.UD sig nD τ)
      : sProp (MT nD τ sig Unit (Elt F) ℕ (Pipeline.UD sig nD τ) ℕ))
    ⊢ |={Set.univ}=> iprop(BI.own (embL (initOf (cells (pin (pcfgs (F := F)) (adm m hg)) (cellOf_inj (adm m hg))) (launchToks (pin (pcfgs (F := F)) (adm m hg)) (cellOf_inj (adm m hg)))))
      ∗ bigSep Finset.univ fun _ : Dev nD => (BI.emp : sProp (MT nD τ sig Unit (Elt F) ℕ (Pipeline.UD sig nD τ) ℕ))) := by
  iintro Hu
  ihave H' := (ownU_pair _ _) $$ Hu
  icases H' with ⟨HP, -⟩
  imodintro
  isplitl [HP]; · iexact HP
  iapply (show (BI.emp : sProp (MT nD τ sig Unit (Elt F) ℕ (Pipeline.UD sig nD τ) ℕ)) ⊢ bigSep Finset.univ (fun _ : Dev nD => (BI.emp : sProp (MT nD τ sig Unit (Elt F) ℕ (Pipeline.UD sig nD τ) ℕ)))
    from by rw [BI.bigSep_emp_const])
  iempintro

set_option backward.isDefEq.respectTransparency.types false in
theorem run : θ_run defs (onTc (τ := τ) (main (F := F))) ⟨m, fun _ => 0, ρ⟩ (fun r => (∀ c : Dev nD, Final m hg c r.2) ∧ r.2.sem = fun _ => 0) := by
  have hpre0 (c : Dev nD) : iprop(StableHlo.held (c : Thread nD τ) (Pipeline.ucRefs τ sig) (V1 m c) ∗ Side c) ⊢ (reg0 m hg).pre c := by
    rw [← Pipeline.unscopedBufs_held (Ix := Unit) (Name := ℕ) (U := Pipeline.UD sig nD τ) (Lvl := ℕ) c (V1 m c)]; exact .rfl
  have hpost0 (c : Dev nD) : (reg0 m hg).post c ⊢ iprop(StableHlo.held (c : Thread nD τ) (Pipeline.ucRefs τ sig) (V2 m (outs m hg) c) ∗ Side c) := by
    rw [← Pipeline.unscopedBufs_held (Ix := Unit) (Name := ℕ) (U := Pipeline.UD sig nD τ) (Lvl := ℕ) c (V2 m (outs m hg) c)]; exact .rfl
  have hpre1 (c : Dev nD) : iprop(StableHlo.held (c : Thread nD τ) (Pipeline.ucRefs τ sig) (V7 m (outs m hg) c) ∗ Side c) ⊢ (reg1 m hg).pre c := by
    rw [← Pipeline.unscopedBufs_held (Ix := Unit) (Name := ℕ) (U := Pipeline.UD sig nD τ) (Lvl := ℕ) c (V7 m (outs m hg) c)]; exact .rfl
  have hpost1 (c : Dev nD) : (reg1 m hg).post c ⊢ iprop(StableHlo.held (c : Thread nD τ) (Pipeline.ucRefs τ sig) (V8 m (outs m hg) c) ∗ ∃ W, owes (c : Thread nD τ) (0 : CellTallies nD τ sig Unit) W) := by
    rw [← Pipeline.unscopedBufs_held (Ix := Unit) (Name := ℕ) (U := Pipeline.UD sig nD τ) (Lvl := ℕ) c (V8 m (outs m hg) c)]
    show iprop(unscopedBufs c (endV m hg c) ∗ Side c) ⊢ _
    iintro ⟨H, -, HO⟩
    isplitl [H]; · iexact H
    iexact HO
  refine Pipeline.θ_run_regions_kit_dev_sems (pcfgs (F := F)) (adm m hg) (pdats m hg) () (cellOf_inj (adm m hg)) embL defs₀ Variants.none L lv m ρ main
    (segs m (outs m hg) Variants.none L lv (fun _ => Side) () (adm m hg) (pdats m hg) (reg0 m hg) (reg1 m hg))
    (fun c Q => by
      rewrite [main_chain c, Seg.run_eq_chain,
        show (segs m (outs m hg) Variants.none L lv (fun _ => Side) () (adm m hg) (pdats m hg) (reg0 m hg) (reg1 m hg) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0) (fun _ _ => rfl) (fun _ => iprop(emp)) _ (hu₀ m hg)
    (T₀ := fun c => iprop(StableHlo.held (c : Thread nD τ) (Pipeline.ucRefs τ sig) (V0 m c) ∗ Side c))
    (Tₙ := fun c => StableHlo.held (c : Thread nD τ) (Pipeline.ucRefs τ sig) (V8 m (outs m hg) c))
    (hch := fun c => ⟨.rfl, hpre0 c, hpost0 c, .rfl, .rfl, .rfl, .rfl, hpre1 c, hpost1 c⟩)
    (hinit := ?_) (QY := fun c s => Final m hg c s)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ iprop(emp)))
        ⊢ (bigSep Finset.univ fun c : Dev nD => iprop(StableHlo.held (c : Thread nD τ) (Pipeline.ucRefs τ sig) (V0 m c) ∗ Side c)
            : sProp (MT nD τ sig Unit (Elt F) ℕ (Pipeline.UD sig nD τ) ℕ)) := by
      refine bigSep_mono fun c _ => ?_
      rw [← Pipeline.unscopedBufs_held (Ix := Unit) (Name := ℕ) (U := Pipeline.UD sig nD τ) (Lvl := ℕ) c (V0 m c)]
      show _ ⊢ iprop(unscopedBufs c (fun b => m ((c.tc : Thread nD τ).loc b)) ∗ Side c)
      iintro ⟨H, -, HO, -, HP, -⟩
      isplitl [H]; · iexact H
      unfold Side
      isplitl [HP]; · iexists (ρ c); iexact HP
      iexists ∅; iexact HO
    iintro ⟨H, -⟩
    ihave H' := hsplit $$ H
    imodintro
    iexact H'
  · unfold StableHlo.held
    iintro ⟨Hh, HSI⟩
    ihave Hr := (pointsTo_read_all (Pipeline.ucRefs τ sig) (fun b => ((c : Thread nD τ).1, b)) (V8 m (outs m hg) c) s') $$ [Hh HSI]
    · isplitl [Hh] <;> iassumption
    icases Hr with ⟨%h, HSI⟩
    imodintro
    isplitr
    · ipureintro
      exact ⟨(h (Proc.devRef .tc main_v11) (Finset.mem_filter.mpr ⟨StableHlo.devRef_mem_tcRefs main_v11, by decide⟩)).trans (endV_out m hg c),
        (h (Proc.devRef .tc main_arg0) (Finset.mem_filter.mpr ⟨StableHlo.devRef_mem_tcRefs main_arg0, by decide⟩)).trans (V8_main_arg0 m (outs m hg) c),
        (h (Proc.devRef .tc main_arg1) (Finset.mem_filter.mpr ⟨StableHlo.devRef_mem_tcRefs main_arg1, by decide⟩)).trans (V8_main_arg1 m (outs m hg) c),
        (h (Proc.devRef .tc main_arg2) (Finset.mem_filter.mpr ⟨StableHlo.devRef_mem_tcRefs main_arg2, by decide⟩)).trans (V8_main_arg2 m (outs m hg) c),
        (h (Proc.devRef .tc main_arg3) (Finset.mem_filter.mpr ⟨StableHlo.devRef_mem_tcRefs main_arg3, by decide⟩)).trans (V8_main_arg3 m (outs m hg) c),
        (h (Proc.devRef .tc main_arg4) (Finset.mem_filter.mpr ⟨StableHlo.devRef_mem_tcRefs main_arg4, by decide⟩)).trans (V8_main_arg4 m (outs m hg) c),
        (h (Proc.devRef .tc main_arg5) (Finset.mem_filter.mpr ⟨StableHlo.devRef_mem_tcRefs main_arg5, by decide⟩)).trans (V8_main_arg5 m (outs m hg) c),
        (h (Proc.devRef .tc main_arg6) (Finset.mem_filter.mpr ⟨StableHlo.devRef_mem_tcRefs main_arg6, by decide⟩)).trans (V8_main_arg6 m (outs m hg) c),
        (h (Proc.devRef .tc main_arg7) (Finset.mem_filter.mpr ⟨StableHlo.devRef_mem_tcRefs main_arg7, by decide⟩)).trans (V8_main_arg7 m (outs m hg) c)⟩
    · iexact HSI

end Cert.KernelIdeal.Calls

end
-- ==== Proof.Value.Array.lean ====
/-
  What the edge call's steps read of the arguments, element by element, and where their results lie in the result.
-/
module

public import proofs.«01_k».proof.Proof.Ideal.Run
public import Idealize.ShloMosaic.Lib.Pipeline.Covers

@[expose] public section

set_option maxRecDepth 16384

noncomputable section

namespace Cert.KernelIdeal.Edge

open Cert.KernelIdeal Cert.KernelIdeal.Gen Cert.Tables
open Idealize.ShloMosaic Idealize.ShloMosaic.TcCoe
open Pipeline (Dat)

variable {F : FTy → Type} [FloatOps F]

variable (T : pre1.Contents (Elt F)) (V : (c : Dev nD) → (b : Ref sig .tc) → Buf (Elt F) ((c : Thread nD τ).loc b)) (hg : Good T) (c : Dev nD)

/-- The block a grid point works on. -/
abbrev gOf (t : Fin (cf T hg).N) : Fin 20 := (grid1.coords t) 0

/-- A row of the result has a grid point that works on it. -/
theorem step_onto (r : Fin 20) : ∃ t : Fin (cf T hg).N, blk (gOf T hg t) 2 = r.val := by
  obtain ⟨g, h⟩ := row_onto r
  obtain ⟨t, ht⟩ := grid1.coords_surjective (fun a => match a with | ⟨0, _⟩ => g)
  exact ⟨t, by show blk ((grid1.coords t) 0) 2 = _; rw [ht]; exact h⟩

/-- The grid point that works on a row of the result. -/
def stepOf (r : Fin 20) : Fin (cf T hg).N := (step_onto T hg r).choose
theorem stepOf_spec (r : Fin 20) : blk (gOf T hg (stepOf T hg r)) 2 = r.val := (step_onto T hg r).choose_spec

theorem coords_val (t : Fin (cf T hg).N) : (gOf T hg t).val = t.val := by
  have h := Pipeline.Grid.coords_val (G := grid1) t 0 (S := 1) (B := 20) (by decide) rfl
  have ht : t.val < 20 := t.isLt
  rw [show (gOf T hg t).val = _ from h, Nat.div_one, Nat.mod_eq_of_lt ht]

/-- A grid point is told by the row it works on. -/
theorem stepOf_eq (t : Fin (cf T hg).N) (r : Fin 20) (h : blk (gOf T hg t) 2 = r.val) : stepOf T hg r = t := by
  have h1 := row_inj _ _ ((stepOf_spec T hg r).trans h.symm)
  exact Fin.ext (by rw [← coords_val, ← coords_val, h1])

/-- The edge call's result: at each row what the step working on it computes. -/
def outArr : Buf (Elt F) ((c : Thread nD τ).loc main_v11) :=
  fun y : S20x256x18.Idx => (stepIn T V hg c (stepOf T hg (y 0))).out (ix3 (0 : Fin 1) (y 1) (y 2))

theorem index5 (t : Fin (cf T hg).N) : (wn T hg 5).index t = ![blk (gOf T hg t) 2, 0, 0] := tr7 hg (grid1.coords t)

theorem emb5 (t : Fin (cf T hg).N) (e : Fin 256) (k : Fin 18) :
    ((wn T hg 5).rect t).emb (ix3 (0 : Fin 1) e k) = (ix3 ⟨blk (gOf T hg t) 2, blk_row _⟩ e k : S20x256x18.Idx) := by
  funext a
  apply Fin.ext
  refine (Pipeline.Window.rect_emb_val (wn T hg 5) t _ a).trans ?_
  rw [index5]
  fin_cases a
  · show blk (gOf T hg t) 2 * 1 + 0 = blk (gOf T hg t) 2; omega
  · show 0 * 256 + e.val = e.val; omega
  · show 0 * 18 + k.val = k.val; omega

theorem read5 (t : Fin (cf T hg).N) (f : Buf (Elt F) ((wn T hg 5).arr.view.loc (c : Thread nD τ))) (e : Fin 256) (k : Fin 18) :
    ((wn T hg 5).blk t).view.read (Elt F) f (ix3 (0 : Fin 1) e k) = f (ix3 ⟨blk (gOf T hg t) 2, blk_row _⟩ e k : S20x256x18.Idx) := by
  exact congrArg f (emb5 T hg t e k)

/-- The array the call leaves. -/
theorem arr_eq : (dat T V hg c).arrAt 5 (cf T hg).N = outArr T V hg c := by
  refine Dat.arrAt_eq_of_cover _ 5 _ ?_ ?_
  · intro t _
    refine funext fun (y : S1x256x18.Idx) => ?_
    obtain ⟨a, e, k, rfl⟩ : ∃ (a : Fin 1) (e : Fin 256) (k : Fin 18), y = (ix3 a e k : S1x256x18.Idx) := ⟨y 0, y 1, y 2, (Idealize.ShloMosaic.ix3_eta y).symm⟩
    obtain rfl : a = 0 := Subsingleton.elim _ _
    refine Eq.trans ?_ (read5 T hg c t (outArr T V hg c) e k).symm
    exact congrArg (fun t => (stepIn T V hg c t).out (ix3 (0 : Fin 1) e k)) (stepOf_eq T hg t _ rfl).symm
  · intro (i : S20x256x18.Idx)
    obtain ⟨r, e, k, rfl⟩ : ∃ (r : Fin 20) (e : Fin 256) (k : Fin 18), i = (ix3 r e k : S20x256x18.Idx) := ⟨i 0, i 1, i 2, (Idealize.ShloMosaic.ix3_eta i).symm⟩
    obtain ⟨t, -, hf, hi⟩ := (wn T hg 5).exists_flush_same_index rfl (stepOf T hg r)
    have hr : blk (gOf T hg t) 2 = r.val := by
      have h := congrFun hi (0 : Fin 3)
      rw [index5, index5] at h
      exact h.trans (stepOf_spec T hg r)
    refine ⟨t, hf, ?_⟩
    have h := View.emb_mem_set (((wn T hg 5).blk t).view) (ix3 (0 : Fin 1) e k : S1x256x18.Idx)
    have h2 : ((wn T hg 5).blk t).view.emb (ix3 (0 : Fin 1) e k : S1x256x18.Idx) = (ix3 r e k : S20x256x18.Idx) :=
      (emb5 T hg t e k).trans (congrArg (fun q => (ix3 q e k : S20x256x18.Idx)) (Fin.ext hr))
    rw [← h2]; exact h

/-! ## What a step reads -/

/-- The step's source positions. -/
theorem in3 (t : Fin (cf T hg).N) (e : Fin 256) (k : Fin 3) :
    (stepIn T V hg c t).x3 (ix3 (0 : Fin 1) e k) = V c main_v9 (ix3 ⟨blk (gOf T hg t) 0, blk_src _⟩ e k : S8x256x3.Idx) := by
  refine congrArg (V c main_v9) (funext fun a => Fin.ext ?_)
  refine (Pipeline.Window.rect_emb_val (wn T hg 0) t _ a).trans ?_
  rw [show (wn T hg 0).index t = ![blk (gOf T hg t) 0, 0, 0] from tr0 hg (grid1.coords t)]
  fin_cases a
  · show blk (gOf T hg t) 0 * 1 + 0 = blk (gOf T hg t) 0; omega
  · show 0 * 256 + e.val = e.val; omega
  · show 0 * 3 + k.val = k.val; omega

/-- The step's source pose. -/
theorem in4 (t : Fin (cf T hg).N) (k : Fin 7) :
    (stepIn T V hg c t).x4 (ix3 (0 : Fin 1) (0 : Fin 1) k) = V c main_v10 (ix3 ⟨blk (gOf T hg t) 0, blk_src _⟩ 0 k : S8x1x7.Idx) := by
  refine congrArg (V c main_v10) (funext fun a => Fin.ext ?_)
  refine (Pipeline.Window.rect_emb_val (wn T hg 1) t _ a).trans ?_
  rw [show (wn T hg 1).index t = ![blk (gOf T hg t) 0, 0, 0] from tr1 hg (grid1.coords t)]
  fin_cases a
  · show blk (gOf T hg t) 0 * 1 + 0 = blk (gOf T hg t) 0; omega
  · show 0 * 1 + 0 = 0; omega
  · show 0 * 7 + k.val = k.val; omega

/-- The step's target pose. -/
theorem in5 (t : Fin (cf T hg).N) (k : Fin 7) :
    (stepIn T V hg c t).x5 (ix3 (0 : Fin 1) (0 : Fin 1) k) = V c main_v10 (ix3 ⟨blk (gOf T hg t) 1, blk_tgt _⟩ 0 k : S8x1x7.Idx) := by
  refine congrArg (V c main_v10) (funext fun a => Fin.ext ?_)
  refine (Pipeline.Window.rect_emb_val (wn T hg 2) t _ a).trans ?_
  rw [show (wn T hg 2).index t = ![blk (gOf T hg t) 1, 0, 0] from tr2 hg (grid1.coords t)]
  fin_cases a
  · show blk (gOf T hg t) 1 * 1 + 0 = blk (gOf T hg t) 1; omega
  · show 0 * 1 + 0 = 0; omega
  · show 0 * 7 + k.val = k.val; omega

/-- The step's window corners. -/
theorem in6 (t : Fin (cf T hg).N) (e : Fin 256) (k : Fin 4) :
    (stepIn T V hg c t).x6 (ix3 (0 : Fin 1) e k) = V c main_arg7 (ix3 (gOf T hg t) e k : S20x256x4.Idx) := by
  have hw : (BitVec.ofNat 32 (gOf T hg t).val).toNat = (gOf T hg t).val := by
    have := (gOf T hg t).isLt
    rw [BitVec.toNat_ofNat, Nat.mod_eq_of_lt (by omega)]
  refine congrArg (V c main_arg7) (funext fun a => Fin.ext ?_)
  refine (Pipeline.Window.rect_emb_val (wn T hg 3) t _ a).trans ?_
  rw [show (wn T hg 3).index t = ![(gOf T hg t).val, 0, 0] from congrArg (fun n => ![n, 0, 0]) hw]
  fin_cases a
  · show (gOf T hg t).val * 1 + 0 = (gOf T hg t).val; omega
  · show 0 * 256 + e.val = e.val; omega
  · show 0 * 4 + k.val = k.val; omega

/-- The step's source patches. -/
theorem in7 (t : Fin (cf T hg).N) (e : Fin 256) (a b : Fin 5) (k : Fin 64) :
    (stepIn T V hg c t).x7 (ix5 (0 : Fin 1) e a b k) = V c main_v6 (ix5 ⟨blk (gOf T hg t) 0, blk_src _⟩ e a b k : S8x256x5x5x64.Idx) := by
  refine congrArg (V c main_v6) (funext fun q => Fin.ext ?_)
  refine (Pipeline.Window.rect_emb_val (wn T hg 4) t _ q).trans ?_
  rw [show (wn T hg 4).index t = ![blk (gOf T hg t) 0, 0, 0, 0, 0] from tr4 hg (grid1.coords t)]
  fin_cases q
  · show blk (gOf T hg t) 0 * 1 + 0 = blk (gOf T hg t) 0; omega
  · show 0 * 256 + e.val = e.val; omega
  · show 0 * 5 + a.val = a.val; omega
  · show 0 * 5 + b.val = b.val; omega
  · show 0 * 64 + k.val = k.val; omega

include hg in
/-- A table's corner plus a place in the window stays inside the map. -/
theorem corner_lt (r : Fin 4) (g : Fin 20) (e : Fin 256) (y : Fin 8) {n : ℕ} (h : top r + 8 ≤ n) :
    BitVec.toNat (w := 32) (T 1 (ix3 r g e : S4x20x256.Idx)) + y.val < n := by
  have h1 := hg.2 r g e
  have h2 := y.isLt
  omega

/-- An element of a copied window as the map's. -/
theorem winA_val (off : Fin 4 → Nat) (h : ∀ a, off a + S1x8x8x64.size a ≤ S8x272x272x64.size a) (i j : Fin 8) (k : Fin 64) :
    ∃ y : S8x272x272x64.Idx, (wA off h).view.emb (ix3 i j k : S8x8x64.Idx) = y
      ∧ (y 0).val = off 0 ∧ (y 1).val = off 1 + i.val ∧ (y 2).val = off 2 + j.val ∧ (y 3).val = off 3 + k.val := by
  refine ⟨_, rfl, ?_⟩
  have hx (hn : S8x8x64.numel = (Rect.unit (s := S8x272x272x64) off S1x8x8x64.size h).shape.numel) :
      Shape.reshapeEquiv hn (ix3 i j k : S8x8x64.Idx) = Fin.cons ⟨0, Nat.one_pos⟩ (ix3 i j k : S8x8x64.Idx) :=
    Shape.reshapeEquiv_cons_one (d := ![8, 8, 64]) hn _
  have hy (a) : (((wA off h).view.emb (ix3 i j k : S8x8x64.Idx) : S8x272x272x64.Idx) a).val
      = off a + 1 * ((Fin.cons ⟨0, Nat.one_pos⟩ (ix3 i j k : S8x8x64.Idx) : S1x8x8x64.Idx) a).val :=
    congrArg (fun z : S1x8x8x64.Idx => off a + 1 * (z a).val) (hx _)
  refine ⟨(hy 0).trans ?_, (hy 1).trans ?_, (hy 2).trans ?_, (hy 3).trans ?_⟩
  · show off 0 + 1 * 0 = off 0; omega
  · show off 1 + 1 * i.val = _; omega
  · show off 2 + 1 * j.val = _; omega
  · show off 3 + 1 * k.val = _; omega

/-- An element of a copied window as the map's. -/
theorem winB_val (off : Fin 4 → Nat) (h : ∀ a, off a + S1x8x8x64.size a ≤ S8x96x96x64.size a) (i j : Fin 8) (k : Fin 64) :
    ∃ y : S8x96x96x64.Idx, (wB off h).view.emb (ix3 i j k : S8x8x64.Idx) = y
      ∧ (y 0).val = off 0 ∧ (y 1).val = off 1 + i.val ∧ (y 2).val = off 2 + j.val ∧ (y 3).val = off 3 + k.val := by
  refine ⟨_, rfl, ?_⟩
  have hx (hn : S8x8x64.numel = (Rect.unit (s := S8x96x96x64) off S1x8x8x64.size h).shape.numel) :
      Shape.reshapeEquiv hn (ix3 i j k : S8x8x64.Idx) = Fin.cons ⟨0, Nat.one_pos⟩ (ix3 i j k : S8x8x64.Idx) :=
    Shape.reshapeEquiv_cons_one (d := ![8, 8, 64]) hn _
  have hy (a) : (((wB off h).view.emb (ix3 i j k : S8x8x64.Idx) : S8x96x96x64.Idx) a).val
      = off a + 1 * ((Fin.cons ⟨0, Nat.one_pos⟩ (ix3 i j k : S8x8x64.Idx) : S1x8x8x64.Idx) a).val :=
    congrArg (fun z : S1x8x8x64.Idx => off a + 1 * (z a).val) (hx _)
  refine ⟨(hy 0).trans ?_, (hy 1).trans ?_, (hy 2).trans ?_, (hy 3).trans ?_⟩
  · show off 0 + 1 * 0 = off 0; omega
  · show off 1 + 1 * i.val = _; omega
  · show off 2 + 1 * j.val = _; omega
  · show off 3 + 1 * k.val = _; omega

/-- The step's windows of the fine map. -/
theorem inA (t : Fin (cf T hg).N) (e : Fin 256) (i j : Fin 8) (k : Fin 64) :
    (stepIn T V hg c t).ga (ix4 e i j k) = V c main_v3 (ix4 ⟨blk (gOf T hg t) 1, blk_tgt _⟩
      ⟨_, corner_lt T hg 1 (gOf T hg t) e i (n := 272) (by decide)⟩ ⟨_, corner_lt T hg 0 (gOf T hg t) e j (n := 272) (by decide)⟩ k : S8x272x272x64.Idx) := by
  obtain ⟨y, hy, h0, h1, h2, h3⟩ := winA_val _ (good_inside hg (grid1.coords t) c e).1 i j k
  refine congrArg (V c main_v3) (Eq.trans hy ?_)
  funext a
  apply Fin.ext
  fin_cases a
  · exact h0.trans (word0_eq hg (grid1.coords t) c)
  · exact h1.trans (congrArg (fun w => BitVec.toNat (w := 32) w + i.val) (tw_eq hg (grid1.coords t) c 1 e))
  · exact h2.trans (congrArg (fun w => BitVec.toNat (w := 32) w + j.val) (tw_eq hg (grid1.coords t) c 0 e))
  · exact h3.trans (Nat.zero_add _)

/-- The step's windows of the coarse map. -/
theorem inB (t : Fin (cf T hg).N) (e : Fin 256) (i j : Fin 8) (k : Fin 64) :
    (stepIn T V hg c t).gb (ix4 e i j k) = V c main_v4 (ix4 ⟨blk (gOf T hg t) 1, blk_tgt _⟩
      ⟨_, corner_lt T hg 3 (gOf T hg t) e i (n := 96) (by decide)⟩ ⟨_, corner_lt T hg 2 (gOf T hg t) e j (n := 96) (by decide)⟩ k : S8x96x96x64.Idx) := by
  obtain ⟨y, hy, h0, h1, h2, h3⟩ := winB_val _ (good_inside hg (grid1.coords t) c e).2 i j k
  refine congrArg (V c main_v4) (Eq.trans hy ?_)
  funext a
  apply Fin.ext
  fin_cases a
  · exact h0.trans (word0_eq hg (grid1.coords t) c)
  · exact h1.trans (congrArg (fun w => BitVec.toNat (w := 32) w + i.val) (tw_eq hg (grid1.coords t) c 3 e))
  · exact h2.trans (congrArg (fun w => BitVec.toNat (w := 32) w + j.val) (tw_eq hg (grid1.coords t) c 2 e))
  · exact h3.trans (Nat.zero_add _)

end Cert.KernelIdeal.Edge
-- ==== Proof.Value.Host.lean ====
/-
  What the host's lines before the two calls leave, element by element.
-/
module

public import proofs.«01_k».proof.Proof.Ideal.Calls
public import Idealize.ShloMosaic.Lib.KernelVsHost
public import Idealize.ShloMosaic.Lib.ValueIdxRank6
public import Idealize.ShloMosaic.Lib.Pointwise

@[expose] public section

set_option maxRecDepth 16384

noncomputable section

namespace Cert.KernelIdeal.Calls

open Cert.KernelIdeal Cert.KernelIdeal.Gen Cert.KernelIdeal.Edge
open Idealize.ShloMosaic Idealize.ShloMosaic.TcCoe

variable {F : FTy → Type} [FloatOps F]
variable (m : (ℓ : Loc nD τ sig) → Buf (Elt F) ℓ) (hg : Good (tabs m)) (c : Dev nD)

/-- The maps with their channels last. -/
def mapsLast (x : (⟨S2x4x64x256x256, .f32⟩ : BufTy).Contents (Elt F)) : (⟨S8x256x256x64, .f32⟩ : BufTy).Contents (Elt F) :=
  transpose S8x256x256x64 [0, 2, 3, 1] (shapeCast S8x64x256x256 x shapeCasts_S2x4x64x256x256_S8x64x256x256) transposes_S8x64x256x256_S8x256x256x64_0_2_3_1

theorem V1_maps : V1 m c main_v1 = mapsLast (m ((c : Thread nD τ).loc main_arg0)) := rfl

theorem V4_fine (outs : Outs (F := F)) : V4 m outs c main_v3
    = pad S8x272x272x64 ![0, 8, 8, 0] ![0, 8, 8, 0] ![0, 0, 0, 0] (V3 m outs c main_v1) (sitofp .f32 (V3 m outs c main_c))
      pads_S8x256x256x64_S8x272x272x64_000_880_880_000 h_S_ := rfl

theorem V3_zero (outs : Outs (F := F)) : V3 m outs c main_c = constantI S_ 32 0#32 := rfl

theorem V6_coarse (outs : Outs (F := F)) : V6 m outs c main_v4
    = pad S8x96x96x64 ![0, 16, 16, 0] ![0, 16, 16, 0] ![0, 0, 0, 0] (V5 m outs c main_v2) (sitofp .f32 (V5 m outs c main_c_0))
      pads_S8x64x64x64_S8x96x96x64_000_16160_16160_000 h_S_ := rfl

theorem V5_zero (outs : Outs (F := F)) : V5 m outs c main_c_0 = constantI S_ 32 0#32 := rfl

theorem V7_patches (outs : Outs (F := F)) : V7 m outs c main_v6
    = transpose S8x256x5x5x64 [0, 1, 3, 4, 2] (shapeCast S8x256x64x5x5 (V6 m outs c main_arg1) shapeCasts_S2048x1600_S8x256x64x5x5)
      transposes_S8x256x64x5x5_S8x256x5x5x64_0_1_3_4_2 := rfl

theorem V7_places (outs : Outs (F := F)) : V7 m outs c main_v9
    = concatenate S8x256x3 2 [⟨S8x256x2, shapeCast S8x256x2 (V6 m outs c main_arg2) shapeCasts_S2x4x256x2_S8x256x2⟩,
      ⟨S8x256x1, shapeCast S8x256x1 (V6 m outs c main_arg3) shapeCasts_S2x4x256x1_S8x256x1⟩] concatenates_S8x256x2_S8x256x1_S8x256x3_d2 := rfl

theorem V7_poses (outs : Outs (F := F)) : V7 m outs c main_v10 = shapeCast S8x1x7 (V6 m outs c main_arg4) shapeCasts_S2x4x7_S8x1x7 := rfl

end Cert.KernelIdeal.Calls

end
-- ==== Proof.Value.Pool.lean ====
/-
  The pooling call: each of its grid points averages the four by four squares of sixty-four rows of one map, and the array the
  call leaves is the plain program's average over such squares, with the channels last.
-/
module

public import proofs.«01_k».proof.Proof.Value.Host
public import proofs.«01_k».proof.Proof.Gen.ReferenceIdeal.Read
public import Idealize.ShloMosaic.Lib.Pipeline.Covers

@[expose] public section

set_option maxRecDepth 16384

noncomputable section

namespace Cert.Pool

open Idealize.ShloMosaic Idealize.ShloMosaic.TcCoe
open Pipeline (Dat)
open Cert.KernelIdeal Cert.KernelIdeal.Gen Cert.ReferenceIdeal.Read

/-! ## A square's sum -/

/-- An element of a square is summed into the square's entry. -/
theorem drop_block (h : S16x4x64x4x64.Reduces [1, 3] S16x64x64) (i : S16x4x64x4x64.Idx) (p : Fin 16) (q k : Fin 64) :
    h.drop i = ix3 p q k ↔ i 0 = p ∧ i 2 = q ∧ i 4 = k := by
  have h0 := h.drop_apply_val i 0
  have h1 := h.drop_apply_val i 1
  have h2 := h.drop_apply_val i 2
  constructor
  · intro e
    rw [e] at h0 h1 h2
    exact ⟨Fin.ext h0.symm, Fin.ext h1.symm, Fin.ext h2.symm⟩
  · rintro ⟨e0, e1, e2⟩
    funext b
    match b with
    | ⟨0, _⟩ => exact Fin.ext (h0.trans (congrArg Fin.val e0))
    | ⟨1, _⟩ => exact Fin.ext (h1.trans (congrArg Fin.val e1))
    | ⟨2, _⟩ => exact Fin.ext (h2.trans (congrArg Fin.val e2))

/-- In the whole array an element of a square is summed into the square's entry of its map. -/
theorem drop_array (h : Cert.ReferenceIdeal.S8x64x64x4x64x4.ReducesTo [3, 5] Cert.ReferenceIdeal.S8x64x64x64)
    (i : Cert.ReferenceIdeal.S8x64x64x4x64x4.Idx) (b : Fin 8) (p q k : Fin 64) :
    h.drop i = ix4 b k p q ↔ i 0 = b ∧ i 1 = k ∧ i 2 = p ∧ i 4 = q := by
  have h0 := h.drop_apply_val i 0
  have h1 := h.drop_apply_val i 1
  have h2 := h.drop_apply_val i 2
  have h3 := h.drop_apply_val i 3
  constructor
  · intro e
    rw [e] at h0 h1 h2 h3
    exact ⟨Fin.ext h0.symm, Fin.ext h1.symm, Fin.ext h2.symm, Fin.ext h3.symm⟩
  · rintro ⟨e0, e1, e2, e3⟩
    funext a
    match a with
    | ⟨0, _⟩ => exact Fin.ext (h0.trans (congrArg Fin.val e0))
    | ⟨1, _⟩ => exact Fin.ext (h1.trans (congrArg Fin.val e1))
    | ⟨2, _⟩ => exact Fin.ext (h2.trans (congrArg Fin.val e2))
    | ⟨3, _⟩ => exact Fin.ext (h3.trans (congrArg Fin.val e3))

/-- A block's sum over a square is the whole array's, when the two agree on the square. -/
theorem sum_eq (x : FVec Ideal S16x4x64x4x64 .f32) (y : FVec Ideal Cert.ReferenceIdeal.S8x64x64x4x64x4 .f32)
    (z : FVec Ideal Cert.ReferenceIdeal.S_ .f32) (b : Fin 8) (p : Fin 16) (p' q k : Fin 64)
    (hz : z (Shape.Idx.first Cert.ReferenceIdeal.Gen.h_S_) = 0)
    (h : ∀ u v : Fin 4, x (ix5 p u q v k) = y (ix6 b k p' u q v)) :
    Ideal.reduceAdd reduces_S16x4x64x4x64_S16x64x64 x (ix3 p q k)
      = Host.reduceAdd y z Cert.ReferenceIdeal.Gen.reducesTo_S8x64x64x4x64x4_S8x64x64x64_d3_5 Cert.ReferenceIdeal.Gen.h_S_ (ix4 b k p' q) := by
  show _ = z (Shape.Idx.first Cert.ReferenceIdeal.Gen.h_S_) + ∑ i ∈ _, _
  rw [hz, zero_add]
  refine Finset.sum_nbij' (fun i => ix6 b k p' (i 1) q (i 3)) (fun i => ix5 p (i 3) q (i 5) k) ?_ ?_ ?_ ?_ ?_
  · intro i _
    rw [Finset.mem_filter, drop_array]
    exact ⟨Finset.mem_univ _, rfl, rfl, rfl, rfl⟩
  · intro i _
    rw [Finset.mem_filter, drop_block]
    exact ⟨Finset.mem_univ _, rfl, rfl, rfl⟩
  · intro i hi
    rw [Finset.mem_filter, drop_block] at hi
    obtain ⟨_, rfl, rfl, rfl⟩ := hi
    exact Idealize.ShloMosaic.ix5_eta i
  · intro i hi
    rw [Finset.mem_filter, drop_array] at hi
    obtain ⟨_, rfl, rfl, rfl, rfl⟩ := hi
    funext a
    fin_cases a <;> rfl
  · intro i hi
    rw [Finset.mem_filter, drop_block] at hi
    obtain ⟨_, rfl, rfl, rfl⟩ := hi
    exact (congrArg x (Idealize.ShloMosaic.ix5_eta i)).symm.trans (h (i 1) (i 3))

/-- A map's row by its group of four rows and its place there. -/
abbrev row (p : Fin 64) (u : Fin 4) : Fin 256 := ⟨4 * p.val + u.val, by omega⟩

/-- A block's element by its square. -/
theorem block_at (x : FVec Ideal S1x64x256x64 .f32) (p : Fin 16) (q k : Fin 64) (u v : Fin 4) :
    shapeCast S16x4x64x4x64 (shapeCast S64x256x64 x shapeCasts_S1x64x256x64_S64x256x64) shapeCasts_S64x256x64_S16x4x64x4x64 (ix5 p u q v k)
      = x (ix4 (0 : Fin 1) ⟨4 * p.val + u.val, by omega⟩ (row q v) k) := by
  refine (shapeCast_apply _ _ _ (ix3 (⟨4 * p.val + u.val, by omega⟩ : Fin 64) (row q v) k) ?_).trans (shapeCast_apply _ _ _ _ ?_)
  · rw [Shape.rowMajor_val_three, Shape.rowMajor_val_five]
    show _ = (((p.val * 4 + u.val) * 64 + q.val) * 4 + v.val) * 64 + k.val
    show ((4 * p.val + u.val) * 256 + (4 * q.val + v.val)) * 64 + k.val = _
    omega
  · rw [Shape.rowMajor_val_three, Shape.rowMajor_val_four]
    show ((0 * 64 + (4 * p.val + u.val)) * 256 + (4 * q.val + v.val)) * 64 + k.val = ((4 * p.val + u.val) * 256 + (4 * q.val + v.val)) * 64 + k.val
    omega

/-- The whole array's element by its square. -/
theorem array_at (x : (⟨S2x4x64x256x256, .f32⟩ : BufTy).Contents (Elt Ideal)) (b : Fin 8) (p q k : Fin 64) (u v : Fin 4) :
    val_main_v1 (F := Ideal) x (ix6 b k p u q v) = val_main_v0 (F := Ideal) x (ix4 b k (row p u) (row q v)) := by
  refine shapeCast_apply _ _ _ _ ?_
  rw [Shape.rowMajor_val_four, Shape.rowMajor_val_six]
  show ((b.val * 64 + k.val) * 256 + (4 * p.val + u.val)) * 256 + (4 * q.val + v.val)
    = ((((b.val * 64 + k.val) * 64 + p.val) * 4 + u.val) * 64 + q.val) * 4 + v.val
  omega

/-- What a grid point leaves for a square is the plain program's average, when the block is the map's sixty-four rows from a
    multiple of sixty-four on. -/
theorem block_eq (x : FVec Ideal S1x64x256x64 .f32) (A : (⟨S2x4x64x256x256, .f32⟩ : BufTy).Contents (Elt Ideal))
    (b : Fin 8) (g : Fin 4)
    (h : ∀ (i : Fin 64) (j : Fin 256) (k : Fin 64), x (ix4 (0 : Fin 1) i j k) = val_main_v0 (F := Ideal) A (ix4 b k ⟨64 * g.val + i.val, by omega⟩ j))
    (p : Fin 16) (q k : Fin 64) :
    k0_pay1 (F := Ideal) x (ix4 (0 : Fin 1) p q k) = val_main_v4 (F := Ideal) A (ix4 b k ⟨16 * g.val + p.val, by omega⟩ q) := by
  unfold k0_pay1
  refine (shapeCast_apply _ _ _ (ix3 p q k) ?_).trans ?_
  · rw [Shape.rowMajor_val_three, Shape.rowMajor_val_four]
    show (p.val * 64 + q.val) * 64 + k.val = ((0 * 16 + p.val) * 64 + q.val) * 64 + k.val
    omega
  refine congrArg₂ Ideal.div (sum_eq _ _ _ b p _ q k ?_ ?_) ?_
  · pointwise [val_main_cst]
  · intro u v
    refine (block_at x p q k u v).trans ((h _ _ _).trans (Eq.trans ?_ (array_at A b _ q k u v).symm))
    exact congrArg (fun r => val_main_v0 (F := Ideal) A (ix4 b k r (row q v))) (Fin.ext (by show 64 * g.val + (4 * p.val + u.val) = 4 * (16 * g.val + p.val) + u.val; omega))
  · rfl

/-! ## The array the call leaves -/

variable (V : (c : Dev nD) → (b : Ref sig .tc) → Buf (Elt Ideal) ((c : Thread nD τ).loc b)) (c : Dev nD)

/-- The map and the quarter of it a grid point works on. -/
abbrev mapOf (t : Fin (cfg0.N)) : Fin 8 := (grid0.coords t) 0
abbrev partOf (t : Fin (cfg0.N)) : Fin 4 := (grid0.coords t) 1

theorem index0 (t : Fin cfg0.N) : win0_0.index t = ![(mapOf t).val, (partOf t).val, 0, 0] := by
  have h0 := (mapOf t).isLt
  have h1 := (partOf t).isLt
  show ![(BitVec.ofNat 32 (mapOf t).val).toNat, (BitVec.ofNat 32 (partOf t).val).toNat, 0, 0] = _
  rw [BitVec.toNat_ofNat, BitVec.toNat_ofNat, Nat.mod_eq_of_lt (by omega), Nat.mod_eq_of_lt (by omega)]

theorem index1 (t : Fin cfg0.N) : win0_1.index t = ![(mapOf t).val, (partOf t).val, 0, 0] := index0 t

/-- A grid point's block of the map. -/
theorem block_in (t : Fin cfg0.N) (i : Fin 64) (j : Fin 256) (k : Fin 64) :
    Cert.KernelIdeal.Pooling.iblk V c t (ix4 (0 : Fin 1) i j k) = V c main_v1 (ix4 (mapOf t) ⟨64 * (partOf t).val + i.val, by have := (partOf t).isLt; omega⟩ j k : S8x256x256x64.Idx) := by
  refine congrArg (V c main_v1) (funext fun a => Fin.ext ?_)
  refine (Pipeline.Window.rect_emb_val win0_0 t _ a).trans ?_
  rw [index0]
  fin_cases a
  · show (mapOf t).val * 1 + 0 = (mapOf t).val; omega
  · show (partOf t).val * 64 + i.val = 64 * (partOf t).val + i.val; omega
  · show 0 * 256 + j.val = j.val; omega
  · show 0 * 64 + k.val = k.val; omega

/-- Where a grid point's result lies in the array. -/
theorem place (t : Fin cfg0.N) (p : Fin 16) (q k : Fin 64) :
    (win0_1.rect t).emb (ix4 (0 : Fin 1) p q k) = (ix4 (mapOf t) ⟨16 * (partOf t).val + p.val, by have := (partOf t).isLt; omega⟩ q k : S8x64x64x64.Idx) := by
  refine funext fun a => Fin.ext ?_
  refine (Pipeline.Window.rect_emb_val win0_1 t _ a).trans ?_
  rw [index1]
  fin_cases a
  · show (mapOf t).val * 1 + 0 = (mapOf t).val; omega
  · show (partOf t).val * 16 + p.val = 16 * (partOf t).val + p.val; omega
  · show 0 * 64 + q.val = q.val; omega
  · show 0 * 64 + k.val = k.val; omega

theorem point_out (t : Fin cfg0.N) : (Cert.KernelIdeal.Pooling.dat V c).flushed 1 t = k0_pay1 (F := Ideal) (Cert.KernelIdeal.Pooling.iblk V c t) := rfl

/-- The plain program's coarse maps, with their channels last. -/
def coarseLast (A : (⟨S2x4x64x256x256, .f32⟩ : BufTy).Contents (Elt Ideal)) : Buf (Elt Ideal) ((c : Thread nD τ).loc main_v2) :=
  fun y : S8x64x64x64.Idx => val_main_v4 (F := Ideal) A (ix4 (y 0) (y 3) (y 1) (y 2))

/-- The array the call leaves is the plain program's coarse maps, with their channels last. -/
theorem array_eq (A : (⟨S2x4x64x256x256, .f32⟩ : BufTy).Contents (Elt Ideal))
    (hA : ∀ (b : Fin 8) (i j : Fin 256) (k : Fin 64), V c main_v1 (ix4 b i j k : S8x256x256x64.Idx) = val_main_v0 (F := Ideal) A (ix4 b k i j)) :
    (Cert.KernelIdeal.Pooling.dat V c).arrAt 1 cfg0.N = coarseLast c A := by
  refine Dat.arrAt_eq_of_cover _ 1 _ ?_ ?_
  · intro t _
    rw [point_out]
    refine funext fun (y : S1x16x64x64.Idx) => ?_
    obtain ⟨a, p, q, k, rfl⟩ : ∃ (a : Fin 1) (p : Fin 16) (q k : Fin 64), y = (ix4 a p q k : S1x16x64x64.Idx) :=
      ⟨y 0, y 1, y 2, y 3, (Idealize.ShloMosaic.ix4_eta y).symm⟩
    obtain rfl : a = 0 := Subsingleton.elim _ _
    refine (block_eq _ A (mapOf t) (partOf t) (fun i j k => (block_in V c t i j k).trans (hA _ _ _ _)) p q k).trans ?_
    exact (congrArg (coarseLast c A) (place t p q k)).symm
  · intro (i : S8x64x64x64.Idx)
    obtain ⟨b, r, q, k, rfl⟩ : ∃ (b : Fin 8) (r q k : Fin 64), i = (ix4 b r q k : S8x64x64x64.Idx) :=
      ⟨i 0, i 1, i 2, i 3, (Idealize.ShloMosaic.ix4_eta i).symm⟩
    obtain ⟨t, ht⟩ := grid0.coords_surjective (fun a => match a with | ⟨0, _⟩ => b | ⟨1, _⟩ => (⟨r.val / 16, by omega⟩ : Fin 4))
    have hb : mapOf t = b := congrFun ht 0
    have hp : (partOf t).val = r.val / 16 := congrArg Fin.val (congrFun ht 1)
    refine ⟨t, flush0_1 t, ?_⟩
    have h := View.emb_mem_set ((win0_1.blk t).view) (ix4 (0 : Fin 1) (⟨r.val % 16, by omega⟩ : Fin 16) q k : S1x16x64x64.Idx)
    have h2 : (win0_1.blk t).view.emb (ix4 (0 : Fin 1) (⟨r.val % 16, by omega⟩ : Fin 16) q k : S1x16x64x64.Idx) = (ix4 b r q k : S8x64x64x64.Idx) := by
      refine (place t _ q k).trans ?_
      rw [hb]
      exact congrArg (fun z => (ix4 b z q k : S8x64x64x64.Idx)) (Fin.ext (by show 16 * (partOf t).val + r.val % 16 = r.val; rw [hp]; omega))
    rw [← h2]; exact h

end Cert.Pool

end
-- ==== Proof.Value.Gathers.lean ====
/-
  The plain program's gathers, element by element: which elements of the arguments row `blk g 2` of the result is
  computed from.
-/
module

public import proofs.«01_k».proof.Proof.Gen.ReferenceIdeal.Read
public import proofs.«01_k».proof.Proof.Decode
public import Idealize.ShloMosaic.Lib.Pointwise
public import Idealize.ShloMosaic.Lib.Routing.OpsSet

@[expose] public section

set_option maxRecDepth 16384

noncomputable section

namespace Cert.ReferenceIdeal.Edge

open Cert.ReferenceIdeal Cert.ReferenceIdeal.Gen Cert.ReferenceIdeal.Read Cert.Tables
open Idealize.ShloMosaic Idealize.ShloMosaic.TcCoe

variable {F : FTy → Type} [FloatOps F]

/-! ## Words -/

theorem word_eq {w : BitVec 32} {n : ℕ} (h : w.toNat = n) : w = BitVec.ofNat 32 n := by
  rw [← h, BitVec.ofNat_toNat, BitVec.setWidth_eq]

/-- A start index inside its axis is not moved. -/
theorem clamp {w : BitVec 32} {b n : ℕ} (h : w.toNat = b) (hb : b ≤ n) (hn : n < 2 ^ 31) : min w.toInt.toNat n = b := by
  rw [word_eq h, StableHlo.Predicate.toInt_ofNat_small _ (by omega)]
  show min b n = b
  omega

/-- An index that is not negative is not wrapped. -/
theorem wrap {w a : BitVec 32} {b : ℕ} (h : w.toNat = b) (hb : b < 2 ^ 31) : Scalar.select (IntOp.cmpi .slt w 0#32) a w = w :=
  Routing.wrap_of_lt w a (by omega)

/-! ## The gathers -/

/-- A take from a vector. -/
theorem take1 (x : S20.Idx → Elt F .i32) (idx : IVec S20x1 32) (r b : Fin 20) (h : (idx (ix2 r (0 : Fin 1))).toNat = b.val) :
    Host.gather gather_S20_S20x1_S20_n_0_n_n_0_1_1 x idx (ix1 r) = x (ix1 b) := by
  refine congrArg x (funext fun a => Fin.ext ?_)
  have hs : ∀ c, gather_S20_S20x1_S20_n_0_n_n_0_1_1.siIdx (ix1 r) c = ix2 r (0 : Fin 1) := by
    intro c; funext b; fin_cases c; fin_cases b <;> rfl
  show GatherDims.start _ _ _ _ + GatherDims.batchCoord _ _ _ + GatherDims.offCoord _ _ _ = _
  fin_cases a
  unfold GatherDims.start
  rw [dif_pos (by decide), hs]
  exact clamp (n := 19) h (Nat.le_of_lt_succ b.isLt) (by decide)

/-- A take of rows. -/
theorem take2 (x : S20x256.Idx → Elt F .i32) (idx : IVec S20x1 32) (r b : Fin 20) (e : Fin 256) (h : (idx (ix2 r (0 : Fin 1))).toNat = b.val) :
    Host.gather gather_S20x256_S20x1_S20x256_1_0_n_n_0_1_1256 x idx (ix2 r e) = x (ix2 b e) := by
  refine congrArg x (funext fun a => Fin.ext ?_)
  have hs : ∀ c, gather_S20x256_S20x1_S20x256_1_0_n_n_0_1_1256.siIdx (ix2 r e) c = ix2 r (0 : Fin 1) := by
    intro c; funext b; fin_cases c; fin_cases b <;> rfl
  show GatherDims.start _ _ _ _ + GatherDims.batchCoord _ _ _ + GatherDims.offCoord _ _ _ = _
  fin_cases a
  · unfold GatherDims.start
    rw [dif_pos (by decide), hs]
    exact clamp (n := 19) h (Nat.le_of_lt_succ b.isLt) (by decide)
  · show 0 + 0 + e.val = e.val; omega

/-- A take of the corners' planes. -/
theorem take3 (x : S20x256x4.Idx → Elt F .f32) (idx : IVec S20x1 32) (r b : Fin 20) (e : Fin 256) (k : Fin 4) (h : (idx (ix2 r (0 : Fin 1))).toNat = b.val) :
    Host.gather gather_S20x256x4_S20x1_S20x256x4_12_0_n_n_0_1_12564 x idx (ix3 r e k) = x (ix3 b e k) := by
  refine congrArg x (funext fun a => Fin.ext ?_)
  have hs : ∀ c, gather_S20x256x4_S20x1_S20x256x4_12_0_n_n_0_1_12564.siIdx (ix3 r e k) c = ix2 r (0 : Fin 1) := by
    intro c; funext b; fin_cases c; fin_cases b <;> rfl
  show GatherDims.start _ _ _ _ + GatherDims.batchCoord _ _ _ + GatherDims.offCoord _ _ _ = _
  fin_cases a
  · unfold GatherDims.start
    rw [dif_pos (by decide), hs]
    exact clamp (n := 19) h (Nat.le_of_lt_succ b.isLt) (by decide)
  · show 0 + 0 + e.val = e.val; omega
  · show 0 + 0 + k.val = k.val; omega

/-- A take of the positions' planes. -/
theorem takeSt (x : S8x256x3.Idx → Elt F .f32) (idx : IVec S20x1 32) (r : Fin 20) (b : Fin 8) (e : Fin 256) (k : Fin 3) (h : (idx (ix2 r (0 : Fin 1))).toNat = b.val) :
    Host.gather gather_S8x256x3_S20x1_S20x256x3_12_0_n_n_0_1_12563 x idx (ix3 r e k) = x (ix3 b e k) := by
  refine congrArg x (funext fun a => Fin.ext ?_)
  have hs : ∀ c, gather_S8x256x3_S20x1_S20x256x3_12_0_n_n_0_1_12563.siIdx (ix3 r e k) c = ix2 r (0 : Fin 1) := by
    intro c; funext b; fin_cases c; fin_cases b <;> rfl
  show GatherDims.start _ _ _ _ + GatherDims.batchCoord _ _ _ + GatherDims.offCoord _ _ _ = _
  fin_cases a
  · unfold GatherDims.start
    rw [dif_pos (by decide), hs]
    exact clamp (n := 7) h (Nat.le_of_lt_succ b.isLt) (by decide)
  · show 0 + 0 + e.val = e.val; omega
  · show 0 + 0 + k.val = k.val; omega

/-- A take of the poses. -/
theorem takePose (x : S8x1x7.Idx → Elt F .f32) (idx : IVec S20x1 32) (r : Fin 20) (b : Fin 8) (k : Fin 7) (h : (idx (ix2 r (0 : Fin 1))).toNat = b.val) :
    Host.gather gather_S8x1x7_S20x1_S20x1x7_12_0_n_n_0_1_117 x idx (ix3 r (0 : Fin 1) k) = x (ix3 b 0 k) := by
  refine congrArg x (funext fun a => Fin.ext ?_)
  have hs : ∀ c, gather_S8x1x7_S20x1_S20x1x7_12_0_n_n_0_1_117.siIdx (ix3 r 0 k) c = ix2 r (0 : Fin 1) := by
    intro c; funext b; fin_cases c; fin_cases b <;> rfl
  show GatherDims.start _ _ _ _ + GatherDims.batchCoord _ _ _ + GatherDims.offCoord _ _ _ = _
  fin_cases a
  · unfold GatherDims.start
    rw [dif_pos (by decide), hs]
    exact clamp (n := 7) h (Nat.le_of_lt_succ b.isLt) (by decide)
  · show 0 + 0 + 0 = 0; omega
  · show 0 + 0 + k.val = k.val; omega

/-- A take of the patches. -/
theorem takePatch (x : S8x256x5x5x64.Idx → Elt F .f32) (idx : IVec S20x1 32) (r : Fin 20) (b : Fin 8) (e : Fin 256) (i j : Fin 5) (k : Fin 64)
    (h : (idx (ix2 r (0 : Fin 1))).toNat = b.val) :
    Host.gather gather_S8x256x5x5x64_S20x1_S20x256x5x5x64_1234_0_n_n_0_1_12565564 x idx (ix5 r e i j k) = x (ix5 b e i j k) := by
  refine congrArg x (funext fun a => Fin.ext ?_)
  have hs : ∀ c, gather_S8x256x5x5x64_S20x1_S20x256x5x5x64_1234_0_n_n_0_1_12565564.siIdx (ix5 r e i j k) c = ix2 r (0 : Fin 1) := by
    intro c; funext b; fin_cases c; fin_cases b <;> rfl
  show GatherDims.start _ _ _ _ + GatherDims.batchCoord _ _ _ + GatherDims.offCoord _ _ _ = _
  fin_cases a
  · unfold GatherDims.start
    rw [dif_pos (by decide), hs]
    exact clamp (n := 7) h (Nat.le_of_lt_succ b.isLt) (by decide)
  · show 0 + 0 + e.val = e.val; omega
  · show 0 + 0 + i.val = i.val; omega
  · show 0 + 0 + j.val = j.val; omega
  · show 0 + 0 + k.val = k.val; omega

/-- A take from the fine map. -/
theorem takeA (x : S8x64x256x256.Idx → Elt F .f32) (idx : IVec S20x256x8x8x3 32) (r : Fin 20) (e : Fin 256) (i j : Fin 8) (k : Fin 64)
    (b : Fin 8) (p q : Fin 256) (h0 : (idx (ix5 r e i j (0 : Fin 3))).toNat = b.val) (h1 : (idx (ix5 r e i j (1 : Fin 3))).toNat = p.val)
    (h2 : (idx (ix5 r e i j (2 : Fin 3))).toNat = q.val) :
    Host.gather gather_S8x64x256x256_S20x256x8x8x3_S20x256x8x8x64_4_023_n_n_023_4_16411 x idx (ix5 r e i j k) = x (ix4 b k p q) := by
  refine congrArg x (funext fun a => Fin.ext ?_)
  have hs : ∀ c : Fin 3, gather_S8x64x256x256_S20x256x8x8x3_S20x256x8x8x64_4_023_n_n_023_4_16411.siIdx (ix5 r e i j k) c = ix5 r e i j c := by
    intro c; funext b; fin_cases b <;> rfl
  show GatherDims.start _ _ _ _ + GatherDims.batchCoord _ _ _ + GatherDims.offCoord _ _ _ = _
  fin_cases a
  · unfold GatherDims.start
    rw [dif_pos (by decide)]
    refine Eq.trans (b := min (idx (ix5 r e i j (0 : Fin 3))).toInt.toNat 7) ?_ (clamp h0 (Nat.le_of_lt_succ b.isLt) (by decide))
    exact congrArg (fun z => min (idx z).toInt.toNat 7) (hs 0)
  · show 0 + 0 + k.val = k.val; omega
  · unfold GatherDims.start
    rw [dif_pos (by decide)]
    refine Eq.trans (b := min (idx (ix5 r e i j (1 : Fin 3))).toInt.toNat 255) ?_ (clamp h1 (Nat.le_of_lt_succ p.isLt) (by decide))
    exact congrArg (fun z => min (idx z).toInt.toNat 255) (hs 1)
  · unfold GatherDims.start
    rw [dif_pos (by decide)]
    refine Eq.trans (b := min (idx (ix5 r e i j (2 : Fin 3))).toInt.toNat 255) ?_ (clamp h2 (Nat.le_of_lt_succ q.isLt) (by decide))
    exact congrArg (fun z => min (idx z).toInt.toNat 255) (hs 2)

/-- A take from the coarse map. -/
theorem takeB (x : S8x64x64x64.Idx → Elt F .f32) (idx : IVec S20x256x8x8x3 32) (r : Fin 20) (e : Fin 256) (i j : Fin 8) (k : Fin 64)
    (b : Fin 8) (p q : Fin 64) (h0 : (idx (ix5 r e i j (0 : Fin 3))).toNat = b.val) (h1 : (idx (ix5 r e i j (1 : Fin 3))).toNat = p.val)
    (h2 : (idx (ix5 r e i j (2 : Fin 3))).toNat = q.val) :
    Host.gather gather_S8x64x64x64_S20x256x8x8x3_S20x256x8x8x64_4_023_n_n_023_4_16411 x idx (ix5 r e i j k) = x (ix4 b k p q) := by
  refine congrArg x (funext fun a => Fin.ext ?_)
  have hs : ∀ c : Fin 3, gather_S8x64x64x64_S20x256x8x8x3_S20x256x8x8x64_4_023_n_n_023_4_16411.siIdx (ix5 r e i j k) c = ix5 r e i j c := by
    intro c; funext b; fin_cases b <;> rfl
  show GatherDims.start _ _ _ _ + GatherDims.batchCoord _ _ _ + GatherDims.offCoord _ _ _ = _
  fin_cases a
  · unfold GatherDims.start
    rw [dif_pos (by decide)]
    refine Eq.trans (b := min (idx (ix5 r e i j (0 : Fin 3))).toInt.toNat 7) ?_ (clamp h0 (Nat.le_of_lt_succ b.isLt) (by decide))
    exact congrArg (fun z => min (idx z).toInt.toNat 7) (hs 0)
  · show 0 + 0 + k.val = k.val; omega
  · unfold GatherDims.start
    rw [dif_pos (by decide)]
    refine Eq.trans (b := min (idx (ix5 r e i j (1 : Fin 3))).toInt.toNat 63) ?_ (clamp h1 (Nat.le_of_lt_succ p.isLt) (by decide))
    exact congrArg (fun z => min (idx z).toInt.toNat 63) (hs 1)
  · unfold GatherDims.start
    rw [dif_pos (by decide)]
    refine Eq.trans (b := min (idx (ix5 r e i j (2 : Fin 3))).toInt.toNat 63) ?_ (clamp h2 (Nat.le_of_lt_succ q.isLt) (by decide))
    exact congrArg (fun z => min (idx z).toInt.toNat 63) (hs 2)

/-! ## Places -/

section
variable {a5 : (⟨S20x3, .i32⟩ : BufTy).Contents (Elt F)} (h0 : ∀ (g : Fin 20) (r : Fin 3), BitVec.toNat (w := 32) (a5 (ix2 g r)) = blk g r)
include h0

/-- The row a block is written to. -/
theorem row_word (g : Fin 20) : BitVec.toNat (w := 32) (val_main_v20 (F := F) a5 (ix2 g 0)) = blk g 2 := by
  pointwise [val_main_v20, val_main_v19, val_main_v16, val_main_v18, val_main_v13, val_main_v12, val_main_v15, val_main_v17, val_main_c_1, val_main_c_2]
  have hb := blk_row g
  rw [wrap (h0 g 2) (by omega)]
  exact h0 g 2

/-- The block written to row `blk g 2` is `g`. -/
theorem place (g : Fin 20) (r : Fin 20) (hr : blk g 2 = r.val) : BitVec.toNat (w := 32) (val_main_v21 (F := F) a5 (ix1 r)) = g.val := by
  have hg : ∀ i : Fin 20, (val_main_v20 (F := F) a5 (ix2 i (0 : Fin 1))) = BitVec.ofNat 32 (if h : i.val < 20 then blk ⟨i.val, h⟩ 2 else 0) := fun i => by
    rw [dif_pos i.isLt]; exact word_eq (row_word h0 i)
  have hs := (Routing.scatter_set scatter_S20_S20x1_S20_n_0_0_1 rfl rfl rfl (val_main_v11 (F := F)) (val_main_v20 (F := F) a5) (val_main_v14 (F := F))
    (fun n => if h : n < 20 then blk ⟨n, h⟩ 2 else 0) hg (fun i => by
      have := blk_row i
      rw [dif_pos i.isLt]; show blk i 2 < _; omega) r (BitVec.ofNat 32 g.val) (fun i hi => by
      rw [dif_pos i.isLt] at hi
      have : i = g := row_inj _ _ (hi.trans hr.symm)
      subst this; rfl)).1 ⟨g, by rw [dif_pos g.isLt]; exact hr⟩
  unfold val_main_v21
  refine (congrArg (BitVec.toNat (w := 32)) hs).trans ?_
  rw [BitVec.toNat_ofNat, Nat.mod_eq_of_lt (by omega)]

variable {g r : Fin 20} (hr : blk g 2 = r.val)
include hr

theorem i29 : BitVec.toNat (w := 32) (val_main_v29 (F := F) a5 (ix2 r (0 : Fin 1))) = g.val := by
  pointwise [val_main_v29, val_main_v28, val_main_v25, val_main_v27, val_main_v24, val_main_v26, val_main_c_3, val_main_c_4]
  rw [wrap (place h0 g r hr) (by omega)]; exact place h0 g r hr
theorem i38 : BitVec.toNat (w := 32) (val_main_v38 (F := F) a5 (ix2 r (0 : Fin 1))) = g.val := i29 h0 hr
theorem i47 : BitVec.toNat (w := 32) (val_main_v47 (F := F) a5 (ix2 r (0 : Fin 1))) = g.val := i29 h0 hr
theorem i56 : BitVec.toNat (w := 32) (val_main_v56 (F := F) a5 (ix2 r (0 : Fin 1))) = g.val := i29 h0 hr
theorem i65 : BitVec.toNat (w := 32) (val_main_v65 (F := F) a5 (ix2 r (0 : Fin 1))) = g.val := i29 h0 hr
theorem i74 : BitVec.toNat (w := 32) (val_main_v74 (F := F) a5 (ix2 r (0 : Fin 1))) = g.val := i29 h0 hr
theorem i81 : BitVec.toNat (w := 32) (val_main_v81 (F := F) a5 (ix2 r (0 : Fin 1))) = g.val := i29 h0 hr

/-- The source frame of a row. -/
theorem src : BitVec.toNat (w := 32) (val_main_v30 (F := F) a5 (ix1 r)) = blk g 0 := by
  unfold val_main_v30
  rw [take1 (F := F) _ _ r g (i29 h0 hr)]
  pointwise [val_main_v23, val_main_v22]
  exact h0 g 0
/-- The target frame of a row. -/
theorem tgt : BitVec.toNat (w := 32) (val_main_v39 (F := F) a5 (ix1 r)) = blk g 1 := by
  unfold val_main_v39
  rw [take1 (F := F) _ _ r g (i38 h0 hr)]
  pointwise [val_main_v32, val_main_v31]
  exact h0 g 1

variable (a6 : (⟨S4x20x256, .i32⟩ : BufTy).Contents (Elt F))

theorem x0_eq (e : Fin 256) : val_main_v48 (F := F) a5 a6 (ix2 r e) = a6 (ix3 0 g e) := by
  unfold val_main_v48
  rw [take2 (F := F) _ _ r g e (i47 h0 hr)]
  pointwise [val_main_v41, val_main_v40]
theorem y0_eq (e : Fin 256) : val_main_v57 (F := F) a5 a6 (ix2 r e) = a6 (ix3 1 g e) := by
  unfold val_main_v57
  rw [take2 (F := F) _ _ r g e (i56 h0 hr)]
  pointwise [val_main_v50, val_main_v49]
theorem x1_eq (e : Fin 256) : val_main_v66 (F := F) a5 a6 (ix2 r e) = a6 (ix3 2 g e) := by
  unfold val_main_v66
  rw [take2 (F := F) _ _ r g e (i65 h0 hr)]
  pointwise [val_main_v59, val_main_v58]
theorem y1_eq (e : Fin 256) : val_main_v75 (F := F) a5 a6 (ix2 r e) = a6 (ix3 3 g e) := by
  unfold val_main_v75
  rw [take2 (F := F) _ _ r g e (i74 h0 hr)]
  pointwise [val_main_v68, val_main_v67]

/-- The corners of a row's windows. -/
theorem base_eq (a7 : (⟨S20x256x4, .f32⟩ : BufTy).Contents (Elt F)) (e : Fin 256) (k : Fin 4) :
    val_main_v82 (F := F) a5 a7 (ix3 r e k) = a7 (ix3 g e k) := take3 (F := F) _ _ r g e k (i81 h0 hr)

theorem i88 : BitVec.toNat (w := 32) (val_main_v88 (F := F) a5 (ix2 r (0 : Fin 1))) = blk g 0 := by
  pointwise [val_main_v88, val_main_v87, val_main_v84, val_main_v86, val_main_v83, val_main_v85, val_main_c_17, val_main_c_18]
  have := blk_src g
  rw [wrap (src h0 hr) (by omega)]; exact src h0 hr
theorem i125 : BitVec.toNat (w := 32) (val_main_v125 (F := F) a5 (ix2 r (0 : Fin 1))) = blk g 0 := i88 h0 hr
theorem i549 : BitVec.toNat (w := 32) (val_main_v549 (F := F) a5 (ix2 r (0 : Fin 1))) = blk g 0 := i88 h0 hr
theorem i132 : BitVec.toNat (w := 32) (val_main_v132 (F := F) a5 (ix2 r (0 : Fin 1))) = blk g 1 := by
  pointwise [val_main_v132, val_main_v131, val_main_v128, val_main_v130, val_main_v127, val_main_v129, val_main_c_28, val_main_c_29]
  have := blk_tgt g
  rw [wrap (tgt h0 hr) (by omega)]; exact tgt h0 hr

/-- The positions a row is computed from. -/
theorem st_eq (a2 : (⟨S2x4x256x2, .f32⟩ : BufTy).Contents (Elt F)) (a3 : (⟨S2x4x256x1, .f32⟩ : BufTy).Contents (Elt F)) (e : Fin 256) (k : Fin 3) :
    val_main_v89 (F := F) a2 a3 a5 (ix3 r e k) = val_main_v7 (F := F) a2 a3 (ix3 ⟨blk g 0, blk_src g⟩ e k) := takeSt (F := F) _ _ r ⟨blk g 0, blk_src g⟩ e k (i88 h0 hr)
/-- The source pose of a row. -/
theorem ps_eq (a4 : (⟨S2x4x7, .f32⟩ : BufTy).Contents (Elt F)) (k : Fin 7) :
    val_main_v126 (F := F) a4 a5 (ix3 r (0 : Fin 1) k) = val_main_v10 (F := F) a4 (ix3 ⟨blk g 0, blk_src g⟩ 0 k) := takePose (F := F) _ _ r ⟨blk g 0, blk_src g⟩ k (i125 h0 hr)
/-- The target pose of a row. -/
theorem pt_eq (a4 : (⟨S2x4x7, .f32⟩ : BufTy).Contents (Elt F)) (k : Fin 7) :
    val_main_v133 (F := F) a4 a5 (ix3 r (0 : Fin 1) k) = val_main_v10 (F := F) a4 (ix3 ⟨blk g 1, blk_tgt g⟩ 0 k) := takePose (F := F) _ _ r ⟨blk g 1, blk_tgt g⟩ k (i132 h0 hr)
/-- The source patches of a row. -/
theorem patch_eq (a1 : (⟨S2048x1600, .f32⟩ : BufTy).Contents (Elt F)) (e : Fin 256) (i j : Fin 5) (k : Fin 64) :
    val_main_v550 (F := F) a1 a5 (ix5 r e i j k) = val_main_v9 (F := F) a1 (ix5 ⟨blk g 0, blk_src g⟩ e i j k) := takePatch (F := F) _ _ r ⟨blk g 0, blk_src g⟩ e i j k (i549 h0 hr)

end

end Cert.ReferenceIdeal.Edge

end
-- ==== Proof.Value.Maps.lean ====
/-
  The plain program's windows of its maps, element by element: the map where the window lies inside it, zero elsewhere.
-/
module

public import proofs.«01_k».proof.Proof.Value.Gathers

@[expose] public section

set_option maxRecDepth 16384

noncomputable section

namespace Cert.ReferenceIdeal.Edge

open Cert.ReferenceIdeal Cert.ReferenceIdeal.Gen Cert.ReferenceIdeal.Read Cert.Tables
open Idealize.ShloMosaic Idealize.ShloMosaic.TcCoe

/-! ## Places in a window -/

/-- A place in a window, counted from the map's edge instead of its border's. -/
def at_ (w : BitVec 32) (p : ℕ) (y : Fin 8) : BitVec 32 := IntOp.addi (IntOp.subi w (BitVec.ofNat 32 p)) (BitVec.ofNat 32 y.val)

theorem at_toInt {w : BitVec 32} (hw : w.toNat ≤ 264) {p : ℕ} (hp : p ≤ 16) (y : Fin 8) : (at_ w p y).toInt = (w.toNat : ℤ) + y.val - p := by
  have hy := y.isLt
  show (w - BitVec.ofNat 32 p + BitVec.ofNat 32 y.val).toInt = _
  rw [BitVec.toInt_eq_toNat_cond, BitVec.toNat_add, BitVec.toNat_sub, BitVec.toNat_ofNat, BitVec.toNat_ofNat]
  omega

/-- Whether a place lies inside the map: its column first, then its row. -/
def inside (x y : BitVec 32) (n : ℕ) : BitVec 1 :=
  IntOp.andi (IntOp.andi (IntOp.andi (IntOp.cmpi .sge x 0#32) (IntOp.cmpi .sle x (BitVec.ofNat 32 n))) (IntOp.cmpi .sge y 0#32))
    (IntOp.cmpi .sle y (BitVec.ofNat 32 n))

theorem inside_eq (x y : BitVec 32) {n : ℕ} (hn : n < 2 ^ 31) :
    inside x y n = BitVec.ofBool (decide ((0 ≤ x.toInt ∧ x.toInt ≤ n) ∧ 0 ≤ y.toInt ∧ y.toInt ≤ n)) := by
  have h0 : (0#32).toInt = 0 := by decide
  unfold inside
  rw [WordCmp.cmpi_sge_eq, WordCmp.cmpi_sle_eq, WordCmp.cmpi_sge_eq, WordCmp.cmpi_sle_eq, StableHlo.Predicate.toInt_ofNat_small _ hn, h0]
  by_cases a : 0 ≤ x.toInt <;> by_cases b : x.toInt ≤ n <;> by_cases c : 0 ≤ y.toInt <;> by_cases d : y.toInt ≤ n <;> simp [a, b, c, d, IntOp.andi]

theorem inside_pos {w v : BitVec 32} (hw : w.toNat ≤ 264) (hv : v.toNat ≤ 264) {p n : ℕ} {i j : Fin 8} (hp : p ≤ 16 ∧ n < 2 ^ 31)
    (hx : p ≤ w.toNat + j.val ∧ w.toNat + j.val ≤ n + p) (hy : p ≤ v.toNat + i.val ∧ v.toNat + i.val ≤ n + p) :
    FloatOps.uitofp (F := Ideal) .f32 (inside (at_ w p j) (at_ v p i) n) = 1 := by
  rw [inside_eq _ _ hp.2, at_toInt hw hp.1, at_toInt hv hp.1, decide_eq_true (by omega)]
  show (((1 : ℕ) : ℝ) : EReal) = 1
  norm_num

theorem inside_neg {w v : BitVec 32} (hw : w.toNat ≤ 264) (hv : v.toNat ≤ 264) {p n : ℕ} {i j : Fin 8} (hp : p ≤ 16 ∧ n < 2 ^ 31)
    (h : ¬((p ≤ v.toNat + i.val ∧ v.toNat + i.val ≤ n + p) ∧ p ≤ w.toNat + j.val ∧ w.toNat + j.val ≤ n + p)) :
    FloatOps.uitofp (F := Ideal) .f32 (inside (at_ w p j) (at_ v p i) n) = 0 := by
  rw [inside_eq _ _ hp.2, at_toInt hw hp.1, at_toInt hv hp.1, decide_eq_false (by omega)]
  show (((0 : ℕ) : ℝ) : EReal) = 0
  norm_num

/-- A place inside the map isn't moved. -/
theorem clip_at {w : BitVec 32} (hw : w.toNat ≤ 264) {p n : ℕ} (hp : p ≤ 16) (hn : n < 2 ^ 31) (y : Fin 8) (h1 : p ≤ w.toNat + y.val) (h2 : w.toNat + y.val ≤ n + p) :
    (IntOp.minsi (IntOp.maxsi (at_ w p y) 0#32) (BitVec.ofNat 32 n)).toNat = w.toNat + y.val - p := by
  have hi := at_toInt hw hp y
  have h0 : (0#32).toInt = 0 := by decide
  have hnat : (at_ w p y).toNat = w.toNat + y.val - p := by
    rw [BitVec.toInt_eq_toNat_cond] at hi
    have := (at_ w p y).isLt
    split at hi <;> omega
  have e1 : IntOp.maxsi (at_ w p y) 0#32 = at_ w p y ∨ IntOp.maxsi (at_ w p y) 0#32 = 0#32 ∧ (at_ w p y).toNat = 0 := by
    unfold IntOp.maxsi
    split
    · exact Or.inl rfl
    · rename_i hs
      refine Or.inr ⟨rfl, ?_⟩
      rw [BitVec.slt, h0] at hs
      simp at hs
      omega
  have e2 : (IntOp.maxsi (at_ w p y) 0#32).toNat = w.toNat + y.val - p := by
    rcases e1 with e | ⟨e, e'⟩ <;> rw [e]
    · exact hnat
    · simp; omega
  generalize IntOp.maxsi (at_ w p y) 0#32 = z at e2 ⊢
  unfold IntOp.minsi
  split
  · exact e2
  · rename_i hs
    have hz : z.toInt = (z.toNat : ℤ) := by rw [BitVec.toInt_eq_toNat_cond]; split <;> omega
    rw [BitVec.slt, StableHlo.Predicate.toInt_ofNat_small _ hn, hz] at hs
    simp at hs
    rw [BitVec.toNat_ofNat, Nat.mod_eq_of_lt (by omega)]
    omega

theorem le_top {w : BitVec 32} {q : Fin 4} (h : w.toNat ≤ top q) : w.toNat ≤ 264 :=
  h.trans ((by decide : ∀ q, top q ≤ 264) q)

/-- The fine map with a border of zeros, 8 wide. -/
def fineAt (x : (⟨S8x64x256x256, .f32⟩ : BufTy).Contents (Elt Ideal)) (b : Fin 8) (k : Fin 64) (y z : ℕ) : Ideal .f32 :=
  if h : (8 ≤ y ∧ y < 264) ∧ 8 ≤ z ∧ z < 264 then x (ix4 b k ⟨y - 8, by omega⟩ ⟨z - 8, by omega⟩) else 0

/-- The coarse map with a border of zeros, 16 wide. -/
def coarseAt (x : (⟨S8x64x64x64, .f32⟩ : BufTy).Contents (Elt Ideal)) (b : Fin 8) (k : Fin 64) (y z : ℕ) : Ideal .f32 :=
  if h : (16 ≤ y ∧ y < 80) ∧ 16 ≤ z ∧ z < 80 then x (ix4 b k ⟨y - 16, by omega⟩ ⟨z - 16, by omega⟩) else 0

section
variable {a5 : (⟨S20x3, .i32⟩ : BufTy).Contents (Elt Ideal)} (h0 : ∀ (g : Fin 20) (r : Fin 3), BitVec.toNat (w := 32) (a5 (ix2 g r)) = blk g r)
  {g r : Fin 20} (hr : blk g 2 = r.val) {a6 : (⟨S4x20x256, .i32⟩ : BufTy).Contents (Elt Ideal)}
  (h1 : ∀ (r : Fin 4) (g : Fin 20) (e : Fin 256), BitVec.toNat (w := 32) (a6 (ix3 r g e)) ≤ top r)
include h0 hr h1

/-- The windows of the fine map a row is computed from. -/
theorem mapA_eq (a0 : (⟨S2x4x64x256x256, .f32⟩ : BufTy).Contents (Elt Ideal)) (e : Fin 256) (i j : Fin 8) (k : Fin 64) :
    val_main_v405 (F := Ideal) a0 a5 a6 (ix5 r e i j k) = fineAt (val_main_v0 (F := Ideal) a0) ⟨blk g 1, blk_tgt g⟩ k
      (BitVec.toNat (w := 32) (a6 (ix3 1 g e)) + i.val) (BitVec.toNat (w := 32) (a6 (ix3 0 g e)) + j.val) := by
  have ht := tgt h0 hr
  have hb := blk_tgt g
  have hY := le_top (h1 1 g e)
  have hX := le_top (h1 0 g e)
  have hv : val_main_v404 (F := Ideal) a5 a6 (ix5 r e i j k) = FloatOps.uitofp (F := Ideal) .f32 (inside
      (at_ (a6 (ix3 0 g e)) 8 j) (at_ (a6 (ix3 1 g e)) 8 i) 255) := by
    pointwise [val_main_v404, val_main_v403, val_main_v370, val_main_v369, val_main_v368, val_main_v367, val_main_v366, val_main_v365, val_main_v364, val_main_v363, val_main_v362, val_main_v361, val_main_v360, val_main_v359, val_main_v358, val_main_v357, val_main_v356, val_main_c_56, val_main_c_57, val_main_c_58, val_main_c_59, val_main_v349, val_main_v348, val_main_v347, val_main_v346, val_main_v345, val_main_v344, val_main_v331, val_main_v330, val_main_c_52, val_main_v355, val_main_v354, val_main_v353, val_main_v352, val_main_v351, val_main_v350, val_main_v333, val_main_v332, val_main_c_53]
    rw [x0_eq h0 hr a6 e, y0_eq h0 hr a6 e]
    rfl
  have hm : val_main_v405 (F := Ideal) a0 a5 a6 (ix5 r e i j k) = val_main_v402 (F := Ideal) a0 a5 a6 (ix5 r e i j k)
      * val_main_v404 (F := Ideal) a5 a6 (ix5 r e i j k) := rfl
  rw [hm, hv]
  unfold fineAt
  by_cases h : (8 ≤ BitVec.toNat (w := 32) (a6 (ix3 1 g e)) + i.val ∧ BitVec.toNat (w := 32) (a6 (ix3 1 g e)) + i.val < 264)
      ∧ 8 ≤ BitVec.toNat (w := 32) (a6 (ix3 0 g e)) + j.val ∧ BitVec.toNat (w := 32) (a6 (ix3 0 g e)) + j.val < 264
  · rw [dif_pos h, inside_pos hX hY (by decide) ⟨h.2.1, by omega⟩ ⟨h.1.1, by omega⟩, mul_one]
    have hy := clip_at hY (p := 8) (n := 255) (by decide) (by decide) i h.1.1 (by omega)
    have hx := clip_at hX (p := 8) (n := 255) (by decide) (by decide) j h.2.1 (by omega)
    refine takeA (F := Ideal) _ _ r e i j k _ _ _ ?_ ?_ ?_
    · pointwise [val_main_v401, val_main_v398, val_main_v399, val_main_v400, val_main_v395, val_main_v384, val_main_v381, val_main_v383, val_main_v379, val_main_v380, val_main_v382, val_main_c_64, val_main_c_65]
      rw [wrap ht (by omega)]; exact ht
    · pointwise [val_main_v401, val_main_v398, val_main_v399, val_main_v400, val_main_v396, val_main_v389, val_main_v386, val_main_v388, val_main_v378, val_main_v377, val_main_v376, val_main_v375, val_main_v385, val_main_v387, val_main_c_62, val_main_c_63, val_main_c_66, val_main_c_67, val_main_v355, val_main_v354, val_main_v353, val_main_v352, val_main_v351, val_main_v350, val_main_v344, val_main_v333, val_main_v332, val_main_c_53]
      rw [y0_eq h0 hr a6 e]
      exact (congrArg (BitVec.toNat (w := 32)) (wrap hy (by omega))).trans hy
    · pointwise [val_main_v401, val_main_v398, val_main_v399, val_main_v400, val_main_v397, val_main_v394, val_main_v391, val_main_v393, val_main_v374, val_main_v373, val_main_v372, val_main_v371, val_main_v390, val_main_v392, val_main_c_60, val_main_c_61, val_main_c_68, val_main_c_69, val_main_v349, val_main_v348, val_main_v347, val_main_v346, val_main_v345, val_main_v344, val_main_v331, val_main_v330, val_main_c_52]
      rw [x0_eq h0 hr a6 e]
      exact (congrArg (BitVec.toNat (w := 32)) (wrap hx (by omega))).trans hx
  · rw [dif_neg h, inside_neg hX hY (by decide) (by omega), mul_zero]

/-- The windows of the coarse map a row is computed from. -/
theorem mapB_eq (a0 : (⟨S2x4x64x256x256, .f32⟩ : BufTy).Contents (Elt Ideal)) (e : Fin 256) (i j : Fin 8) (k : Fin 64) :
    val_main_v514 (F := Ideal) a0 a5 a6 (ix5 r e i j k) = coarseAt (val_main_v4 (F := Ideal) a0) ⟨blk g 1, blk_tgt g⟩ k
      (BitVec.toNat (w := 32) (a6 (ix3 3 g e)) + i.val) (BitVec.toNat (w := 32) (a6 (ix3 2 g e)) + j.val) := by
  have ht := tgt h0 hr
  have hb := blk_tgt g
  have hY := le_top (h1 3 g e)
  have hX := le_top (h1 2 g e)
  have hv : val_main_v513 (F := Ideal) a5 a6 (ix5 r e i j k) = FloatOps.uitofp (F := Ideal) .f32 (inside
      (at_ (a6 (ix3 2 g e)) 16 j) (at_ (a6 (ix3 3 g e)) 16 i) 63) := by
    pointwise [val_main_v513, val_main_v512, val_main_v479, val_main_v478, val_main_v477, val_main_v476, val_main_v475, val_main_v474, val_main_v473, val_main_v472, val_main_v471, val_main_v470, val_main_v469, val_main_v468, val_main_v467, val_main_v466, val_main_v465, val_main_c_80, val_main_c_81, val_main_c_82, val_main_c_83, val_main_v458, val_main_v457, val_main_v456, val_main_v455, val_main_v454, val_main_v453, val_main_v436, val_main_v435, val_main_c_74, val_main_v464, val_main_v463, val_main_v462, val_main_v461, val_main_v460, val_main_v459, val_main_v438, val_main_v437, val_main_c_75]
    rw [x1_eq h0 hr a6 e, y1_eq h0 hr a6 e]
    rfl
  have hm : val_main_v514 (F := Ideal) a0 a5 a6 (ix5 r e i j k) = val_main_v511 (F := Ideal) a0 a5 a6 (ix5 r e i j k)
      * val_main_v513 (F := Ideal) a5 a6 (ix5 r e i j k) := rfl
  rw [hm, hv]
  unfold coarseAt
  by_cases h : (16 ≤ BitVec.toNat (w := 32) (a6 (ix3 3 g e)) + i.val ∧ BitVec.toNat (w := 32) (a6 (ix3 3 g e)) + i.val < 80)
      ∧ 16 ≤ BitVec.toNat (w := 32) (a6 (ix3 2 g e)) + j.val ∧ BitVec.toNat (w := 32) (a6 (ix3 2 g e)) + j.val < 80
  · rw [dif_pos h, inside_pos hX hY (by decide) ⟨h.2.1, by omega⟩ ⟨h.1.1, by omega⟩, mul_one]
    have hy := clip_at hY (p := 16) (n := 63) (by decide) (by decide) i h.1.1 (by omega)
    have hx := clip_at hX (p := 16) (n := 63) (by decide) (by decide) j h.2.1 (by omega)
    refine takeB (F := Ideal) _ _ r e i j k _ _ _ ?_ ?_ ?_
    · pointwise [val_main_v510, val_main_v507, val_main_v508, val_main_v509, val_main_v504, val_main_v493, val_main_v490, val_main_v492, val_main_v488, val_main_v489, val_main_v491, val_main_c_88, val_main_c_89]
      rw [wrap ht (by omega)]; exact ht
    · pointwise [val_main_v510, val_main_v507, val_main_v508, val_main_v509, val_main_v505, val_main_v498, val_main_v495, val_main_v497, val_main_v487, val_main_v486, val_main_v485, val_main_v484, val_main_v494, val_main_v496, val_main_c_86, val_main_c_87, val_main_c_90, val_main_c_91, val_main_v464, val_main_v463, val_main_v462, val_main_v461, val_main_v460, val_main_v459, val_main_v453, val_main_v438, val_main_v437, val_main_c_75]
      rw [y1_eq h0 hr a6 e]
      exact (congrArg (BitVec.toNat (w := 32)) (wrap hy (by omega))).trans hy
    · pointwise [val_main_v510, val_main_v507, val_main_v508, val_main_v509, val_main_v506, val_main_v503, val_main_v500, val_main_v502, val_main_v483, val_main_v482, val_main_v481, val_main_v480, val_main_v499, val_main_v501, val_main_c_84, val_main_c_85, val_main_c_92, val_main_c_93, val_main_v458, val_main_v457, val_main_v456, val_main_v455, val_main_v454, val_main_v453, val_main_v436, val_main_v435, val_main_c_74]
      rw [x1_eq h0 hr a6 e]
      exact (congrArg (BitVec.toNat (w := 32)) (wrap hx (by omega))).trans hx
  · rw [dif_neg h, inside_neg hX hY (by decide) (by omega), mul_zero]

end

end Cert.ReferenceIdeal.Edge

end
-- ==== Proof.Value.Args.lean ====
/-
  What the edge call reads, as the plain program's stages: the padded maps are its maps with a border of zeros.
-/
module

public import proofs.«01_k».proof.Proof.Value.Pool
public import proofs.«01_k».proof.Proof.Value.Maps

@[expose] public section

set_option maxRecDepth 16384

noncomputable section

namespace Cert.KernelIdeal.Calls

open Cert.KernelIdeal Cert.KernelIdeal.Gen Cert.KernelIdeal.Edge Cert.ReferenceIdeal.Read
open Cert.ReferenceIdeal.Edge (fineAt coarseAt)
open Idealize.ShloMosaic Idealize.ShloMosaic.TcCoe

/-! ## Borders -/

/-- The fine map the host pads, as the plain program's map with a border of zeros. -/
theorem pad_fine (x : S8x256x256x64.Idx → Elt Ideal .f32) (v : S_.Idx → Elt Ideal .f32) (hv : v (Shape.Idx.first h_S_) = (0 : EReal))
    (A : (⟨Cert.ReferenceIdeal.S8x64x256x256, .f32⟩ : BufTy).Contents (Elt Ideal)) (hx : ∀ (b : Fin 8) (i j : Fin 256) (k : Fin 64), x (ix4 b i j k) = A (ix4 b k i j))
    (b : Fin 8) (y z : Fin 272) (k : Fin 64) :
    pad S8x272x272x64 ![0, 8, 8, 0] ![0, 8, 8, 0] ![0, 0, 0, 0] x v pads_S8x256x256x64_S8x272x272x64_000_880_880_000 h_S_ (ix4 b y z k) = fineAt A b k y.val z.val := by
  unfold fineAt
  by_cases hy : 8 ≤ y.val ∧ y.val < 264
  · by_cases hz : 8 ≤ z.val ∧ z.val < 264
    · rw [dif_pos ⟨hy, hz⟩]
      refine (pad_apply_of_inside _ _ _ x v _ _ _ (ix4 b ⟨y.val - 8, by omega⟩ ⟨z.val - 8, by omega⟩ k) ?_).trans (hx _ _ _ _)
      intro a
      fin_cases a
      · show b.val = 0 + b.val * (0 + 1); omega
      · show y.val = 8 + (y.val - 8) * (0 + 1); omega
      · show z.val = 8 + (z.val - 8) * (0 + 1); omega
      · show k.val = 0 + k.val * (0 + 1); omega
    · rw [dif_neg fun q => hz q.2]
      exact (pad_apply_of_not_inside _ _ _ x v _ _ _ (2 : Fin 4) (fun q => hz (by
        have e := q.2.2
        have l := q.1
        have e' : (z.val - 8) / 1 < 256 := e
        have l' : 8 ≤ z.val := l
        omega))).trans hv
  · rw [dif_neg fun q => hy q.1]
    exact (pad_apply_of_not_inside _ _ _ x v _ _ _ (1 : Fin 4) (fun q => hy (by
        have e := q.2.2
        have l := q.1
        have e' : (y.val - 8) / 1 < 256 := e
        have l' : 8 ≤ y.val := l
        omega))).trans hv

/-- The coarse map the host pads, as the plain program's map with a border of zeros. -/
theorem pad_coarse (x : S8x64x64x64.Idx → Elt Ideal .f32) (v : S_.Idx → Elt Ideal .f32) (hv : v (Shape.Idx.first h_S_) = (0 : EReal))
    (A : (⟨Cert.ReferenceIdeal.S8x64x64x64, .f32⟩ : BufTy).Contents (Elt Ideal)) (hx : ∀ (b : Fin 8) (i j : Fin 64) (k : Fin 64), x (ix4 b i j k) = A (ix4 b k i j))
    (b : Fin 8) (y z : Fin 96) (k : Fin 64) :
    pad S8x96x96x64 ![0, 16, 16, 0] ![0, 16, 16, 0] ![0, 0, 0, 0] x v pads_S8x64x64x64_S8x96x96x64_000_16160_16160_000 h_S_ (ix4 b y z k) = coarseAt A b k y.val z.val := by
  unfold coarseAt
  by_cases hy : 16 ≤ y.val ∧ y.val < 80
  · by_cases hz : 16 ≤ z.val ∧ z.val < 80
    · rw [dif_pos ⟨hy, hz⟩]
      refine (pad_apply_of_inside _ _ _ x v _ _ _ (ix4 b ⟨y.val - 16, by omega⟩ ⟨z.val - 16, by omega⟩ k) ?_).trans (hx _ _ _ _)
      intro a
      fin_cases a
      · show b.val = 0 + b.val * (0 + 1); omega
      · show y.val = 16 + (y.val - 16) * (0 + 1); omega
      · show z.val = 16 + (z.val - 16) * (0 + 1); omega
      · show k.val = 0 + k.val * (0 + 1); omega
    · rw [dif_neg fun q => hz q.2]
      exact (pad_apply_of_not_inside _ _ _ x v _ _ _ (2 : Fin 4) (fun q => hz (by
        have e := q.2.2
        have l := q.1
        have e' : (z.val - 16) / 1 < 64 := e
        have l' : 16 ≤ z.val := l
        omega))).trans hv
  · rw [dif_neg fun q => hy q.1]
    exact (pad_apply_of_not_inside _ _ _ x v _ _ _ (1 : Fin 4) (fun q => hy (by
        have e := q.2.2
        have l := q.1
        have e' : (y.val - 16) / 1 < 64 := e
        have l' : 16 ≤ y.val := l
        omega))).trans hv

/-! ## Arguments -/

variable (m : (ℓ : Loc nD τ sig) → Buf (Elt Ideal) ℓ) (c : Dev nD)

/-- The word zero as a float. -/
theorem zero_word (i : S_.Idx) : sitofp (F := Ideal) .f32 (constantI S_ 32 0#32) i = (0 : EReal) := by
  show (((0#32 : BitVec 32).toInt : ℝ) : EReal) = 0
  norm_num

/-- The maps with their channels last, element by element. -/
theorem maps_at (x : (⟨S2x4x64x256x256, .f32⟩ : BufTy).Contents (Elt Ideal)) (b : Fin 8) (i j : Fin 256) (k : Fin 64) :
    mapsLast x (ix4 b i j k : S8x256x256x64.Idx) = val_main_v0 (F := Ideal) x (ix4 b k i j) := by
  refine transpose_apply _ _ _ _ (ix4 b k i j) ?_
  intro a
  fin_cases a <;> rfl

theorem pooled_eq : pooled m c = Cert.Pool.coarseLast c (m ((c : Thread nD τ).loc main_arg0)) :=
  Cert.Pool.array_eq (poolV m) c (m ((c : Thread nD τ).loc main_arg0)) fun b i j k => (congrFun (V1_maps m c) _).trans (maps_at _ b i j k)

/-- The edge call's fine maps. -/
theorem fine_at (b : Fin 8) (y z : Fin 272) (k : Fin 64) :
    edgeV m c main_v3 (ix4 b y z k : S8x272x272x64.Idx) = fineAt (val_main_v0 (F := Ideal) (m ((c : Thread nD τ).loc main_arg0))) b k y.val z.val := by
  have h : edgeV m c main_v3 = _ := (V7_of m (outsA m) c main_v3 (by decide)).trans <| (V6_of m (outsA m) c main_v3 (by decide)).trans <|
    (V5_of m (outsA m) c main_v3 (by decide)).trans (V4_fine m c (outsA m))
  have hx : V3 m (outsA m) c main_v1 = mapsLast (m ((c : Thread nD τ).loc main_arg0)) := (V3_of m (outsA m) c main_v1 (by decide)).trans <| (V2_of m (outsA m) c main_v1 (by decide)).trans (V1_maps m c)
  refine (congrFun h _).trans ?_
  rw [hx, V3_zero]
  exact pad_fine _ _ (zero_word _) _ (maps_at _) b y z k

theorem V5_coarse : V5 m (outsA m) c main_v2 = pooled m c :=
  (V5_of m (outsA m) c main_v2 (by decide)).trans <| (V4_of m (outsA m) c main_v2 (by decide)).trans <| (V3_of m (outsA m) c main_v2 (by decide)).trans <|
    (Function.update_self ..).trans (show Function.update (fun b : Ref sig .tc => m ((c : Thread nD τ).loc b)) main_v2 (pooled m c) main_v2 = _ from Function.update_self ..)

/-- The edge call's coarse maps. -/
theorem coarse_at (b : Fin 8) (y z : Fin 96) (k : Fin 64) :
    edgeV m c main_v4 (ix4 b y z k : S8x96x96x64.Idx) = coarseAt (val_main_v4 (F := Ideal) (m ((c : Thread nD τ).loc main_arg0))) b k y.val z.val := by
  have h : edgeV m c main_v4 = _ := (V7_of m (outsA m) c main_v4 (by decide)).trans (V6_coarse m c (outsA m))
  have hx : V5 m (outsA m) c main_v2 = _ := (V5_coarse m c).trans (pooled_eq m c)
  refine (congrFun h _).trans ?_
  rw [hx, V5_zero]
  exact pad_coarse _ _ (zero_word _) _ (fun _ _ _ _ => rfl) b y z k

theorem V6_patches : V6 m (outsA m) c main_arg1 = (m ((c : Thread nD τ).loc main_arg1)) := (V6_of m (outsA m) c main_arg1 (by decide)).trans <| (V5_of m (outsA m) c main_arg1 (by decide)).trans <| (V4_of m (outsA m) c main_arg1 (by decide)).trans <|
    (V3_of m (outsA m) c main_arg1 (by decide)).trans <| (V2_of m (outsA m) c main_arg1 (by decide)).trans <| V1_of m c main_arg1 (by decide)
theorem V6_xy : V6 m (outsA m) c main_arg2 = (m ((c : Thread nD τ).loc main_arg2)) := (V6_of m (outsA m) c main_arg2 (by decide)).trans <| (V5_of m (outsA m) c main_arg2 (by decide)).trans <| (V4_of m (outsA m) c main_arg2 (by decide)).trans <|
    (V3_of m (outsA m) c main_arg2 (by decide)).trans <| (V2_of m (outsA m) c main_arg2 (by decide)).trans <| V1_of m c main_arg2 (by decide)
theorem V6_phi : V6 m (outsA m) c main_arg3 = (m ((c : Thread nD τ).loc main_arg3)) := (V6_of m (outsA m) c main_arg3 (by decide)).trans <| (V5_of m (outsA m) c main_arg3 (by decide)).trans <| (V4_of m (outsA m) c main_arg3 (by decide)).trans <|
    (V3_of m (outsA m) c main_arg3 (by decide)).trans <| (V2_of m (outsA m) c main_arg3 (by decide)).trans <| V1_of m c main_arg3 (by decide)
theorem V6_poses : V6 m (outsA m) c main_arg4 = (m ((c : Thread nD τ).loc main_arg4)) := (V6_of m (outsA m) c main_arg4 (by decide)).trans <| (V5_of m (outsA m) c main_arg4 (by decide)).trans <| (V4_of m (outsA m) c main_arg4 (by decide)).trans <|
    (V3_of m (outsA m) c main_arg4 (by decide)).trans <| (V2_of m (outsA m) c main_arg4 (by decide)).trans <| V1_of m c main_arg4 (by decide)

/-- The edge call's patches. -/
theorem patches_eq : edgeV m c main_v6 = val_main_v9 (F := Ideal) (m ((c : Thread nD τ).loc main_arg1)) := by
  refine (V7_patches m c (outsA m)).trans ?_
  rw [V6_patches]
  rfl
/-- The edge call's source positions. -/
theorem places_eq : edgeV m c main_v9 = val_main_v7 (F := Ideal) (m ((c : Thread nD τ).loc main_arg2)) (m ((c : Thread nD τ).loc main_arg3)) := by
  refine (V7_places m c (outsA m)).trans ?_
  rw [V6_xy, V6_phi]
  rfl
/-- The edge call's poses. -/
theorem poses_eq : edgeV m c main_v10 = val_main_v10 (F := Ideal) (m ((c : Thread nD τ).loc main_arg4)) := by
  refine (V7_poses m c (outsA m)).trans ?_
  rw [V6_poses]
  rfl

end Cert.KernelIdeal.Calls

end
-- ==== Proof.Value.Pose.lean ====
/-
  A step's pose stages are the plain program's: the point's position, the two rotations, and the point in the target frame.
-/
module

public import proofs.«01_k».proof.Proof.Gen.ReferenceIdeal.Read
public import proofs.«01_k».proof.Proof.Ideal.Block
public import Idealize.ShloMosaic.Lib.Pointwise

@[expose] public section

set_option maxRecDepth 16384

noncomputable section

namespace Cert.Stages

open Cert.ReferenceIdeal.Read Cert.KernelIdeal Cert.KernelIdeal.Gen Cert.KernelIdeal.Edge
open Idealize.ShloMosaic Idealize.ShloMosaic.TcCoe

/-- What a step reads, as the plain program's stages at the row the step writes. -/
structure Match (X : Blk Ideal) (a0 : (⟨S2x4x64x256x256, .f32⟩ : BufTy).Contents (Elt Ideal)) (a1 : (⟨S2048x1600, .f32⟩ : BufTy).Contents (Elt Ideal))
    (a2 : (⟨S2x4x256x2, .f32⟩ : BufTy).Contents (Elt Ideal)) (a3 : (⟨S2x4x256x1, .f32⟩ : BufTy).Contents (Elt Ideal))
    (a4 : (⟨S2x4x7, .f32⟩ : BufTy).Contents (Elt Ideal)) (a5 : (⟨S20x3, .i32⟩ : BufTy).Contents (Elt Ideal))
    (a6 : (⟨S4x20x256, .i32⟩ : BufTy).Contents (Elt Ideal)) (a7 : (⟨S20x256x4, .f32⟩ : BufTy).Contents (Elt Ideal)) (r : Fin 20) : Prop where
  st : ∀ (e : Fin 256) (k : Fin 3), X.x3 (ix3 (0 : Fin 1) e k) = val_main_v89 (F := Ideal) a2 a3 a5 (ix3 r e k)
  ps : ∀ k : Fin 7, X.x4 (ix3 (0 : Fin 1) (0 : Fin 1) k) = val_main_v126 (F := Ideal) a4 a5 (ix3 r (0 : Fin 1) k)
  pt : ∀ k : Fin 7, X.x5 (ix3 (0 : Fin 1) (0 : Fin 1) k) = val_main_v133 (F := Ideal) a4 a5 (ix3 r (0 : Fin 1) k)
  base : ∀ (e : Fin 256) (k : Fin 4), X.x6 (ix3 (0 : Fin 1) e k) = val_main_v82 (F := Ideal) a5 a7 (ix3 r e k)
  patch : ∀ (e : Fin 256) (i j : Fin 5) (k : Fin 64), X.x7 (ix5 (0 : Fin 1) e i j k) = val_main_v550 (F := Ideal) a1 a5 (ix5 r e i j k)
  mapA : ∀ (e : Fin 256) (i j : Fin 8) (k : Fin 64), X.ga (ix4 e i j k) = val_main_v405 (F := Ideal) a0 a5 a6 (ix5 r e i j k)
  mapB : ∀ (e : Fin 256) (i j : Fin 8) (k : Fin 64), X.gb (ix4 e i j k) = val_main_v514 (F := Ideal) a0 a5 a6 (ix5 r e i j k)

section
variable {X : Blk Ideal} {a0 : (⟨S2x4x64x256x256, .f32⟩ : BufTy).Contents (Elt Ideal)} {a1 : (⟨S2048x1600, .f32⟩ : BufTy).Contents (Elt Ideal)}
    {a2 : (⟨S2x4x256x2, .f32⟩ : BufTy).Contents (Elt Ideal)} {a3 : (⟨S2x4x256x1, .f32⟩ : BufTy).Contents (Elt Ideal)}
    {a4 : (⟨S2x4x7, .f32⟩ : BufTy).Contents (Elt Ideal)} {a5 : (⟨S20x3, .i32⟩ : BufTy).Contents (Elt Ideal)}
    {a6 : (⟨S4x20x256, .i32⟩ : BufTy).Contents (Elt Ideal)} {a7 : (⟨S20x256x4, .f32⟩ : BufTy).Contents (Elt Ideal)} {r : Fin 20}
    (M : Match X a0 a1 a2 a3 a4 a5 a6 a7 r) (e : Fin 256)
include M

theorem vx_eq : X.v22 (ix2 e (0 : Fin 1)) = val_main_v113 (F := Ideal) a2 a3 a5 (ix2 r e) := by
  pointwise [Blk.v22, k1_pay10, k1_pay7, k1_pay8, k1_pay9, k1_pay6, k1_pay5, val_main_v113, val_main_v111, val_main_v97, val_main_v95, val_main_v93, val_main_v91, val_main_v90,
    val_main_v92, val_main_cst_19, val_main_v94, val_main_cst_20, val_main_v96, val_main_cst_21, val_main_v110, val_main_v109, val_main_v108, val_main_v112, val_main_v107, val_main_v105,
    val_main_v103, val_main_v101, val_main_v99, val_main_v98, val_main_v100, val_main_cst_22, val_main_v102, val_main_cst_23, val_main_v104, val_main_cst_24, val_main_v106,
    val_main_cst_25]
  rw [M.st, M.st, M.st]
theorem vy_eq : X.v25 (ix2 e (0 : Fin 1)) = val_main_v117 (F := Ideal) a2 a3 a5 (ix2 r e) := by
  pointwise [Blk.v25, k1_pay11, k1_pay7, k1_pay8, k1_pay9, k1_pay6, k1_pay5, val_main_v117, val_main_v115, val_main_v97, val_main_v95, val_main_v93, val_main_v91, val_main_v90,
    val_main_v92, val_main_cst_19, val_main_v94, val_main_cst_20, val_main_v96, val_main_cst_21, val_main_v114, val_main_v109, val_main_v108, val_main_v116, val_main_v107, val_main_v105,
    val_main_v103, val_main_v101, val_main_v99, val_main_v98, val_main_v100, val_main_cst_22, val_main_v102, val_main_cst_23, val_main_v104, val_main_cst_24, val_main_v106,
    val_main_cst_25]
  rw [M.st, M.st, M.st]
theorem vz_eq : X.v27 (ix2 e (0 : Fin 1)) = val_main_v119 (F := Ideal) a2 a3 a5 (ix2 r e) := by
  pointwise [Blk.v27, k1_pay12, k1_pay7, k1_pay9, k1_pay6, k1_pay5, val_main_v119, val_main_v97, val_main_v95, val_main_v93, val_main_v91, val_main_v90, val_main_v92,
    val_main_cst_19, val_main_v94, val_main_cst_20, val_main_v96, val_main_cst_21, val_main_v118, val_main_v109, val_main_v108]
  rw [M.st, M.st]

/-- The sum of the squares of the source rotation's parts. -/
theorem ss_eq : X.v42 (ix2 (0 : Fin 1) (0 : Fin 1)) = val_main_v136 (F := Ideal) a4 a5 (ix2 r (0 : Fin 1)) := by
  rw [val_main_v136_apply, Fin.sum_univ_four]
  pointwise [Blk.v42, k1_pay19, k1_pay15, k1_pay16, k1_pay17, k1_pay18, k1_pay13, val_main_v135, val_main_v134, val_main_cst_30]
  rw [M.ps, M.ps, M.ps, M.ps]
/-- The source rotation, made unit. -/
theorem q0_eq : k1_pay21 X.v32 X.v42 (ix2 (0 : Fin 1) (0 : Fin 1)) = val_main_v140 (F := Ideal) a4 a5 (ix3 r (0 : Fin 1) (0 : Fin 4)) := by
  pointwise [k1_pay21, k1_pay20, Blk.v32, k1_pay15, k1_pay13, val_main_v140, val_main_v134, val_main_v139, val_main_v138, val_main_v137]
  simp only [M.ps, ss_eq M]
theorem q1_eq : k1_pay22 X.v33 X.v42 (ix2 (0 : Fin 1) (0 : Fin 1)) = val_main_v140 (F := Ideal) a4 a5 (ix3 r (0 : Fin 1) (1 : Fin 4)) := by
  pointwise [k1_pay22, k1_pay20, Blk.v33, k1_pay16, k1_pay13, val_main_v140, val_main_v134, val_main_v139, val_main_v138, val_main_v137]
  simp only [M.ps, ss_eq M]
theorem q2_eq : k1_pay23 X.v34 X.v42 (ix2 (0 : Fin 1) (0 : Fin 1)) = val_main_v140 (F := Ideal) a4 a5 (ix3 r (0 : Fin 1) (2 : Fin 4)) := by
  pointwise [k1_pay23, k1_pay20, Blk.v34, k1_pay17, k1_pay13, val_main_v140, val_main_v134, val_main_v139, val_main_v138, val_main_v137]
  simp only [M.ps, ss_eq M]
theorem q3_eq : k1_pay24 X.v35 X.v42 (ix2 (0 : Fin 1) (0 : Fin 1)) = val_main_v140 (F := Ideal) a4 a5 (ix3 r (0 : Fin 1) (3 : Fin 4)) := by
  pointwise [k1_pay24, k1_pay20, Blk.v35, k1_pay18, k1_pay13, val_main_v140, val_main_v134, val_main_v139, val_main_v138, val_main_v137]
  simp only [M.ps, ss_eq M]

/-- The target rotation, made unit. -/
theorem pn_eq : k1_pay29 X.v31 (ix2 (0 : Fin 1) (0 : Fin 1)) = Ideal.rsqrt (val_main_v143 (F := Ideal) a4 a5 (ix2 r (0 : Fin 1))) := by
  rw [val_main_v143_apply, Fin.sum_univ_four]
  pointwise [k1_pay29, k1_pay25, k1_pay26, k1_pay27, k1_pay28, Blk.v31, k1_pay14, val_main_v142, val_main_v141, val_main_cst_31]
  rw [M.pt, M.pt, M.pt, M.pt]
theorem p0_eq : X.v60 (ix2 (0 : Fin 1) (0 : Fin 1)) = val_main_v147 (F := Ideal) a4 a5 (ix3 r (0 : Fin 1) (0 : Fin 4)) := by
  have h := pn_eq M
  pointwise [Blk.v60, k1_pay30, k1_pay25, val_main_v147, val_main_v141, val_main_v146, val_main_v145, val_main_v144]
  rw [h]
  pointwise [Blk.v31, k1_pay14]
  rw [M.pt]
theorem p1_eq : X.v61 (ix2 (0 : Fin 1) (0 : Fin 1)) = val_main_v147 (F := Ideal) a4 a5 (ix3 r (0 : Fin 1) (1 : Fin 4)) := by
  have h := pn_eq M
  pointwise [Blk.v61, k1_pay31, k1_pay26, val_main_v147, val_main_v141, val_main_v146, val_main_v145, val_main_v144]
  rw [h]
  pointwise [Blk.v31, k1_pay14]
  rw [M.pt]
theorem p2_eq : X.v62 (ix2 (0 : Fin 1) (0 : Fin 1)) = val_main_v147 (F := Ideal) a4 a5 (ix3 r (0 : Fin 1) (2 : Fin 4)) := by
  have h := pn_eq M
  pointwise [Blk.v62, k1_pay32, k1_pay27, val_main_v147, val_main_v141, val_main_v146, val_main_v145, val_main_v144]
  rw [h]
  pointwise [Blk.v31, k1_pay14]
  rw [M.pt]
theorem p3_eq : X.v63 (ix2 (0 : Fin 1) (0 : Fin 1)) = val_main_v147 (F := Ideal) a4 a5 (ix3 r (0 : Fin 1) (3 : Fin 4)) := by
  have h := pn_eq M
  pointwise [Blk.v63, k1_pay33, k1_pay28, val_main_v147, val_main_v141, val_main_v146, val_main_v145, val_main_v144]
  rw [h]
  pointwise [Blk.v31, k1_pay14]
  rw [M.pt]

/-- Twice the cross product of the source rotation's vector part with the point. -/
theorem t0_eq : k1_pay34 X.v25 X.v27 X.v33 X.v34 X.v42 (ix2 e (0 : Fin 1)) = val_main_v172 (F := Ideal) a2 a3 a4 a5 (ix2 r e) := by
  pointwise [k1_pay34, val_main_v172, val_main_v171, val_main_cst_32, val_main_v160, val_main_v157, val_main_v156, val_main_v151, val_main_v150, val_main_v159, val_main_v158,
    val_main_v153, val_main_v152]
  simp only [q1_eq M, q2_eq M, vx_eq M, vy_eq M, vz_eq M]
theorem t1_eq : k1_pay35 X.v22 X.v27 X.v32 X.v34 X.v42 (ix2 e (0 : Fin 1)) = val_main_v174 (F := Ideal) a2 a3 a4 a5 (ix2 r e) := by
  pointwise [k1_pay35, val_main_v174, val_main_v173, val_main_cst_33, val_main_v165, val_main_v162, val_main_v161, val_main_v153, val_main_v152, val_main_v164, val_main_v163,
    val_main_v149, val_main_v148]
  simp only [q0_eq M, q2_eq M, vx_eq M, vy_eq M, vz_eq M]
theorem t2_eq : k1_pay36 X.v22 X.v25 X.v32 X.v33 X.v42 (ix2 e (0 : Fin 1)) = val_main_v176 (F := Ideal) a2 a3 a4 a5 (ix2 r e) := by
  pointwise [k1_pay36, val_main_v176, val_main_v175, val_main_cst_34, val_main_v170, val_main_v167, val_main_v166, val_main_v149, val_main_v148, val_main_v169, val_main_v168,
    val_main_v151, val_main_v150]
  simp only [q0_eq M, q1_eq M, vx_eq M, vy_eq M, vz_eq M]

/-- The point in the world, less the target's position. -/
theorem u0_eq : k1_pay41 X.v29 X.v31 X.v93 (ix2 e (0 : Fin 1)) = val_main_v211 (F := Ideal) a2 a3 a4 a5 (ix2 r e) := by
  pointwise [k1_pay41, Blk.v29, Blk.v31, Blk.v93, k1_pay13, k1_pay14, k1_pay37, val_main_v211, val_main_v207, val_main_v195, val_main_v194, val_main_v193, val_main_v192,
    val_main_v155, val_main_v154, val_main_v181, val_main_v178, val_main_v177, val_main_v151, val_main_v150, val_main_v180, val_main_v179, val_main_v153, val_main_v152,
    val_main_v206, val_main_v205, val_main_v204, val_main_v210, val_main_v209, val_main_v208]
  simp only [q0_eq M, q1_eq M, q2_eq M, q3_eq M, vx_eq M, t0_eq M, t1_eq M, t2_eq M, M.ps, M.pt]
theorem u1_eq : k1_pay42 X.v29 X.v31 X.v84 X.v96 X.v98 X.v99 (ix2 e (0 : Fin 1)) = val_main_v219 (F := Ideal) a2 a3 a4 a5 (ix2 r e) := by
  pointwise [k1_pay42, Blk.v29, Blk.v31, Blk.v84, Blk.v96, Blk.v98, Blk.v99, k1_pay13, k1_pay14, k1_pay38, k1_pay39, k1_pay40, val_main_v219, val_main_v215, val_main_v199,
    val_main_v198, val_main_v197, val_main_v196, val_main_v155, val_main_v154, val_main_v186, val_main_v183, val_main_v182, val_main_v153, val_main_v152, val_main_v185,
    val_main_v184, val_main_v149, val_main_v148, val_main_v214, val_main_v213, val_main_v212, val_main_v218, val_main_v217, val_main_v216]
  simp only [q0_eq M, q1_eq M, q2_eq M, q3_eq M, vy_eq M, t0_eq M, t1_eq M, t2_eq M, M.ps, M.pt]
theorem u2_eq : k1_pay43 X.v27 X.v29 X.v31 X.v44 X.v45 X.v47 X.v70 X.v77 X.v84 (ix2 e (0 : Fin 1)) = val_main_v227 (F := Ideal) a2 a3 a4 a5 (ix2 r e) := by
  pointwise [k1_pay43, Blk.v29, Blk.v31, Blk.v44, Blk.v45, Blk.v47, Blk.v70, Blk.v77, Blk.v84, k1_pay13, k1_pay14, val_main_v227, val_main_v223, val_main_v203, val_main_v202,
    val_main_v201, val_main_v200, val_main_v155, val_main_v154, val_main_v191, val_main_v188, val_main_v187, val_main_v149, val_main_v148, val_main_v190, val_main_v189,
    val_main_v151, val_main_v150, val_main_v222, val_main_v221, val_main_v220, val_main_v226, val_main_v225, val_main_v224]
  simp only [q0_eq M, q1_eq M, q2_eq M, q3_eq M, vz_eq M, t0_eq M, t1_eq M, t2_eq M, M.ps, M.pt]

/-- The target rotation's vector part, negated. -/
theorem n0_eq : k1_pay44 X.v60 (ix2 (0 : Fin 1) (0 : Fin 1)) = val_main_v230 (F := Ideal) a4 a5 (ix2 r (0 : Fin 1)) := by
  pointwise [k1_pay44, val_main_v230, val_main_v229, val_main_v228]
  simp only [p0_eq M]
  exact zero_sub _
theorem n1_eq : k1_pay45 X.v61 (ix2 (0 : Fin 1) (0 : Fin 1)) = val_main_v233 (F := Ideal) a4 a5 (ix2 r (0 : Fin 1)) := by
  pointwise [k1_pay45, val_main_v233, val_main_v232, val_main_v231]
  simp only [p1_eq M]
  exact zero_sub _
theorem n2_eq : k1_pay46 X.v62 (ix2 (0 : Fin 1) (0 : Fin 1)) = val_main_v236 (F := Ideal) a4 a5 (ix2 r (0 : Fin 1)) := by
  pointwise [k1_pay46, val_main_v236, val_main_v235, val_main_v234]
  simp only [p2_eq M]
  exact zero_sub _

/-- Twice the cross product of that with the point. -/
theorem s0_eq : X.v142 (ix2 e (0 : Fin 1)) = val_main_v255 (F := Ideal) a2 a3 a4 a5 (ix2 r e) := by
  pointwise [Blk.v142, k1_pay47, val_main_v255, val_main_v254, val_main_cst_35, val_main_v243, val_main_v240, val_main_v239, val_main_v242, val_main_v241]
  simp only [n1_eq M, n2_eq M, u1_eq M, u2_eq M]
theorem s1_eq : X.v149 (ix2 e (0 : Fin 1)) = val_main_v257 (F := Ideal) a2 a3 a4 a5 (ix2 r e) := by
  pointwise [Blk.v149, k1_pay48, val_main_v257, val_main_v256, val_main_cst_36, val_main_v248, val_main_v245, val_main_v244, val_main_v247, val_main_v246]
  simp only [n0_eq M, n2_eq M, u0_eq M, u2_eq M]
theorem s2_eq : k1_pay50 X.v154 (ix2 e (0 : Fin 1)) = val_main_v259 (F := Ideal) a2 a3 a4 a5 (ix2 r e) := by
  pointwise [Blk.v154, k1_pay50, k1_pay49, val_main_v259, val_main_v258, val_main_cst_37, val_main_v253, val_main_v250, val_main_v249, val_main_v252, val_main_v251]
  simp only [n0_eq M, n1_eq M, u0_eq M, u1_eq M]

/-- The point in the target's frame. -/
theorem l0_eq : k1_pay51 X.v63 X.v123 X.v133 X.v135 X.v142 X.v149 X.v154 (ix2 e (0 : Fin 1)) = val_main_v278 (F := Ideal) a2 a3 a4 a5 (ix2 r e) := by
  pointwise [k1_pay51, Blk.v123, Blk.v133, Blk.v135, val_main_v278, val_main_v277, val_main_v276, val_main_v275, val_main_v238, val_main_v237, val_main_v264, val_main_v261,
    val_main_v260, val_main_v263, val_main_v262]
  simp only [n1_eq M, n2_eq M, p3_eq M, u0_eq M, s0_eq M, s1_eq M, s2_eq M]
theorem l1_eq : k1_pay52 X.v63 X.v126 X.v131 X.v135 X.v142 X.v149 X.v154 (ix2 e (0 : Fin 1)) = val_main_v282 (F := Ideal) a2 a3 a4 a5 (ix2 r e) := by
  pointwise [k1_pay52, Blk.v126, Blk.v131, Blk.v135, val_main_v282, val_main_v281, val_main_v280, val_main_v279, val_main_v238, val_main_v237, val_main_v269, val_main_v266,
    val_main_v265, val_main_v268, val_main_v267]
  simp only [n0_eq M, n2_eq M, p3_eq M, u1_eq M, s0_eq M, s1_eq M, s2_eq M]
theorem l2_eq : k1_pay53 X.v63 X.v129 X.v131 X.v133 X.v142 X.v149 X.v154 (ix2 e (0 : Fin 1)) = val_main_v286 (F := Ideal) a2 a3 a4 a5 (ix2 r e) := by
  pointwise [k1_pay53, Blk.v129, Blk.v131, Blk.v133, val_main_v286, val_main_v285, val_main_v284, val_main_v283, val_main_v238, val_main_v237, val_main_v274, val_main_v271,
    val_main_v270, val_main_v273, val_main_v272]
  simp only [n0_eq M, n1_eq M, p3_eq M, u2_eq M, s0_eq M, s1_eq M, s2_eq M]

end
end Cert.Stages
-- ==== Proof.Value.Sample.lean ====
/-
  A step's polar stages and its two sampled neighbourhoods are the plain program's.
-/
module

public import proofs.«01_k».proof.Proof.Value.Pose

@[expose] public section

set_option maxRecDepth 16384

noncomputable section

namespace Cert.Stages

open Cert.ReferenceIdeal.Read Cert.KernelIdeal Cert.KernelIdeal.Gen Cert.KernelIdeal.Edge
open Idealize.ShloMosaic Idealize.ShloMosaic.TcCoe

/-- Choosing zero where a bit is set and one where it isn't is the float of the bit's complement. -/
theorem sel_eq (b : BitVec 1) : Scalar.select b (0 : EReal) 1 = FloatOps.uitofp (F := Ideal) FTy.f32 (~~~b) := by
  have h : b = 0#1 ∨ b = 1#1 := by
    have := b.isLt
    rcases (by omega : b.toNat = 0 ∨ b.toNat = 1) with h | h
    · exact Or.inl (BitVec.eq_of_toNat_eq h)
    · exact Or.inr (BitVec.eq_of_toNat_eq h)
  rcases h with rfl | rfl
  · show (1 : EReal) = (((1 : ℕ) : ℝ) : EReal)
    simp
  · show (0 : EReal) = (((0 : ℕ) : ℝ) : EReal)
    simp

section
variable {X : Blk Ideal} {a0 : (⟨S2x4x64x256x256, .f32⟩ : BufTy).Contents (Elt Ideal)} {a1 : (⟨S2048x1600, .f32⟩ : BufTy).Contents (Elt Ideal)}
    {a2 : (⟨S2x4x256x2, .f32⟩ : BufTy).Contents (Elt Ideal)} {a3 : (⟨S2x4x256x1, .f32⟩ : BufTy).Contents (Elt Ideal)}
    {a4 : (⟨S2x4x7, .f32⟩ : BufTy).Contents (Elt Ideal)} {a5 : (⟨S20x3, .i32⟩ : BufTy).Contents (Elt Ideal)}
    {a6 : (⟨S4x20x256, .i32⟩ : BufTy).Contents (Elt Ideal)} {a7 : (⟨S20x256x4, .f32⟩ : BufTy).Contents (Elt Ideal)} {r : Fin 20}
    (M : Match X a0 a1 a2 a3 a4 a5 a6 a7 r) (e : Fin 256)
include M

/-- The distance and the bearing. -/
theorem rho_eq : X.v189 (ix2 e (0 : Fin 1)) = val_main_v292 (F := Ideal) a2 a3 a4 a5 (ix2 r e) := by
  pointwise [Blk.v189, k1_pay54, val_main_v292, val_main_v291, val_main_v289, val_main_v287, val_main_v288, val_main_v290]
  simp only [l0_eq M, l1_eq M, l2_eq M]
theorem az_eq : X.v190 (ix2 e (0 : Fin 1)) = val_main_v293 (F := Ideal) a2 a3 a4 a5 (ix2 r e) := by
  pointwise [Blk.v190, k1_pay55, val_main_v293]
  simp only [l0_eq M, l1_eq M, l2_eq M]

/-- One where the point is in view and zero elsewhere. -/
theorem mask_eq : X.v213 (ix2 e (0 : Fin 1)) = val_main_v315 (F := Ideal) a2 a3 a4 a5 (ix2 r e) := by
  have hr : k1_pay54 X.v63 X.v123 X.v126 X.v129 X.v131 X.v133 X.v135 X.v142 X.v149 X.v154 (ix2 e (0 : Fin 1)) = _ := rho_eq M e
  have ha : k1_pay55 X.v63 X.v123 X.v126 X.v131 X.v133 X.v135 X.v142 X.v149 X.v154 (ix2 e (0 : Fin 1)) = _ := az_eq M e
  pointwise [Blk.v213, Blk.v206, Blk.v207, k1_pay58, k1_pay56, k1_pay57, val_main_v315, val_main_v314, val_main_v313, val_main_v309, val_main_v305, val_main_v302, val_main_v301,
    val_main_cst_41, val_main_v304, val_main_v303, val_main_cst_42, val_main_v308, val_main_v306, val_main_v307, val_main_cst_43, val_main_v312, val_main_v310, val_main_v300,
    val_main_v298, val_main_v296, val_main_v295, val_main_v294, val_main_cst_38, val_main_v297, val_main_cst_39, val_main_v299, val_main_cst_40, val_main_v311, val_main_cst_44]
  simp only [hr, ha, l2_eq M]
  rw [min_comm (1 : EReal), max_comm (Ideal.ofBits FTy.f32 3212836864#32)]
  exact sel_eq _

/-- Where the two windows are sampled: the fractional parts along each axis. -/
theorem ax_eq : X.v233 (ix2 e (0 : Fin 1)) = val_main_v338 (F := Ideal) a2 a3 a4 a5 a7 (ix2 r e) := by
  pointwise [Blk.v233, k1_pay62, k1_pay59, k1_pay61, val_main_v338, val_main_v335, val_main_v323, val_main_v321, val_main_v319, val_main_v317, val_main_v316, val_main_cst_45,
    val_main_v318, val_main_cst_46, val_main_v320, val_main_cst_47, val_main_v322, val_main_cst_48, val_main_v334, val_main_cst_54, val_main_v337, val_main_v336]
  simp only [az_eq M, M.base]
theorem ay_eq : X.v237 (ix2 e (0 : Fin 1)) = val_main_v343 (F := Ideal) a2 a3 a4 a5 a7 (ix2 r e) := by
  pointwise [Blk.v237, k1_pay63, k1_pay60, k1_pay61, val_main_v343, val_main_v340, val_main_v329, val_main_v327, val_main_v325, val_main_v324, val_main_cst_49, val_main_v326,
    val_main_cst_50, val_main_v328, val_main_cst_51, val_main_v339, val_main_cst_55, val_main_v342, val_main_v341]
  simp only [rho_eq M, M.base]
theorem bx_eq : X.v243 (ix2 e (0 : Fin 1)) = val_main_v445 (F := Ideal) a2 a3 a4 a5 a7 (ix2 r e) := by
  pointwise [Blk.v243, k1_pay64, k1_pay59, k1_pay61, val_main_v445, val_main_v442, val_main_v440, val_main_v323, val_main_v321, val_main_v319, val_main_v317, val_main_v316,
    val_main_cst_45, val_main_v318, val_main_cst_46, val_main_v320, val_main_cst_47, val_main_v322, val_main_cst_48, val_main_v439, val_main_cst_76, val_main_v441,
    val_main_cst_77, val_main_v444, val_main_v443]
  simp only [az_eq M, M.base]
theorem by_eq : X.v249 (ix2 e (0 : Fin 1)) = val_main_v452 (F := Ideal) a2 a3 a4 a5 a7 (ix2 r e) := by
  pointwise [Blk.v249, Blk.v247, Blk.v248, k1_pay67, k1_pay65, k1_pay66, k1_pay60, k1_pay61, val_main_v452, val_main_v449, val_main_v447, val_main_v329, val_main_v327,
    val_main_v325, val_main_v324, val_main_cst_49, val_main_v326, val_main_cst_50, val_main_v328, val_main_cst_51, val_main_v446, val_main_cst_78, val_main_v448, val_main_cst_79,
    val_main_v451, val_main_v450]
  simp only [rho_eq M, M.base]

/-- The neighbourhood sampled from the first map. -/
theorem sampA_eq (i j : Fin 7) (k : Fin 64) :
    X.v285 (ix4 e i j k) = val_main_v434 (F := Ideal) a0 a2 a3 a4 a5 a6 a7 (ix5 r e i j k) := by
  pointwise [Blk.v285, k1_pay68, val_main_v434, val_main_v429, val_main_v422, val_main_v415, val_main_v408, val_main_v414, val_main_v413, val_main_v410, val_main_v409,
    val_main_cst_70, val_main_v406, val_main_v412, val_main_v411, val_main_cst_71, val_main_v407, val_main_v421, val_main_v416, val_main_v420, val_main_v419, val_main_v418,
    val_main_v417, val_main_cst_72, val_main_v428, val_main_v423, val_main_v427, val_main_v426, val_main_v425, val_main_v424, val_main_cst_73, val_main_v433, val_main_v430,
    val_main_v432, val_main_v431]
  simp only [ax_eq M, ay_eq M, M.mapA]
/-- The neighbourhood sampled from the second map. -/
theorem sampB_eq (i j : Fin 7) (k : Fin 64) :
    X.v317 (ix4 e i j k) = val_main_v543 (F := Ideal) a0 a2 a3 a4 a5 a6 a7 (ix5 r e i j k) := by
  pointwise [Blk.v317, k1_pay69, val_main_v543, val_main_v538, val_main_v531, val_main_v524, val_main_v517, val_main_v523, val_main_v522, val_main_v519, val_main_v518,
    val_main_cst_94, val_main_v515, val_main_v521, val_main_v520, val_main_cst_95, val_main_v516, val_main_v530, val_main_v525, val_main_v529, val_main_v528, val_main_v527,
    val_main_v526, val_main_cst_96, val_main_v537, val_main_v532, val_main_v536, val_main_v535, val_main_v534, val_main_v533, val_main_cst_97, val_main_v542, val_main_v539,
    val_main_v541, val_main_v540]
  simp only [bx_eq M, by_eq M, M.mapB]

end
end Cert.Stages
-- ==== Proof.Value.Sums.lean ====
/-
  A step's output rows are the plain program's result: each of the eighteen columns is the sum over a patch of the products of
  a shifted neighbourhood with the patch, times one where the point is in view and zero elsewhere.
-/
module

public import proofs.«01_k».proof.Proof.Value.Sample
@[expose] public section
set_option maxRecDepth 16384
noncomputable section
namespace Cert.Stages
open Cert.ReferenceIdeal.Read Cert.KernelIdeal Cert.KernelIdeal.Gen Cert.KernelIdeal.Edge
open Idealize.ShloMosaic Idealize.ShloMosaic.TcCoe

/-- A patch index is summed into its edge's entry. -/
theorem drop4 (h : S256x5x5x64.Reduces [1, 2, 3] S256) (i : S256x5x5x64.Idx) (e : Fin 256) :
    h.drop i = ix1 e ↔ i 0 = e := by
  have hv := h.drop_apply_val i 0
  constructor
  · intro q
    rw [q] at hv
    exact Fin.ext hv.symm
  · intro q
    funext b
    match b with
    | ⟨0, _⟩ => exact Fin.ext (hv.trans (congrArg Fin.val q))

/-- The plain program sums a patch index into its row's and edge's entry. -/
theorem drop5 (h : Cert.ReferenceIdeal.S20x256x5x5x64.ReducesTo [2, 3, 4] Cert.ReferenceIdeal.S20x256) (i : Cert.ReferenceIdeal.S20x256x5x5x64.Idx) (r : Fin 20) (e : Fin 256) :
    h.drop i = ix2 r e ↔ i 0 = r ∧ i 1 = e := by
  have hv := h.drop_apply_val i 0
  have hw := h.drop_apply_val i 1
  constructor
  · intro q
    rw [q] at hv hw
    exact ⟨Fin.ext hv.symm, Fin.ext hw.symm⟩
  · rintro ⟨q, q'⟩
    funext b
    match b with
    | ⟨0, _⟩ => exact Fin.ext (hv.trans (congrArg Fin.val q))
    | ⟨1, _⟩ => exact Fin.ext (hw.trans (congrArg Fin.val q'))

/-- The step's sum over a patch is the plain program's, when the summed arrays agree at the row. -/
theorem sum_eq (x : FVec Ideal S256x5x5x64 .f32) (y : FVec Ideal Cert.ReferenceIdeal.S20x256x5x5x64 .f32) (z : FVec Ideal Cert.ReferenceIdeal.S_ .f32) (r : Fin 20) (e : Fin 256)
    (hz : z (Shape.Idx.first Cert.ReferenceIdeal.Gen.h_S_) = 0)
    (h : ∀ a b k, x (ix4 e a b k) = y (ix5 r e a b k)) :
    Ideal.reduceAdd reduces_S256x5x5x64_S256 x (ix1 e)
      = Host.reduceAdd y z Cert.ReferenceIdeal.Gen.reducesTo_S20x256x5x5x64_S20x256_d2_3_4 Cert.ReferenceIdeal.Gen.h_S_ (ix2 r e) := by
  show _ = z (Shape.Idx.first Cert.ReferenceIdeal.Gen.h_S_) + ∑ i ∈ _, _
  rw [hz, zero_add]
  refine Finset.sum_nbij' (fun i => ix5 r (i 0) (i 1) (i 2) (i 3)) (fun i => ix4 (i 1) (i 2) (i 3) (i 4)) ?_ ?_ ?_ ?_ ?_
  · intro i hi
    rw [Finset.mem_filter, drop4] at hi
    rw [Finset.mem_filter, drop5]
    exact ⟨Finset.mem_univ _, rfl, hi.2⟩
  · intro i hi
    rw [Finset.mem_filter, drop5] at hi
    rw [Finset.mem_filter, drop4]
    exact ⟨Finset.mem_univ _, hi.2.2⟩
  · intro i _
    exact Idealize.ShloMosaic.ix4_eta i
  · intro i hi
    rw [Finset.mem_filter, drop5] at hi
    obtain ⟨_, rfl, _⟩ := hi
    exact Idealize.ShloMosaic.ix5_eta i
  · intro i hi
    rw [Finset.mem_filter, drop4] at hi
    obtain ⟨_, rfl⟩ := hi
    exact (congrArg x (Idealize.ShloMosaic.ix4_eta i)).symm.trans (h (i 1) (i 2) (i 3))

section
variable {X : Blk Ideal} {a0 : (⟨S2x4x64x256x256, .f32⟩ : BufTy).Contents (Elt Ideal)} {a1 : (⟨S2048x1600, .f32⟩ : BufTy).Contents (Elt Ideal)}
    {a2 : (⟨S2x4x256x2, .f32⟩ : BufTy).Contents (Elt Ideal)} {a3 : (⟨S2x4x256x1, .f32⟩ : BufTy).Contents (Elt Ideal)}
    {a4 : (⟨S2x4x7, .f32⟩ : BufTy).Contents (Elt Ideal)} {a5 : (⟨S20x3, .i32⟩ : BufTy).Contents (Elt Ideal)}
    {a6 : (⟨S4x20x256, .i32⟩ : BufTy).Contents (Elt Ideal)} {a7 : (⟨S20x256x4, .f32⟩ : BufTy).Contents (Elt Ideal)} {r : Fin 20}
    (M : Match X a0 a1 a2 a3 a4 a5 a6 a7 r) (e : Fin 256)
include M

/-- The step's output is the plain program's result at its row. -/
theorem out_eq (k : Fin 18) : X.out (ix3 (0 : Fin 1) e k) = val_main_v628 (F := Ideal) a0 a1 a2 a3 a4 a5 a6 a7 (ix3 r e k) := by
  fin_cases k
  all_goals
    pointwise [Blk.out, k1_pay4, Blk.v392, k1_pay3, Blk.v323, Blk.v327, Blk.v331, Blk.v335, Blk.v339, Blk.v343, Blk.v347, Blk.v351, Blk.v355, Blk.v359,
      Blk.v363, Blk.v367, Blk.v371, Blk.v375, Blk.v379, k1_pay71, k1_pay72, k1_pay73, k1_pay75, k1_pay76, k1_pay77, k1_pay78, k1_pay79, k1_pay80, k1_pay81,
      k1_pay82, k1_pay83, k1_pay84, k1_pay85, k1_pay86, val_main_v628, val_main_v627, val_main_v626, val_main_v625, val_main_v624, val_main_v623,
      val_main_v622, val_main_v621, val_main_v620, val_main_v619, val_main_v618, val_main_v617, val_main_v616, val_main_v615, val_main_v614, val_main_v613,
      val_main_v612, val_main_v611, val_main_v610, val_main_v609, val_main_v608, val_main_v607, val_main_v606, val_main_v605]
    refine congrArg₂ (fun p q : EReal => p * q) (sum_eq _ _ _ r e (by pointwise [val_main_cst_100, val_main_cst_101, val_main_cst_102, val_main_cst_103, val_main_cst_104, val_main_cst_105, val_main_cst_106, val_main_cst_107, val_main_cst_108, val_main_cst_109, val_main_cst_110, val_main_cst_111, val_main_cst_112, val_main_cst_113, val_main_cst_114, val_main_cst_115, val_main_cst_116, val_main_cst_117]) (fun a b k => ?_)) (mask_eq M e)
    pointwise [Blk.v319, Blk.v333, Blk.v381, Blk.v385, Blk.v389, k1_pay70, k1_pay74, k1_pay87, k1_pay1, k1_pay2, val_main_v551, val_main_v552, val_main_v554,
      val_main_v555, val_main_v557, val_main_v558, val_main_v560, val_main_v561, val_main_v563, val_main_v564, val_main_v566, val_main_v567, val_main_v569,
      val_main_v570, val_main_v572, val_main_v573, val_main_v575, val_main_v576, val_main_v578, val_main_v579, val_main_v581, val_main_v582, val_main_v584,
      val_main_v585, val_main_v587, val_main_v588, val_main_v590, val_main_v591, val_main_v593, val_main_v594, val_main_v596, val_main_v597, val_main_v599,
      val_main_v600, val_main_v602, val_main_v603]
    simp only [sampA_eq M, sampB_eq M, M.patch]

end
end Cert.Stages
-- ==== Proof.Value.Main.lean ====
/-
  The kernel's result is the plain program's, and both programs run to it.
-/
module

public import proofs.«01_k».proof.Proof.Value.Array
public import proofs.«01_k».proof.Proof.Value.Args
public import proofs.«01_k».proof.Proof.Value.Sums
public import proofs.«01_k».proof.Proof.Gen.ReferenceIdeal.Run
public import Idealize.ShloMosaic.Lib.Quiescent

@[expose] public section

set_option maxRecDepth 16384

noncomputable section

namespace Cert.Value

open Idealize.ShloMosaic Idealize.ShloMosaic.TcCoe Idealize.SL.Sem

section
open Cert.KernelIdeal Cert.KernelIdeal.Gen Cert.KernelIdeal.Edge Cert.KernelIdeal.Calls Cert.Tables Cert.Stages Cert.ReferenceIdeal.Read

variable (m : (ℓ : Loc nD τ sig) → Buf (Elt Ideal) ℓ) (hg : Good (tabs m)) (c : Dev nD)

theorem tab0 : m ((c.tc : Thread nD τ).loc main_arg5) = tabs m 0 := by
  rw [Subsingleton.elim c 0]; rfl
theorem tab1 : m ((c.tc : Thread nD τ).loc main_arg6) = tabs m 1 := by
  rw [Subsingleton.elim c 0]; rfl

/-- The step that writes a row reads what the plain program gathers for that row. -/
theorem step_match (r : Fin 20) : Match (stepIn (tabs m) (edgeV m) hg c (stepOf (tabs m) hg r)) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) r := by
  have hr := stepOf_spec (tabs m) hg r
  rw [tab0 m c, tab1 m c]
  exact {
    st := fun e k => (in3 (tabs m) (edgeV m) hg c _ e k).trans ((congrFun (places_eq m c) _).trans (Cert.ReferenceIdeal.Edge.st_eq hg.1 hr _ _ e k).symm)
    ps := fun k => (in4 (tabs m) (edgeV m) hg c _ k).trans ((congrFun (poses_eq m c) _).trans (Cert.ReferenceIdeal.Edge.ps_eq hg.1 hr _ k).symm)
    pt := fun k => (in5 (tabs m) (edgeV m) hg c _ k).trans ((congrFun (poses_eq m c) _).trans (Cert.ReferenceIdeal.Edge.pt_eq hg.1 hr _ k).symm)
    base := fun e k => (in6 (tabs m) (edgeV m) hg c _ e k).trans ((congrFun (edgeV_arg m c main_arg7 (by decide)) _).trans (Cert.ReferenceIdeal.Edge.base_eq hg.1 hr _ e k).symm)
    patch := fun e i j k => (in7 (tabs m) (edgeV m) hg c _ e i j k).trans ((congrFun (patches_eq m c) _).trans (Cert.ReferenceIdeal.Edge.patch_eq hg.1 hr _ e i j k).symm)
    mapA := fun e i j k => (inA (tabs m) (edgeV m) hg c _ e i j k).trans ((fine_at m c _ _ _ _).trans (Cert.ReferenceIdeal.Edge.mapA_eq hg.1 hr hg.2 _ e i j k).symm)
    mapB := fun e i j k => (inB (tabs m) (edgeV m) hg c _ e i j k).trans ((coarse_at m c _ _ _ _).trans (Cert.ReferenceIdeal.Edge.mapB_eq hg.1 hr hg.2 _ e i j k).symm) }

/-- The array the edge call leaves is the plain program's result of the arguments. -/
theorem out_array : edged m hg c = val_main_v628 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) := by
  refine (arr_eq (tabs m) (edgeV m) hg c).trans ?_
  refine funext fun (y : S20x256x18.Idx) => ?_
  refine (out_eq (step_match m hg c (y 0)) (y 1) (y 2)).trans ?_
  exact congrArg (val_main_v628 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))) (Idealize.ShloMosaic.ix3_eta y)

include hg in
/-- The kernel ends with the plain program's result and its arguments as they were. -/
theorem run_kernel (ρ : Dev nD → PrngReg) : θ_run defs (onTc (τ := τ) (main (F := Ideal))) ⟨m, fun _ => 0, ρ⟩ (fun r => ∀ c : Dev nD,
      r.2.mem ((c.tc : Thread nD τ).loc main_v11) = val_main_v628 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h.1 c).1.trans (out_array m hg c), (h.1 c).2⟩) (run m ρ hg)

end

section
open Cert.ReferenceIdeal Cert.ReferenceIdeal.Gen Cert.ReferenceIdeal.Read

variable (m : (ℓ : Loc nD τ sig) → Buf (Elt Ideal) ℓ) (ρ : Dev nD → PrngReg)

/-- The plain program ends with its arguments as they were and every counter at zero. -/
theorem frame_reference : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => (h c).2, sem_eq_zero_of_no_sems rfl r.2⟩) (Cert.ReferenceIdeal.Value.run m ρ)

set_option maxHeartbeats 2000000 in
/-- The plain program's result, read stage by stage. -/
theorem run_reference : θ_run defs (onTc (τ := τ) (main (F := Ideal))) ⟨m, fun _ => 0, ρ⟩ (fun r => ∀ c : Dev nD,
      r.2.mem ((c.tc : Thread nD τ).loc main_v628) = val_main_v628 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (val_main_v628_eq (F := Ideal) (StableHlo.launchContents m c)), (h c).2⟩) (Cert.ReferenceIdeal.Value.run m ρ)

end

end Cert.Value

end
-- ==== Proof.lean ====
module

public import proofs.«01_k».proof.Defs
public import proofs.«01_k».proof.Proof.Calls
public import proofs.«01_k».proof.Proof.Ideal.Calls
public import proofs.«01_k».proof.Proof.Value.Main
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Regions
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Regions
public import proofs.«01_k».proof.Proof.Gen.Pre_tables_in_range
public import proofs.«01_k».proof.Proof.Gen.ReferenceIdeal
public import proofs.«01_k».proof.Proof.Gen.ReferenceIdeal.Run
public import proofs.«01_k».proof.Proof.Gen.ReferenceIdeal.Read

@[expose] public section

set_option maxRecDepth 16384

namespace Cert.Proof

open Idealize.ShloMosaic Idealize.ShloMosaic.TcCoe Idealize.SL.Sem

/-- From memories that agree on the arguments, the kernel and the plain program end with the same result. -/
theorem algebraic : Cert.algebraic_KernelIdeal_ReferenceIdeal (hKernelIdeal := Cert.KernelIdeal.Gen.facts)
    (hReferenceIdeal := Cert.ReferenceIdeal.Gen.facts) (hPre_tables_in_range := Cert.Pre_tables_in_range.Gen.facts) := by
  intro m g m' g' hp ha
  refine ⟨_, Cert.Value.run_kernel m (Cert.Tables.decode (hp 0)) g, ?_⟩
  refine (θ_run _ _ _).mono (fun r h c => ⟨(h c).1.trans ?_, (h c).2⟩) (Cert.Value.run_reference m' g')
  obtain ⟨h0, h1, h2, h3, h4, h5, h6, h7⟩ := ha c
  rw [h0, h1, h2, h3, h4, h5, h6, h7]

theorem claim : Cert.Claim :=
  ⟨Cert.Kernel.Gen.facts, Cert.KernelIdeal.Gen.facts, Cert.ReferenceIdeal.Gen.facts, Cert.Pre_tables_in_range.Gen.facts,
    fun m g h => (θ_run _ _ _).mono (fun _ r => ⟨fun c => (r.1 c).2, r.2⟩) (Cert.Kernel.Calls.run m g (Cert.Tables.decode (h 0))),
    fun m g h => (θ_run _ _ _).mono (fun _ r => ⟨fun c => (r.1 c).2, r.2⟩) (Cert.KernelIdeal.Calls.run m g (Cert.Tables.decode (h 0))),
    fun m g _ => Cert.Value.frame_reference m g,
    trivial, algebraic⟩

end Cert.Proof
